-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_xyz_finite [hPre_xyz_finite : Cert.Pre_xyz_finite.Facts] (m : (ℓ : Loc Cert.KernelIdeal.nD Cert.KernelIdeal.τ Cert.KernelIdeal.sig) → Buf (Elt Ideal) ℓ) : Prop :=
  ∀ c : Dev Cert.KernelIdeal.nD,
    (Cert.Pre_xyz_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_xyz_finite [hPre_xyz_finite : Cert.Pre_xyz_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_xyz_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_xyz_finite [hKernelIdeal : Cert.KernelIdeal.Facts] [hPre_xyz_finite : Cert.Pre_xyz_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_xyz_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_xyz_finite [hReferenceIdeal : Cert.ReferenceIdeal.Facts] [hPre_xyz_finite : Cert.Pre_xyz_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_xyz_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_xyz_finite [hKernelIdeal : Cert.KernelIdeal.Facts] [hReferenceIdeal : Cert.ReferenceIdeal.Facts] [hPre_xyz_finite : Cert.Pre_xyz_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_xyz_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_xyz_finite : Cert.Pre_xyz_finite.Facts),
    quiescent_Kernel (hKernel := hKernel)
    ∧ quiescent_KernelIdeal (hKernelIdeal := hKernelIdeal)
    ∧ quiescent_KernelIdeal_pre_xyz_finite (hKernelIdeal := hKernelIdeal) (hPre_xyz_finite := hPre_xyz_finite)
    ∧ quiescent_ReferenceIdeal (hReferenceIdeal := hReferenceIdeal)
    ∧ quiescent_ReferenceIdeal_pre_xyz_finite (hReferenceIdeal := hReferenceIdeal) (hPre_xyz_finite := hPre_xyz_finite)
    ∧ preserves_Kernel_KernelIdeal
    ∧ algebraic_KernelIdeal_ReferenceIdeal_pre_xyz_finite (hKernelIdeal := hKernelIdeal) (hReferenceIdeal := hReferenceIdeal) (hPre_xyz_finite := hPre_xyz_finite)
-- ==== Pre_xyz_finite.lean ====
abbrev S2048x384 : Shape := ⟨2, ![2048, 384]⟩
abbrev S2048x3 : Shape := ⟨2, ![2048, 3]⟩
abbrev S2048 : Shape := ⟨1, ![2048]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S79x3x2x64 : Shape := ⟨4, ![79, 3, 2, 64]⟩
abbrev S_ : Shape := ⟨0, ![]⟩

class Facts : Prop where
  bcast_S_S2048x3 : S_.BroadcastsInDim S2048x3 (![] : Fin 0 → Fin S2048x3.rank)

variable [Facts]

def fn {F : FTy → Type} [FloatOps F] (main_arg0 : FVec F S2048x384 .f32) (main_arg1 : FVec F S2048x3 .f32) (main_arg2 : IVec S2048 32) (main_arg3 : FVec F S1152x384 .f32) (main_arg4 : FVec F S1152 .f32) (main_arg5 : FVec F S384x384 .f32) (main_arg6 : FVec F S384 .f32) (main_arg7 : FVec F S79x3x2x64 .f32) (main_arg8 : FVec F S79x3x2x64 .f32) (main_arg9 : FVec F S79x3x2x64 .f32) : IVec S2048x3 1 :=
  let main_v0 : FVec F S2048x3 .f32 := Host.absf main_arg1
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  main_v2
-- ==== Kernel.lean ====
abbrev S2048x384 : Shape := ⟨2, ![2048, 384]⟩
abbrev S2048x3 : Shape := ⟨2, ![2048, 3]⟩
abbrev S2048 : Shape := ⟨1, ![2048]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S79x3x2x64 : Shape := ⟨4, ![79, 3, 2, 64]⟩
abbrev S3 : Shape := ⟨1, ![3]⟩
abbrev S_ : Shape := ⟨0, ![]⟩
abbrev S1x3 : Shape := ⟨2, ![1, 3]⟩
abbrev S2048x1 : Shape := ⟨2, ![2048, 1]⟩
abbrev S2x3x79x64 : Shape := ⟨4, ![2, 3, 79, 64]⟩
abbrev S1x1152 : Shape := ⟨2, ![1, 1152]⟩
abbrev S6x2048x430 : Shape := ⟨3, ![6, 2048, 430]⟩
abbrev S6x2048x247 : Shape := ⟨3, ![6, 2048, 247]⟩
abbrev S3x2048x1 : Shape := ⟨3, ![3, 2048, 1]⟩
abbrev S256x384 : Shape := ⟨2, ![256, 384]⟩
abbrev S256x3 : Shape := ⟨2, ![256, 3]⟩
abbrev S256x1 : Shape := ⟨2, ![256, 1]⟩
abbrev S6x256x430 : Shape := ⟨3, ![6, 256, 430]⟩
abbrev S6x256x247 : Shape := ⟨3, ![6, 256, 247]⟩
abbrev S3x256x1 : Shape := ⟨3, ![3, 256, 1]⟩
abbrev S256x1152 : Shape := ⟨2, ![256, 1152]⟩
abbrev S1x256x1 : Shape := ⟨3, ![1, 256, 1]⟩
abbrev S256x41 : Shape := ⟨2, ![256, 41]⟩
abbrev S256x101 : Shape := ⟨2, ![256, 101]⟩
abbrev S256x64 : Shape := ⟨2, ![256, 64]⟩
abbrev S1x1x79x64 : Shape := ⟨4, ![1, 1, 79, 64]⟩
abbrev S79x64 : Shape := ⟨2, ![79, 64]⟩
abbrev S256x79 : Shape := ⟨2, ![256, 79]⟩
abbrev S256x48 : Shape := ⟨2, ![256, 48]⟩
abbrev S256x128 : Shape := ⟨2, ![256, 128]⟩
abbrev S1x256x128 : Shape := ⟨3, ![1, 256, 128]⟩
abbrev S8x256x128 : Shape := ⟨3, ![8, 256, 128]⟩
abbrev S8x256x1 : Shape := ⟨3, ![8, 256, 1]⟩
abbrev S1x256x41 : Shape := ⟨3, ![1, 256, 41]⟩
abbrev S256x61 : Shape := ⟨2, ![256, 61]⟩
abbrev S256x116 : Shape := ⟨2, ![256, 116]⟩
abbrev S256x256 : Shape := ⟨2, ![256, 256]⟩
abbrev S1x256x256 : Shape := ⟨3, ![1, 256, 256]⟩
abbrev S4x256x256 : Shape := ⟨3, ![4, 256, 256]⟩
abbrev S4x256x1 : Shape := ⟨3, ![4, 256, 1]⟩
abbrev S1x256x101 : Shape := ⟨3, ![1, 256, 101]⟩
abbrev S256x430 : Shape := ⟨2, ![256, 430]⟩
abbrev S1x256x430 : Shape := ⟨3, ![1, 256, 430]⟩
abbrev S256x247 : Shape := ⟨2, ![256, 247]⟩
abbrev S1x256x247 : Shape := ⟨3, ![1, 256, 247]⟩
abbrev S1x2048 : Shape := ⟨2, ![1, 2048]⟩
abbrev S1x1x2048 : Shape := ⟨3, ![1, 1, 2048]⟩
abbrev S3x1x2048 : Shape := ⟨3, ![3, 1, 2048]⟩
abbrev S1x2048x430 : Shape := ⟨3, ![1, 2048, 430]⟩
abbrev S1x2048x247 : Shape := ⟨3, ![1, 2048, 247]⟩
abbrev S2048x430 : Shape := ⟨2, ![2048, 430]⟩
abbrev S256x2048 : Shape := ⟨2, ![256, 2048]⟩
abbrev S256 : Shape := ⟨1, ![256]⟩
abbrev S2048x247 : Shape := ⟨2, ![2048, 247]⟩
abbrev S3x79x2x64 : Shape := ⟨4, ![3, 79, 2, 64]⟩
abbrev S237x2x64 : Shape := ⟨3, ![237, 2, 64]⟩
abbrev S237x1x64 : Shape := ⟨3, ![237, 1, 64]⟩
abbrev S237x64 : Shape := ⟨2, ![237, 64]⟩
abbrev S1x237x64 : Shape := ⟨3, ![1, 237, 64]⟩
abbrev S6x237x64 : Shape := ⟨3, ![6, 237, 64]⟩
abbrev S1x384 : Shape := ⟨2, ![1, 384]⟩
abbrev S2x256x41 : Shape := ⟨3, ![2, 256, 41]⟩
abbrev S2x256x39 : Shape := ⟨3, ![2, 256, 39]⟩
abbrev S2x256x48 : Shape := ⟨3, ![2, 256, 48]⟩
abbrev S2x256x128 : Shape := ⟨3, ![2, 256, 128]⟩
abbrev S2x256x1 : Shape := ⟨3, ![2, 256, 1]⟩
abbrev S4x256x128 : Shape := ⟨3, ![4, 256, 128]⟩
abbrev S2x256x79 : Shape := ⟨3, ![2, 256, 79]⟩
abbrev S2x256 : Shape := ⟨2, ![2, 256]⟩
abbrev S2x256x77 : Shape := ⟨3, ![2, 256, 77]⟩
abbrev S2x256x101 : Shape := ⟨3, ![2, 256, 101]⟩
abbrev S2x256x116 : Shape := ⟨3, ![2, 256, 116]⟩
abbrev S2x256x256 : Shape := ⟨3, ![2, 256, 256]⟩
abbrev S2x256x237 : Shape := ⟨3, ![2, 256, 237]⟩
abbrev S1x256x237 : Shape := ⟨3, ![1, 256, 237]⟩
abbrev S256x237 : Shape := ⟨2, ![256, 237]⟩
abbrev S1x256x64 : Shape := ⟨3, ![1, 256, 64]⟩

abbrev nBuf : Space → Nat
  | .hbm => 127
  | .vmem => 41
  | .smem => 0
  | _ => 0

abbrev bufTy : (tb : Table) → Fin (tcTables nBuf tb) → BufTy
  | .hbm, ⟨0, _⟩ => ⟨S2048x384, .f32⟩
  | .hbm, ⟨1, _⟩ => ⟨S2048x3, .f32⟩
  | .hbm, ⟨2, _⟩ => ⟨S2048, .i32⟩
  | .hbm, ⟨3, _⟩ => ⟨S1152x384, .f32⟩
  | .hbm, ⟨4, _⟩ => ⟨S1152, .f32⟩
  | .hbm, ⟨5, _⟩ => ⟨S384x384, .f32⟩
  | .hbm, ⟨6, _⟩ => ⟨S384, .f32⟩
  | .hbm, ⟨7, _⟩ => ⟨S79x3x2x64, .f32⟩
  | .hbm, ⟨8, _⟩ => ⟨S79x3x2x64, .f32⟩
  | .hbm, ⟨9, _⟩ => ⟨S79x3x2x64, .f32⟩
  | .hbm, ⟨10, _⟩ => ⟨S3, .f32⟩
  | .hbm, ⟨11, _⟩ => ⟨S3, .f32⟩
  | .hbm, ⟨12, _⟩ => ⟨S3, .f32⟩
  | .hbm, ⟨13, _⟩ => ⟨S_, .f32⟩
  | .hbm, ⟨14, _⟩ => ⟨S3, .f32⟩
  | .hbm, ⟨15, _⟩ => ⟨S1x3, .f32⟩
  | .hbm, ⟨16, _⟩ => ⟨S2048x3, .f32⟩
  | .hbm, ⟨17, _⟩ => ⟨S2048x3, .f32⟩
  | .hbm, ⟨18, _⟩ => ⟨S2048x1, .i32⟩
  | .hbm, ⟨19, _⟩ => ⟨S2x3x79x64, .f32⟩
  | .hbm, ⟨20, _⟩ => ⟨S2x3x79x64, .f32⟩
  | .hbm, ⟨21, _⟩ => ⟨S1x1152, .f32⟩
  | .hbm, ⟨22, _⟩ => ⟨S6x2048x430, .f32⟩
  | .hbm, ⟨23, _⟩ => ⟨S6x2048x430, .f32⟩
  | .hbm, ⟨24, _⟩ => ⟨S6x2048x247, .f32⟩
  | .hbm, ⟨25, _⟩ => ⟨S3x2048x1, .i32⟩
  | .hbm, ⟨26, _⟩ => ⟨S1x3, .f32⟩
  | .hbm, ⟨27, _⟩ => ⟨S2048x3, .f32⟩
  | .hbm, ⟨28, _⟩ => ⟨S2048x3, .f32⟩
  | .hbm, ⟨29, _⟩ => ⟨S2048x3, .f32⟩
  | .hbm, ⟨30, _⟩ => ⟨S2048x3, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048x1, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S2048, .i32⟩
  | .hbm, ⟨48, _⟩ => ⟨S2048, .i32⟩
  | .hbm, ⟨49, _⟩ => ⟨S1x2048, .i32⟩
  | .hbm, ⟨50, _⟩ => ⟨S1x3, .f32⟩
  | .hbm, ⟨51, _⟩ => ⟨S2048x3, .f32⟩
  | .hbm, ⟨52, _⟩ => ⟨S2048x3, .f32⟩
  | .hbm, ⟨53, _⟩ => ⟨S2048x3, .f32⟩
  | .hbm, ⟨54, _⟩ => ⟨S2048x3, .i32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S2048, .i32⟩
  | .hbm, ⟨60, _⟩ => ⟨S2048, .i32⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2048, .i32⟩
  | .hbm, ⟨72, _⟩ => ⟨S2048, .i32⟩
  | .hbm, ⟨73, _⟩ => ⟨S1x2048, .i32⟩
  | .hbm, ⟨74, _⟩ => ⟨S1x3, .f32⟩
  | .hbm, ⟨75, _⟩ => ⟨S2048x3, .f32⟩
  | .hbm, ⟨76, _⟩ => ⟨S2048x3, .f32⟩
  | .hbm, ⟨77, _⟩ => ⟨S2048x3, .f32⟩
  | .hbm, ⟨78, _⟩ => ⟨S2048x3, .i32⟩
  | .hbm, ⟨79, _⟩ => ⟨S_, .i32⟩
  | .hbm, ⟨80, _⟩ => ⟨S2048, .i32⟩
  | .hbm, ⟨81, _⟩ => ⟨S2048, .i32⟩
  | .hbm, ⟨82, _⟩ => ⟨S2048x1, .i32⟩
  | .hbm, ⟨83, _⟩ => ⟨S2048, .i32⟩
  | .hbm, ⟨84, _⟩ => ⟨S2048, .i32⟩
  | .hbm, ⟨85, _⟩ => ⟨S_, .i32⟩
  | .hbm, ⟨86, _⟩ => ⟨S2048, .i32⟩
  | .hbm, ⟨87, _⟩ => ⟨S2048, .i32⟩
  | .hbm, ⟨88, _⟩ => ⟨S2048x1, .i32⟩
  | .hbm, ⟨89, _⟩ => ⟨S2048, .i32⟩
  | .hbm, ⟨90, _⟩ => ⟨S2048, .i32⟩
  | .hbm, ⟨91, _⟩ => ⟨S_, .i32⟩
  | .hbm, ⟨92, _⟩ => ⟨S2048, .i32⟩
  | .hbm, ⟨93, _⟩ => ⟨S2048, .i32⟩
  | .hbm, ⟨94, _⟩ => ⟨S2048x1, .i32⟩
  | .hbm, ⟨95, _⟩ => ⟨S2048, .i32⟩
  | .hbm, ⟨96, _⟩ => ⟨S2048, .i32⟩
  | .hbm, ⟨97, _⟩ => ⟨S1x2048, .i32⟩
  | .hbm, ⟨98, _⟩ => ⟨S1x1x2048, .i32⟩
  | .hbm, ⟨99, _⟩ => ⟨S1x1x2048, .i32⟩
  | .hbm, ⟨100, _⟩ => ⟨S1x1x2048, .i32⟩
  | .hbm, ⟨101, _⟩ => ⟨S3x1x2048, .i32⟩
  | .hbm, ⟨102, _⟩ => ⟨S6x2048x247, .f32⟩
  | .hbm, ⟨103, _⟩ => ⟨S79x3x2x64, .f32⟩
  | .hbm, ⟨104, _⟩ => ⟨S3x79x2x64, .f32⟩
  | .hbm, ⟨105, _⟩ => ⟨S237x2x64, .f32⟩
  | .hbm, ⟨106, _⟩ => ⟨S237x1x64, .f32⟩
  | .hbm, ⟨107, _⟩ => ⟨S237x64, .f32⟩
  | .hbm, ⟨108, _⟩ => ⟨S237x1x64, .f32⟩
  | .hbm, ⟨109, _⟩ => ⟨S237x64, .f32⟩
  | .hbm, ⟨110, _⟩ => ⟨S237x1x64, .f32⟩
  | .hbm, ⟨111, _⟩ => ⟨S237x64, .f32⟩
  | .hbm, ⟨112, _⟩ => ⟨S237x1x64, .f32⟩
  | .hbm, ⟨113, _⟩ => ⟨S237x64, .f32⟩
  | .hbm, ⟨114, _⟩ => ⟨S237x1x64, .f32⟩
  | .hbm, ⟨115, _⟩ => ⟨S237x64, .f32⟩
  | .hbm, ⟨116, _⟩ => ⟨S237x1x64, .f32⟩
  | .hbm, ⟨117, _⟩ => ⟨S237x64, .f32⟩
  | .hbm, ⟨118, _⟩ => ⟨S1x237x64, .f32⟩
  | .hbm, ⟨119, _⟩ => ⟨S1x237x64, .f32⟩
  | .hbm, ⟨120, _⟩ => ⟨S1x237x64, .f32⟩
  | .hbm, ⟨121, _⟩ => ⟨S1x237x64, .f32⟩
  | .hbm, ⟨122, _⟩ => ⟨S1x237x64, .f32⟩
  | .hbm, ⟨123, _⟩ => ⟨S1x237x64, .f32⟩
  | .hbm, ⟨124, _⟩ => ⟨S6x237x64, .f32⟩
  | .hbm, ⟨125, _⟩ => ⟨S1x384, .f32⟩
  | .hbm, ⟨126, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S1152x384, .f32⟩
  | .local _ .vmem, ⟨3, _⟩ => ⟨S1x1152, .f32⟩
  | .local _ .vmem, ⟨4, _⟩ => ⟨S2x3x79x64, .f32⟩
  | .local _ .vmem, ⟨5, _⟩ => ⟨S2x3x79x64, .f32⟩
  | .local _ .vmem, ⟨6, _⟩ => ⟨S256x3, .f32⟩
  | .local _ .vmem, ⟨7, _⟩ => ⟨S256x3, .f32⟩
  | .local _ .vmem, ⟨8, _⟩ => ⟨S256x1, .i32⟩
  | .local _ .vmem, ⟨9, _⟩ => ⟨S256x1, .i32⟩
  | .local _ .vmem, ⟨10, _⟩ => ⟨S6x256x430, .f32⟩
  | .local _ .vmem, ⟨11, _⟩ => ⟨S6x256x430, .f32⟩
  | .local _ .vmem, ⟨12, _⟩ => ⟨S6x256x430, .f32⟩
  | .local _ .vmem, ⟨13, _⟩ => ⟨S6x256x430, .f32⟩
  | .local _ .vmem, ⟨14, _⟩ => ⟨S6x256x247, .f32⟩
  | .local _ .vmem, ⟨15, _⟩ => ⟨S6x256x247, .f32⟩
  | .local _ .vmem, ⟨16, _⟩ => ⟨S3x256x1, .i32⟩
  | .local _ .vmem, ⟨17, _⟩ => ⟨S3x256x1, .i32⟩
  | .local _ .vmem, ⟨18, _⟩ => ⟨S1x256x1, .i32⟩
  | .local _ .vmem, ⟨19, _⟩ => ⟨S1x256x1, .i32⟩
  | .local _ .vmem, ⟨20, _⟩ => ⟨S1x1x2048, .i32⟩
  | .local _ .vmem, ⟨21, _⟩ => ⟨S1x1x2048, .i32⟩
  | .local _ .vmem, ⟨22, _⟩ => ⟨S1x256x430, .f32⟩
  | .local _ .vmem, ⟨23, _⟩ => ⟨S1x256x430, .f32⟩
  | .local _ .vmem, ⟨24, _⟩ => ⟨S1x2048x430, .f32⟩
  | .local _ .vmem, ⟨25, _⟩ => ⟨S1x2048x430, .f32⟩
  | .local _ .vmem, ⟨26, _⟩ => ⟨S1x2048x247, .f32⟩
  | .local _ .vmem, ⟨27, _⟩ => ⟨S1x2048x247, .f32⟩
  | .local _ .vmem, ⟨28, _⟩ => ⟨S1x256x247, .f32⟩
  | .local _ .vmem, ⟨29, _⟩ => ⟨S1x256x247, .f32⟩
  | .local _ .vmem, ⟨30, _⟩ => ⟨S6x256x247, .f32⟩
  | .local _ .vmem, ⟨31, _⟩ => ⟨S6x256x247, .f32⟩
  | .local _ .vmem, ⟨32, _⟩ => ⟨S256x3, .f32⟩
  | .local _ .vmem, ⟨33, _⟩ => ⟨S256x3, .f32⟩
  | .local _ .vmem, ⟨34, _⟩ => ⟨S256x1, .i32⟩
  | .local _ .vmem, ⟨35, _⟩ => ⟨S256x1, .i32⟩
  | .local _ .vmem, ⟨36, _⟩ => ⟨S6x237x64, .f32⟩
  | .local _ .vmem, ⟨37, _⟩ => ⟨S384x384, .f32⟩
  | .local _ .vmem, ⟨38, _⟩ => ⟨S1x384, .f32⟩
  | .local _ .vmem, ⟨39, _⟩ => ⟨S256x384, .f32⟩
  | .local _ .vmem, ⟨40, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x3x79x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x3x79x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x256x430 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x256x430 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x256x247 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![6, 8], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x430 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x430 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x247 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x247 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6x256x247 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S6x237x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S384x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S2048x384 : Shape := ⟨2, ![2048, 384]⟩
abbrev S2048x3 : Shape := ⟨2, ![2048, 3]⟩
abbrev S2048 : Shape := ⟨1, ![2048]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S79x3x2x64 : Shape := ⟨4, ![79, 3, 2, 64]⟩
abbrev S384x1152 : Shape := ⟨2, ![384, 1152]⟩
abbrev S2048x1152 : Shape := ⟨2, ![2048, 1152]⟩
abbrev S1x1152 : Shape := ⟨2, ![1, 1152]⟩
abbrev S2048x3x3x2x64 : Shape := ⟨5, ![2048, 3, 3, 2, 64]⟩
abbrev S2048x1x3x2x64 : Shape := ⟨5, ![2048, 1, 3, 2, 64]⟩
abbrev S2048x3x2x64 : Shape := ⟨4, ![2048, 3, 2, 64]⟩
abbrev S_ : Shape := ⟨0, ![]⟩
abbrev S3 : Shape := ⟨1, ![3]⟩
abbrev S3x1x1 : Shape := ⟨3, ![3, 1, 1]⟩
abbrev S1x1x3 : Shape := ⟨3, ![1, 1, 3]⟩
abbrev S3x1x3 : Shape := ⟨3, ![3, 1, 3]⟩
abbrev S1x3 : Shape := ⟨2, ![1, 3]⟩
abbrev S1x2048x3 : Shape := ⟨3, ![1, 2048, 3]⟩
abbrev S3x2048x3 : Shape := ⟨3, ![3, 2048, 3]⟩
abbrev S3x2048x1 : Shape := ⟨3, ![3, 2048, 1]⟩
abbrev S3x2048 : Shape := ⟨2, ![3, 2048]⟩
abbrev S1x2048 : Shape := ⟨2, ![1, 2048]⟩
abbrev S3x1x2048 : Shape := ⟨3, ![3, 1, 2048]⟩
abbrev S3x2048x2048 : Shape := ⟨3, ![3, 2048, 2048]⟩
abbrev S3x2048x1x3 : Shape := ⟨4, ![3, 2048, 1, 3]⟩
abbrev S3x1x2048x3 : Shape := ⟨4, ![3, 1, 2048, 3]⟩
abbrev S3x2048x2048x3 : Shape := ⟨4, ![3, 2048, 2048, 3]⟩
abbrev S3x2x2048x2048 : Shape := ⟨4, ![3, 2, 2048, 2048]⟩
abbrev S3x2048x2048x2 : Shape := ⟨4, ![3, 2048, 2048, 2]⟩
abbrev S2x79x3x2048x3 : Shape := ⟨5, ![2, 79, 3, 2048, 3]⟩
abbrev S3x2048x79x3x2 : Shape := ⟨5, ![3, 2048, 79, 3, 2]⟩
abbrev S3x2048x2048x3x1 : Shape := ⟨5, ![3, 2048, 2048, 3, 1]⟩
abbrev S3x2048x2048x3x2 : Shape := ⟨5, ![3, 2048, 2048, 3, 2]⟩
abbrev S3x2048x2048x1 : Shape := ⟨4, ![3, 2048, 2048, 1]⟩
abbrev S3x2048x2 : Shape := ⟨3, ![3, 2048, 2]⟩
abbrev S3x2048x1x2 : Shape := ⟨4, ![3, 2048, 1, 2]⟩
abbrev S3x2x64x2048 : Shape := ⟨4, ![3, 2, 64, 2048]⟩
abbrev S2048x1x1 : Shape := ⟨3, ![2048, 1, 1]⟩
abbrev S3x2048x3x79x2 : Shape := ⟨5, ![3, 2048, 3, 79, 2]⟩
abbrev S3x1x1x1 : Shape := ⟨4, ![3, 1, 1, 1]⟩
abbrev S3x2048x2048x1x2 : Shape := ⟨5, ![3, 2048, 2048, 1, 2]⟩
abbrev S3x2048x2048x3x4 : Shape := ⟨5, ![3, 2048, 2048, 3, 4]⟩
abbrev S3x2x64x3x2048 : Shape := ⟨5, ![3, 2, 64, 3, 2048]⟩
abbrev S3x2048x3x2x64 : Shape := ⟨5, ![3, 2048, 3, 2, 64]⟩
abbrev S1x384 : Shape := ⟨2, ![1, 384]⟩

abbrev nBuf : Space → Nat
  | .hbm => 225
  | .vmem => 0
  | .smem => 0
  | _ => 0

abbrev hbmTy0_0 (i : Nat) : BufTy := match i % 128 with
  | 0 => ⟨S2048x384, .f32⟩
  | 1 => ⟨S2048x3, .f32⟩
  | 2 => ⟨S2048, .i32⟩
  | 3 => ⟨S1152x384, .f32⟩
  | 4 => ⟨S1152, .f32⟩
  | 5 => ⟨S384x384, .f32⟩
  | 6 => ⟨S384, .f32⟩
  | 7 => ⟨S79x3x2x64, .f32⟩
  | 8 => ⟨S79x3x2x64, .f32⟩
  | 9 => ⟨S79x3x2x64, .f32⟩
  | 10 => ⟨S384x1152, .f32⟩
  | 11 => ⟨S2048x1152, .f32⟩
  | 12 => ⟨S1x1152, .f32⟩
  | 13 => ⟨S2048x1152, .f32⟩
  | 14 => ⟨S2048x1152, .f32⟩
  | 15 => ⟨S2048x3x3x2x64, .f32⟩
  | 16 => ⟨S2048x1x3x2x64, .f32⟩
  | 17 => ⟨S2048x3x2x64, .f32⟩
  | 18 => ⟨S_, .f32⟩
  | 19 => ⟨S2048x3x2x64, .f32⟩
  | 20 => ⟨S2048x3x2x64, .f32⟩
  | 21 => ⟨S2048x1x3x2x64, .f32⟩
  | 22 => ⟨S2048x3x2x64, .f32⟩
  | 23 => ⟨S2048x1x3x2x64, .f32⟩
  | 24 => ⟨S2048x3x2x64, .f32⟩
  | 25 => ⟨S3, .i32⟩
  | 26 => ⟨S3x1x1, .i32⟩
  | 27 => ⟨S3, .i32⟩
  | 28 => ⟨S1x1x3, .i32⟩
  | 29 => ⟨S3x1x3, .i32⟩
  | 30 => ⟨S3x1x3, .i32⟩
  | 31 => ⟨S3x1x3, .i32⟩
  | 32 => ⟨S_, .i32⟩
  | 33 => ⟨S3x1x3, .i32⟩
  | 34 => ⟨S3x1x3, .i1⟩
  | 35 => ⟨S_, .f32⟩
  | 36 => ⟨S_, .f32⟩
  | 37 => ⟨S3x1x3, .f32⟩
  | 38 => ⟨S3x1x3, .f32⟩
  | 39 => ⟨S3x1x3, .f32⟩
  | 40 => ⟨S_, .f32⟩
  | 41 => ⟨S3, .f32⟩
  | 42 => ⟨S1x3, .f32⟩
  | 43 => ⟨S2048x3, .f32⟩
  | 44 => ⟨S2048x3, .f32⟩
  | 45 => ⟨S1x2048x3, .f32⟩
  | 46 => ⟨S3x2048x3, .f32⟩
  | 47 => ⟨S3x2048x3, .f32⟩
  | 48 => ⟨S3x2048x3, .f32⟩
  | 49 => ⟨S3x2048x3, .f32⟩
  | 50 => ⟨S3x2048x3, .i32⟩
  | 51 => ⟨S_, .i32⟩
  | 52 => ⟨S2048, .i32⟩
  | 53 => ⟨S2048, .i32⟩
  | 54 => ⟨S3x2048x1, .i32⟩
  | 55 => ⟨S3x2048, .i32⟩
  | 56 => ⟨S1x2048, .i32⟩
  | 57 => ⟨S3x2048, .i32⟩
  | 58 => ⟨S3x2048, .i32⟩
  | 59 => ⟨S_, .i32⟩
  | 60 => ⟨S3x2048, .i32⟩
  | 61 => ⟨S3x2048, .i32⟩
  | 62 => ⟨S3x2048x1, .i32⟩
  | 63 => ⟨S3x2048, .i32⟩
  | 64 => ⟨S3x2048, .i32⟩
  | 65 => ⟨S_, .i32⟩
  | 66 => ⟨S3x2048, .i32⟩
  | 67 => ⟨S3x2048, .i32⟩
  | 68 => ⟨S3x2048x1, .i32⟩
  | 69 => ⟨S3x2048, .i32⟩
  | 70 => ⟨S3x2048, .i32⟩
  | 71 => ⟨S3x2048x1, .i32⟩
  | 72 => ⟨S3x1x2048, .i32⟩
  | 73 => ⟨S3x2048x2048, .i32⟩
  | 74 => ⟨S3x2048x2048, .i32⟩
  | 75 => ⟨S3x2048x2048, .i1⟩
  | 76 => ⟨S1x2048x3, .f32⟩
  | 77 => ⟨S3x2048x3, .f32⟩
  | 78 => ⟨S3x2048x3, .f32⟩
  | 79 => ⟨S3x2048x3, .f32⟩
  | 80 => ⟨S_, .f32⟩
  | 81 => ⟨S3x2048x3, .f32⟩
  | 82 => ⟨S3x2048x3, .i1⟩
  | 83 => ⟨S_, .f32⟩
  | 84 => ⟨S3x2048x3, .f32⟩
  | 85 => ⟨S3x2048x3, .i1⟩
  | 86 => ⟨S_, .f32⟩
  | 87 => ⟨S3x1x3, .f32⟩
  | 88 => ⟨S3x1x3, .i1⟩
  | 89 => ⟨S3x2048x3, .i1⟩
  | 90 => ⟨S3x2048x3, .i1⟩
  | 91 => ⟨S3x2048x3, .i1⟩
  | 92 => ⟨S3x2048x3, .f32⟩
  | 93 => ⟨S3x2048x3, .f32⟩
  | 94 => ⟨S3x2048x3, .f32⟩
  | 95 => ⟨S_, .f32⟩
  | 96 => ⟨S3x2048x3, .f32⟩
  | 97 => ⟨S3x2048x3, .f32⟩
  | 98 => ⟨S3x2048x3, .f32⟩
  | 99 => ⟨S3x2048x3, .i32⟩
  | 100 => ⟨S3x2048x1x3, .i32⟩
  | 101 => ⟨S3x1x2048x3, .i32⟩
  | 102 => ⟨S3x2048x2048x3, .i32⟩
  | 103 => ⟨S3x2048x2048x3, .i32⟩
  | 104 => ⟨S3x2048x2048x3, .i32⟩
  | 105 => ⟨S_, .i32⟩
  | 106 => ⟨S3x2048x2048x3, .i32⟩
  | 107 => ⟨S3x2048x2048x3, .i32⟩
  | 108 => ⟨S_, .i32⟩
  | 109 => ⟨S_, .i32⟩
  | 110 => ⟨S_, .i32⟩
  | 111 => ⟨S3x2048x2048x3, .i32⟩
  | 112 => ⟨S3x2048x2048x3, .i32⟩
  | 113 => ⟨S_, .i32⟩
  | 114 => ⟨S3x2048x2048x3, .i32⟩
  | 115 => ⟨S3x2048x2048x3, .i32⟩
  | 116 => ⟨S3x2x2048x2048, .f32⟩
  | 117 => ⟨S3x2048x2048x2, .f32⟩
  | 118 => ⟨S2x79x3x2048x3, .f32⟩
  | 119 => ⟨S3x2048x79x3x2, .f32⟩
  | 120 => ⟨S2x79x3x2048x3, .f32⟩
  | 121 => ⟨S3x2048x79x3x2, .f32⟩
  | 122 => ⟨S3x2048x2048x3x1, .i32⟩
  | 123 => ⟨S_, .i32⟩
  | 124 => ⟨S3x2048x2048x3x1, .i32⟩
  | 125 => ⟨S3x2048x2048x3x1, .i1⟩
  | 126 => ⟨S_, .i32⟩
  | 127 => ⟨S3x2048x2048x3x1, .i32⟩
  | _ => ⟨S2048x384, .f32⟩

abbrev hbmTy0_1 (i : Nat) : BufTy := match i % 128 with
  | 0 => ⟨S3x2048x2048x3x1, .i32⟩
  | 1 => ⟨S3x2048x2048x3x1, .i32⟩
  | 2 => ⟨S3x2048x2048x3x2, .f32⟩
  | 3 => ⟨S3x2048x2048x3, .i32⟩
  | 4 => ⟨S3x2048x2048x3x1, .i32⟩
  | 5 => ⟨S_, .i32⟩
  | 6 => ⟨S3x2048x2048x3x1, .i32⟩
  | 7 => ⟨S3x2048x2048x3x1, .i1⟩
  | 8 => ⟨S_, .i32⟩
  | 9 => ⟨S3x2048x2048x3x1, .i32⟩
  | 10 => ⟨S3x2048x2048x3x1, .i32⟩
  | 11 => ⟨S3x2048x2048x3x1, .i32⟩
  | 12 => ⟨S3x2048x2048x3x2, .f32⟩
  | 13 => ⟨S_, .f32⟩
  | 14 => ⟨S3x2048x2048x2, .f32⟩
  | 15 => ⟨S3x2048x2048x2, .f32⟩
  | 16 => ⟨S3x2048x2048x3x2, .f32⟩
  | 17 => ⟨S_, .f32⟩
  | 18 => ⟨S3x2048x2048x2, .f32⟩
  | 19 => ⟨S3x2048x2048x2, .f32⟩
  | 20 => ⟨S3x2048x2048x1, .i1⟩
  | 21 => ⟨S_, .f32⟩
  | 22 => ⟨S_, .f32⟩
  | 23 => ⟨S3x2048x2048x2, .i1⟩
  | 24 => ⟨S3x2048x2048x2, .f32⟩
  | 25 => ⟨S3x2048x2048x2, .f32⟩
  | 26 => ⟨S_, .f32⟩
  | 27 => ⟨S3x2048x2, .f32⟩
  | 28 => ⟨S_, .f32⟩
  | 29 => ⟨S3x2048x2, .f32⟩
  | 30 => ⟨S3x2048x2, .f32⟩
  | 31 => ⟨S3x2048x1x2, .f32⟩
  | 32 => ⟨S3x2048x2048x2, .f32⟩
  | 33 => ⟨S3x2048x2048x2, .f32⟩
  | 34 => ⟨S3x2048x2048x2, .f32⟩
  | 35 => ⟨S_, .f32⟩
  | 36 => ⟨S3x2048x2, .f32⟩
  | 37 => ⟨S3x2048x1x2, .f32⟩
  | 38 => ⟨S3x2048x2048x2, .f32⟩
  | 39 => ⟨S3x2048x2048x2, .f32⟩
  | 40 => ⟨S3x2x64x2048, .f32⟩
  | 41 => ⟨S2048x3x2x64, .f32⟩
  | 42 => ⟨S2048, .i32⟩
  | 43 => ⟨S2048x1x1, .i32⟩
  | 44 => ⟨S_, .f32⟩
  | 45 => ⟨S3x2048x3x79x2, .f32⟩
  | 46 => ⟨S3x1x1x1, .i32⟩
  | 47 => ⟨S3x2048x2048x1x2, .f32⟩
  | 48 => ⟨S_, .i32⟩
  | 49 => ⟨S3x1x1x1, .i32⟩
  | 50 => ⟨S3x1x1x1, .i1⟩
  | 51 => ⟨S_, .i32⟩
  | 52 => ⟨S3x1x1x1, .i32⟩
  | 53 => ⟨S3x1x1x1, .i32⟩
  | 54 => ⟨S3x1x1x1, .i32⟩
  | 55 => ⟨S_, .i32⟩
  | 56 => ⟨S2048x1x1, .i32⟩
  | 57 => ⟨S2048x1x1, .i1⟩
  | 58 => ⟨S_, .i32⟩
  | 59 => ⟨S2048x1x1, .i32⟩
  | 60 => ⟨S2048x1x1, .i32⟩
  | 61 => ⟨S2048x1x1, .i32⟩
  | 62 => ⟨S_, .i32⟩
  | 63 => ⟨S3, .i32⟩
  | 64 => ⟨S3, .i1⟩
  | 65 => ⟨S_, .i32⟩
  | 66 => ⟨S3, .i32⟩
  | 67 => ⟨S3, .i32⟩
  | 68 => ⟨S3, .i32⟩
  | 69 => ⟨S_, .i32⟩
  | 70 => ⟨S3x2048x2048x3, .i32⟩
  | 71 => ⟨S3x2048x2048x3, .i1⟩
  | 72 => ⟨S_, .i32⟩
  | 73 => ⟨S3x2048x2048x3, .i32⟩
  | 74 => ⟨S3x2048x2048x3, .i32⟩
  | 75 => ⟨S3x2048x2048x3, .i32⟩
  | 76 => ⟨S3x2048x2048x3, .i32⟩
  | 77 => ⟨S3x2048x2048x3, .i32⟩
  | 78 => ⟨S3x2048x2048x3, .i32⟩
  | 79 => ⟨S3x2048x2048x3x1, .i32⟩
  | 80 => ⟨S3x2048x2048x3x1, .i32⟩
  | 81 => ⟨S3x2048x2048x3x1, .i32⟩
  | 82 => ⟨S3x2048x2048x3x1, .i32⟩
  | 83 => ⟨S3x2048x2048x3x4, .i32⟩
  | 84 => ⟨S3x2048x2048x3x2, .f32⟩
  | 85 => ⟨S3x2048x3x79x2, .f32⟩
  | 86 => ⟨S3x2x64x3x2048, .f32⟩
  | 87 => ⟨S3x2048x3x2x64, .f32⟩
  | 88 => ⟨S_, .f32⟩
  | 89 => ⟨S2048x3x2x64, .f32⟩
  | 90 => ⟨S2048x3x2x64, .f32⟩
  | 91 => ⟨S2048x384, .f32⟩
  | 92 => ⟨S384x384, .f32⟩
  | 93 => ⟨S2048x384, .f32⟩
  | 94 => ⟨S1x384, .f32⟩
  | 95 => ⟨S2048x384, .f32⟩
  | 96 => ⟨S2048x384, .f32⟩
  | _ => ⟨S2048x384, .f32⟩

abbrev hbmTy (i : Nat) : BufTy := match i / 128 with
  | 0 => hbmTy0_0 i
  | 1 => hbmTy0_1 i
  | _ => ⟨S2048x384, .f32⟩

abbrev bufTy : (tb : Table) → Fin (tcTables nBuf tb) → BufTy
  | .hbm, ⟨i, _⟩ => hbmTy i
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_cst : Ref sig .tc := ⟨.hbm, 80, rfl⟩
abbrev main_call1_v4 : Ref sig .tc := ⟨.hbm, 81, rfl⟩
abbrev main_call1_v5 : Ref sig .tc := ⟨.hbm, 82, rfl⟩
abbrev main_call1_cst_0 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v56 : Ref sig .tc := ⟨.hbm, 94, rfl⟩
abbrev main_cst_6 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_7 : Ref sig .tc := ⟨.hbm, 105, rfl⟩
abbrev main_v66 : Ref sig .tc := ⟨.hbm, 106, rfl⟩
abbrev main_v67 : Ref sig .tc := ⟨.hbm, 107, rfl⟩
abbrev main_c_8 : Ref sig .tc := ⟨.hbm, 108, rfl⟩
abbrev main_c_9 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_v79 : Ref sig .tc := ⟨.hbm, 140, rfl⟩
abbrev main_cst_10 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_11 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_12 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v86 : Ref sig .tc := ⟨.hbm, 153, rfl⟩
abbrev main_cst_13 : Ref sig .tc := ⟨.hbm, 154, rfl⟩
abbrev main_v87 : Ref sig .tc := ⟨.hbm, 155, rfl⟩
abbrev main_cst_14 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_15 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_cst_16 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_c_17 : Ref sig .tc := ⟨.hbm, 176, rfl⟩
abbrev main_v105 : Ref sig .tc := ⟨.hbm, 177, rfl⟩
abbrev main_v106 : Ref sig .tc := ⟨.hbm, 178, rfl⟩
abbrev main_c_18 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_c_19 : Ref sig .tc := ⟨.hbm, 183, rfl⟩
abbrev main_v110 : Ref sig .tc := ⟨.hbm, 184, rfl⟩
abbrev main_v111 : Ref sig .tc := ⟨.hbm, 185, rfl⟩
abbrev main_c_20 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_c_21 : Ref sig .tc := ⟨.hbm, 190, rfl⟩
abbrev main_v115 : Ref sig .tc := ⟨.hbm, 191, rfl⟩
abbrev main_v116 : Ref sig .tc := ⟨.hbm, 192, rfl⟩
abbrev main_c_22 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_c_23 : Ref sig .tc := ⟨.hbm, 197, rfl⟩
abbrev main_v120 : Ref sig .tc := ⟨.hbm, 198, rfl⟩
abbrev main_v121 : Ref sig .tc := ⟨.hbm, 199, rfl⟩
abbrev main_c_24 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_cst_25 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩

abbrev nD : Nat := 1
abbrev τ : Topo := Topo.v7x

variable {F : FTy → Type} [FloatOps F]
-- ==== Proof.Spec.lean ====
module

public import proofs.«01_k».proof.Proof.Gen.KernelIdeal.Skeleton
public import Idealize.ShloMosaic.Lib.Pointwise

@[expose] public section

noncomputable section

namespace Cert.Spec

open Idealize.ShloMosaic

/-- The number of quantised positions of strip `s` along axis `d`. -/
def cS (s d : Fin 3) : Nat := if s.val + d.val = 2 then 101 else 41

/-- The window of strip `s` along axis `d`. -/
def wS (s d : Fin 3) : EReal := if s.val + d.val = 2 then 1 else Ideal.ofBits .f32 1053609165#32

/-- The floor modulus of a coordinate by a window. -/
def FM (x w : EReal) : EReal :=
  Scalar.select (IntOp.andi (IntOp.xori (BitVec.ofBool (decide (Ideal.remf x w < 0))) (BitVec.ofBool (decide (w < 0))))
      (BitVec.ofBool (decide (Ideal.remf x w ≠ 0)))) (Ideal.remf x w + w) (Ideal.remf x w)

/-- The quantised position of a coordinate inside its window. -/
def QD (x w : EReal) : BitVec 32 :=
  FloatOps.fptosi (F := Ideal) (φ := .f32) 32 (Ideal.liftRound Int.floor (Ideal.div (FM x w) (Ideal.ofBits .f32 1008981770#32)))

/-- The window's index along one axis. -/
def WI (x w : EReal) : BitVec 32 := FloatOps.fptosi (F := Ideal) (φ := .f32) 32 (Ideal.liftRound Int.floor (Ideal.div x w))

/-- The window's number: the batch and the three indices. -/
def WID (b : BitVec 32) (R : Fin 3 → EReal) (s : Fin 3) : BitVec 32 :=
  IntOp.addi (IntOp.muli (IntOp.addi (IntOp.muli (IntOp.addi (IntOp.muli b 1024#32) (WI (R 0) (wS s 0))) 1024#32)
    (WI (R 1) (wS s 1))) 1024#32) (WI (R 2) (wS s 2))

/-- One at `a`, zero elsewhere. -/
def oh (c a : Nat) : EReal := if c = a then 1 else 0

/-- Seven stretches laid end to end: 64 columns, then twice the three axes' columns. -/
def aug (C : Fin 3 → Nat) (q : Fin 64 → EReal) (g o : Fin 3 → Nat → EReal) (x : Nat) : EReal :=
  if h : x < 64 then q ⟨x, h⟩
  else if x - 64 < C 0 then g 0 (x - 64)
  else if x - 64 - C 0 < C 1 then g 1 (x - 64 - C 0)
  else if x - 64 - C 0 - C 1 < C 2 then g 2 (x - 64 - C 0 - C 1)
  else if x - 64 - C 0 - C 1 - C 2 < C 0 then o 0 (x - 64 - C 0 - C 1 - C 2)
  else if x - 64 - C 0 - C 1 - C 2 - C 0 < C 1 then o 1 (x - 64 - C 0 - C 1 - C 2 - C 0)
  else o 2 (x - 64 - C 0 - C 1 - C 2 - C 0 - C 1)

/-- Four stretches laid end to end: 64 columns, then the three axes' columns. -/
def aug3 (C : Fin 3 → Nat) (v : Fin 64 → EReal) (o : Fin 3 → Nat → EReal) (x : Nat) : EReal :=
  if h : x < 64 then v ⟨x, h⟩
  else if x - 64 < C 0 then o 0 (x - 64)
  else if x - 64 - C 0 < C 1 then o 1 (x - 64 - C 0)
  else o 2 (x - 64 - C 0 - C 1)

/-- The product of two rows of seven stretches, stretch by stretch. -/
theorem sum_aug (C : Fin 3 → Nat) (q q' : Fin 64 → EReal) (g o g' o' : Fin 3 → Nat → EReal) (N : Nat)
    (hN : N = 64 + C 0 + C 1 + C 2 + C 0 + C 1 + C 2) :
    ∑ x : Fin N, aug C q g o x.val * aug C q' g' o' x.val
      = ∑ c, q c * q' c + ∑ c : Fin (C 0), g 0 c * g' 0 c + ∑ c : Fin (C 1), g 1 c * g' 1 c + ∑ c : Fin (C 2), g 2 c * g' 2 c
        + ∑ c : Fin (C 0), o 0 c * o' 0 c + ∑ c : Fin (C 1), o 1 c * o' 1 c + ∑ c : Fin (C 2), o 2 c * o' 2 c := by
  rw [← Finset.sum_range (fun x => aug C q g o x * aug C q' g' o' x), hN]
  have hadd : ∀ (f : Nat → EReal) (a b : Nat), ∑ x ∈ Finset.range (a + b), f x = ∑ x ∈ Finset.range a, f x + ∑ x ∈ Finset.range b, f (a + x) :=
    fun f a b => Finset.sum_range_add f a b
  simp only [hadd, Finset.sum_range]
  congr 1
  congr 1
  congr 1
  congr 1
  congr 1
  congr 1
  all_goals
    refine Finset.sum_congr rfl fun c _ => ?_
    have hc := c.isLt
    unfold aug
    repeat' (first | rw [dif_neg (by omega)] | rw [dif_pos (by omega)] | rw [if_neg (by omega)] | rw [if_pos (by omega)])
    try (congr 2 <;> omega)

/-- The columns of a product by a row of stretches: the first 64. -/
theorem aug3_q (C : Fin 3 → Nat) (v : Fin 64 → EReal) (o : Fin 3 → Nat → EReal) (c : Fin 64) : aug3 C v o c.val = v c := by
  unfold aug3
  rw [dif_pos c.isLt]

/-- Where axis `d`'s columns start after the first 64. -/
def off (C : Fin 3 → Nat) (d : Fin 3) : Nat := if d.val = 0 then 64 else if d.val = 1 then 64 + C 0 else 64 + C 0 + C 1

/-- A value row's columns of an axis. -/
theorem aug3_o (C : Fin 3 → Nat) (v : Fin 64 → EReal) (o : Fin 3 → Nat → EReal) (d : Fin 3) (c : Nat) (hc : c < C d) :
    aug3 C v o (off C d + c) = o d c := by
  match d with
  | 0 =>
    rw [show off C 0 = 64 from rfl]
    unfold aug3
    rw [dif_neg (by omega), if_pos (by omega)]
    congr 1
    omega
  | 1 =>
    rw [show off C 1 = 64 + C 0 from rfl]
    unfold aug3
    rw [dif_neg (by omega), if_neg (by omega), if_pos (by omega)]
    congr 1
    omega
  | 2 =>
    rw [show off C 2 = 64 + C 0 + C 1 from rfl]
    unfold aug3
    rw [dif_neg (by omega), if_neg (by omega), if_neg (by omega)]
    congr 1
    omega

/-- The linear map of one point's features. -/
def lin (X : Fin 384 → EReal) (W : Fin 1152 → Fin 384 → EReal) (b : Fin 1152 → EReal) (j : Fin 1152) : EReal := ∑ x, X x * W j x + b j

/-- The head number of strip `s`'s head `hh`. -/
def hd (s : Fin 3) (hh : Fin 2) : Fin 6 := ⟨2 * s.val + hh.val, by omega⟩

/-- A head's query, scaled. -/
def qh (L : Fin 1152 → EReal) (h : Fin 6) (c : Fin 64) : EReal := L ⟨h.val * 64 + c.val, by omega⟩ * Ideal.ofBits .f32 1040187392#32
/-- A head's key. -/
def kh (L : Fin 1152 → EReal) (h : Fin 6) (c : Fin 64) : EReal := L ⟨384 + h.val * 64 + c.val, by omega⟩
/-- A head's value. -/
def vh (L : Fin 1152 → EReal) (h : Fin 6) (c : Fin 64) : EReal := L ⟨768 + h.val * 64 + c.val, by omega⟩

/-- A vector's product with a table's row. -/
def tab (q : Fin 64 → EReal) (T : Fin 79 → Fin 64 → EReal) (l : Fin 79) : EReal := ∑ y, q y * T l y

/-- The table's row for a position `a` against a position `b`: their difference, clipped to the table. -/
def relI (a b : Nat) : Fin 79 := ⟨min (a + 39 - b) 78, by omega⟩

/-- A row of a group's table, its ends repeated, `a` further along. -/
def sh (t : Fin 79 → EReal) (C a c : Nat) : EReal := t ⟨min (c + a - (C - 40)) 78, by omega⟩

/-- Head row of the first operand of the scores. -/
def augQ (s : Fin 3) (q : Fin 64 → EReal) (T : Fin 3 → Fin 79 → Fin 64 → EReal) (A : Fin 3 → Nat) : Nat → EReal :=
  aug (cS s) q (fun d => sh (tab q (T d)) (cS s d) (A d)) (fun d c => oh c (A d))

/-- Head row of the second operand of the scores. -/
def augK (s : Fin 3) (k : Fin 64 → EReal) (T : Fin 3 → Fin 79 → Fin 64 → EReal) (A : Fin 3 → Nat) : Nat → EReal :=
  aug (cS s) k (fun d c => oh c (cS s d - 1 - A d)) (fun d => sh (tab k (T d)) (cS s d) (cS s d - 1 - A d))

/-- Head row of the values and the one-hot positions. -/
def augV (s : Fin 3) (v : Fin 64 → EReal) (A : Fin 3 → Nat) : Nat → EReal := aug3 (cS s) v (fun d c => oh c (A d))

/-- There are 41 positions along an axis, or 101. -/
theorem cS_cases (s d : Fin 3) : cS s d = 41 ∨ cS s d = 101 := by
  unfold cS; split <;> simp

/-- A sum of products with a one-hot row on the right is the entry there. -/
theorem sum_oh_right {n : Nat} (f : Fin n → EReal) (a : Nat) (h : a < n) : ∑ c : Fin n, f c * oh c.val a = f ⟨a, h⟩ := by
  rw [Finset.sum_eq_single (⟨a, h⟩ : Fin n)]
  · simp [oh]
  · intro c _ hc
    have : c.val ≠ a := fun e => hc (Fin.ext e)
    simp [oh, this]
  · intro hc; exact absurd (Finset.mem_univ _) hc

/-- A sum of products with a one-hot row on the left is the entry there. -/
theorem sum_oh_left {n : Nat} (f : Fin n → EReal) (a : Nat) (h : a < n) : ∑ c : Fin n, oh c.val a * f c = f ⟨a, h⟩ := by
  simp only [mul_comm (oh _ _)]
  exact sum_oh_right f a h

/-- The score of a pair: the heads' product and, per axis, the two tables' terms at the clipped relative position. -/
def score (q k : Fin 64 → EReal) (TQ TK : Fin 3 → Fin 79 → Fin 64 → EReal) (A B : Fin 3 → Nat) : EReal :=
  ∑ c, q c * k c + ∑ d, tab q (TQ d) (relI (A d) (B d)) + ∑ d, tab k (TK d) (relI (A d) (B d))

/-- The product of the two augmented rows is the score. -/
theorem sum_augQK (s : Fin 3) (q k : Fin 64 → EReal) (TQ TK : Fin 3 → Fin 79 → Fin 64 → EReal) (A B : Fin 3 → Nat)
    (hA : ∀ d, A d < cS s d) (hB : ∀ d, B d < cS s d) :
    ∑ x : Fin 430, augQ s q TQ A x.val * augK s k TK B x.val = score q k TQ TK A B := by
  unfold augQ augK
  rw [sum_aug]
  · have e1 : ∀ d, ∑ c : Fin (cS s d), sh (tab q (TQ d)) (cS s d) (A d) c.val * oh c.val (cS s d - 1 - B d)
        = tab q (TQ d) (relI (A d) (B d)) := by
      intro d
      have := hA d
      have := hB d
      rw [sum_oh_right (fun c : Fin (cS s d) => sh (tab q (TQ d)) (cS s d) (A d) c.val) _ (by omega)]
      unfold sh
      congr 1
      apply Fin.ext
      simp only [relI]
      rcases cS_cases s d with h | h <;> omega
    have e2 : ∀ d, ∑ c : Fin (cS s d), oh c.val (A d) * sh (tab k (TK d)) (cS s d) (cS s d - 1 - B d) c.val
        = tab k (TK d) (relI (A d) (B d)) := by
      intro d
      have := hA d
      have := hB d
      rw [sum_oh_left (fun c : Fin (cS s d) => sh (tab k (TK d)) (cS s d) (cS s d - 1 - B d) c.val) _ (by omega)]
      unfold sh
      congr 1
      apply Fin.ext
      simp only [relI]
      rcases cS_cases s d with h | h <;> omega
    rw [e1, e1, e1, e2, e2, e2]
    unfold score
    rw [Fin.sum_univ_three, Fin.sum_univ_three]
    ac_rfl
  · fin_cases s <;> rfl

end Cert.Spec
end
-- ==== Proof.SpecB.lean ====
module

public import proofs.«01_k».proof.Proof.Spec

@[expose] public section

noncomputable section

namespace Cert.Spec

open Idealize.ShloMosaic

/-- The greatest of a row of scores. -/
def mx {n : Nat} (a : Fin n → EReal) : EReal := Finset.fold max (Ideal.ofBits .f32 4286578688#32) a Finset.univ

/-- The softmax of a row of scores. -/
def smx {n : Nat} (a : Fin n → EReal) (x : Fin n) : EReal :=
  Ideal.div (Ideal.exp (a x - mx a)) (∑ y, Ideal.exp (a y - mx a))

/-- The score where the two points share a window, a large negative number elsewhere. -/
def msk (w w' : BitVec 32) (a : EReal) : EReal := Scalar.select (IntOp.cmpi .eq w w') a (Ideal.ofBits .f32 4048155338#32)

/-- The strip of a head. -/
def st (h : Fin 6) : Fin 3 := ⟨h.val / 2, by omega⟩

/-- One entry of the attention's result: the values weighed by the softmax of the masked scores. -/
def att (wq : Fin 3 → Fin 2048 → BitVec 32) (wk : Fin 3 → Fin 2048 → BitVec 32) (qa ka : Fin 6 → Fin 2048 → Fin 430 → EReal)
    (va : Fin 6 → Fin 2048 → Fin 247 → EReal) (h : Fin 6) (n : Fin 2048) (e : Fin 247) : EReal :=
  ∑ m, smx (fun m => msk (wq (st h) n) (wk (st h) m) (∑ x, qa h n x * ka h m x)) m * va h m e

end Cert.Spec
end
-- ==== Proof.Barrel.lean ====
module

public import proofs.«01_k».proof.Proof.Gen.KernelIdeal.Skeleton
public import Idealize.ShloMosaic.Lib.Pointwise

@[expose] public section

set_option maxRecDepth 16384

noncomputable section

namespace Cert.KernelIdeal.Roll

open Idealize.ShloMosaic Cert.KernelIdeal

/-- One round of a rotation by the bits of an amount: the rows whose amount has bit `k` are rotated by `n`. -/
def rnd {K W : Nat} (hc : (⟨3, ![K, 256, 1]⟩ : Shape).ShapeCasts ⟨3, ![K, 256, 1]⟩)
    (hb : (⟨3, ![K, 256, 1]⟩ : Shape).Broadcasts ⟨3, ![K, 256, W]⟩) (hr : (⟨3, ![K, 256, W]⟩ : Shape).Rotates 2 none)
    (k n : BitVec 32) (amt : IVec ⟨3, ![K, 256, 1]⟩ 32) (x : FVec Ideal ⟨3, ![K, 256, W]⟩ .f32) :
    FVec Ideal ⟨3, ![K, 256, W]⟩ .f32 :=
  select (broadcastTo ⟨3, ![K, 256, W]⟩ (shapeCast ⟨3, ![K, 256, 1]⟩
    (cmpi .eq (andi (shrsi amt (broadcast ⟨3, ![K, 256, 1]⟩ k)) (broadcast ⟨3, ![K, 256, 1]⟩ 1#32))
      (broadcast ⟨3, ![K, 256, 1]⟩ 1#32)) hc) hb) (dynamicRotate 2 n none x hr) x

/-- One stage of the rotation: a row moves where its amount has the stage's bit, and stays elsewhere. -/
theorem rnd_apply {K W : Nat} (hc : (⟨3, ![K, 256, 1]⟩ : Shape).ShapeCasts ⟨3, ![K, 256, 1]⟩)
    (hb : (⟨3, ![K, 256, 1]⟩ : Shape).Broadcasts ⟨3, ![K, 256, W]⟩) (hr : (⟨3, ![K, 256, W]⟩ : Shape).Rotates 2 none)
    (k n : BitVec 32) (amt : IVec ⟨3, ![K, 256, 1]⟩ 32) (x : FVec Ideal ⟨3, ![K, 256, W]⟩ .f32)
    (r : Fin K) (i : Fin 256) (c : Fin W) (c' : Fin W) (h' : c'.val = (c.val + W - n.toNat % W) % W) :
    rnd hc hb hr k n amt x (ix3 r i c)
      = if IntOp.cmpi .eq (IntOp.andi (IntOp.shrsi .vector (amt (ix3 r i 0)) k) 1#32) 1#32 = 1#1 then x (ix3 r i c') else x (ix3 r i c) := by
  have e1 : (fun a : Fin 3 => if h : ![K, 256, 1] a = 1 then (⟨0, by rw [h]; decide⟩ : Fin (![K, 256, 1] a)) else ⟨(ix3 r i c a).val, by
      match a with
      | 0 => exact r.isLt
      | 1 => exact i.isLt
      | 2 => exact absurd rfl h⟩) = ix3 r i 0 := by
    funext a
    match a with
    | 0 =>
      by_cases h : K = 1
      · subst h; exact Subsingleton.elim (α := Fin 1) _ _
      · exact dif_neg h
    | 1 => rfl
    | 2 => rfl
  have e2 : (fun b : Fin 3 => if b = 2 then (⟨((ix3 r i c b).val + ![K, 256, W] b - n.toNat % ![K, 256, W] b) % ![K, 256, W] b,
      Nat.mod_lt _ (Nat.lt_of_le_of_lt (Nat.zero_le _) (ix3 r i c b).isLt)⟩ : Fin (![K, 256, W] b)) else ix3 r i c b) = ix3 r i c' := by
    funext b
    match b with
    | 0 => rfl
    | 1 => rfl
    | 2 => exact Fin.ext h'.symm
  pointwise [rnd]
  rw [← e1, ← e2]
  rfl

/-- Bit `k` of an amount, as a round tests it. -/
def bit (a k : BitVec 32) : BitVec 1 := IntOp.cmpi .eq (IntOp.andi (IntOp.shrsi .vector a k) 1#32) 1#32

/-- A round reads `p` further along the row exactly when the amount has its bit. -/
theorem rnd_step {K W : Nat} (hc : (⟨3, ![K, 256, 1]⟩ : Shape).ShapeCasts ⟨3, ![K, 256, 1]⟩)
    (hb : (⟨3, ![K, 256, 1]⟩ : Shape).Broadcasts ⟨3, ![K, 256, W]⟩) (hr : (⟨3, ![K, 256, W]⟩ : Shape).Rotates 2 none)
    (k n : BitVec 32) (amt : IVec ⟨3, ![K, 256, 1]⟩ 32) (x : FVec Ideal ⟨3, ![K, 256, W]⟩ .f32)
    (r : Fin K) (i : Fin 256) (c d : Fin W) (p : Nat) (hn : n.toNat + p = W) (hp : 0 < p) (hn0 : 0 < n.toNat)
    (hd : d.val = c.val + if bit (amt (ix3 r i 0)) k = 1#1 then p else 0) :
    rnd hc hb hr k n amt x (ix3 r i c) = x (ix3 r i d) := by
  have hW : 0 < W := by omega
  have hcl := c.isLt
  have hdl := d.isLt
  rw [rnd_apply hc hb hr k n amt x r i c ⟨(c.val + W - n.toNat % W) % W, Nat.mod_lt _ hW⟩ rfl]
  change (if bit (amt (ix3 r i 0)) k = 1#1 then _ else _) = _
  split
  · rename_i h
    rw [if_pos h] at hd
    have : (⟨(c.val + W - n.toNat % W) % W, Nat.mod_lt _ hW⟩ : Fin W) = d := by
      apply Fin.ext
      show (c.val + W - n.toNat % W) % W = d.val
      rw [Nat.mod_eq_of_lt (by omega : n.toNat < W), show c.val + W - n.toNat = c.val + p by omega, hd]
      exact Nat.mod_eq_of_lt (by omega)
    rw [this]
  · rename_i h
    rw [if_neg h] at hd
    rw [show c = d from Fin.ext (by omega)]

/-- An amount below 64 is the sum of its six bits. -/
theorem bits6 (a : BitVec 32) (h : a.toNat < 64) : a.toNat = (if bit a 5#32 = 1#1 then 32 else 0)
    + ((if bit a 4#32 = 1#1 then 16 else 0) + ((if bit a 3#32 = 1#1 then 8 else 0) + ((if bit a 2#32 = 1#1 then 4 else 0)
    + ((if bit a 1#32 = 1#1 then 2 else 0) + (if bit a 0#32 = 1#1 then 1 else 0))))) := by
  have key : ∀ n : Fin 64, n.val = (if bit (BitVec.ofNat 32 n.val) 5#32 = 1#1 then 32 else 0)
    + ((if bit (BitVec.ofNat 32 n.val) 4#32 = 1#1 then 16 else 0) + ((if bit (BitVec.ofNat 32 n.val) 3#32 = 1#1 then 8 else 0)
    + ((if bit (BitVec.ofNat 32 n.val) 2#32 = 1#1 then 4 else 0)
    + ((if bit (BitVec.ofNat 32 n.val) 1#32 = 1#1 then 2 else 0) + (if bit (BitVec.ofNat 32 n.val) 0#32 = 1#1 then 1 else 0))))) := by
    decide +kernel
  have := key ⟨a.toNat, h⟩
  simpa only [BitVec.ofNat_toNat, BitVec.setWidth_eq] using this

/-- An amount below 128 is the sum of its seven bits. -/
theorem bits7 (a : BitVec 32) (h : a.toNat < 128) : a.toNat = (if bit a 6#32 = 1#1 then 64 else 0) + ((if bit a 5#32 = 1#1 then 32 else 0)
    + ((if bit a 4#32 = 1#1 then 16 else 0) + ((if bit a 3#32 = 1#1 then 8 else 0) + ((if bit a 2#32 = 1#1 then 4 else 0)
    + ((if bit a 1#32 = 1#1 then 2 else 0) + (if bit a 0#32 = 1#1 then 1 else 0)))))) := by
  have key : ∀ n : Fin 128, n.val = (if bit (BitVec.ofNat 32 n.val) 6#32 = 1#1 then 64 else 0)
    + ((if bit (BitVec.ofNat 32 n.val) 5#32 = 1#1 then 32 else 0)
    + ((if bit (BitVec.ofNat 32 n.val) 4#32 = 1#1 then 16 else 0) + ((if bit (BitVec.ofNat 32 n.val) 3#32 = 1#1 then 8 else 0)
    + ((if bit (BitVec.ofNat 32 n.val) 2#32 = 1#1 then 4 else 0)
    + ((if bit (BitVec.ofNat 32 n.val) 1#32 = 1#1 then 2 else 0) + (if bit (BitVec.ofNat 32 n.val) 0#32 = 1#1 then 1 else 0)))))) := by
    decide +kernel
  have := key ⟨a.toNat, h⟩
  simpa only [BitVec.ofNat_toNat, BitVec.setWidth_eq] using this

/-- Six rounds over rows of 128: each row rotated to the left by its amount. -/
def bar6 {K : Nat} (hc : (⟨3, ![K, 256, 1]⟩ : Shape).ShapeCasts ⟨3, ![K, 256, 1]⟩)
    (hb : (⟨3, ![K, 256, 1]⟩ : Shape).Broadcasts ⟨3, ![K, 256, 128]⟩) (hr : (⟨3, ![K, 256, 128]⟩ : Shape).Rotates 2 none)
    (amt : IVec ⟨3, ![K, 256, 1]⟩ 32) (x : FVec Ideal ⟨3, ![K, 256, 128]⟩ .f32) : FVec Ideal ⟨3, ![K, 256, 128]⟩ .f32 :=
  rnd hc hb hr 5#32 96#32 amt (rnd hc hb hr 4#32 112#32 amt (rnd hc hb hr 3#32 120#32 amt (rnd hc hb hr 2#32 124#32 amt
    (rnd hc hb hr 1#32 126#32 amt (rnd hc hb hr 0#32 127#32 amt x)))))

/-- Seven rounds over rows of 256. -/
def bar7 {K : Nat} (hc : (⟨3, ![K, 256, 1]⟩ : Shape).ShapeCasts ⟨3, ![K, 256, 1]⟩)
    (hb : (⟨3, ![K, 256, 1]⟩ : Shape).Broadcasts ⟨3, ![K, 256, 256]⟩) (hr : (⟨3, ![K, 256, 256]⟩ : Shape).Rotates 2 none)
    (amt : IVec ⟨3, ![K, 256, 1]⟩ 32) (x : FVec Ideal ⟨3, ![K, 256, 256]⟩ .f32) : FVec Ideal ⟨3, ![K, 256, 256]⟩ .f32 :=
  rnd hc hb hr 6#32 192#32 amt (rnd hc hb hr 5#32 224#32 amt (rnd hc hb hr 4#32 240#32 amt (rnd hc hb hr 3#32 248#32 amt
    (rnd hc hb hr 2#32 252#32 amt (rnd hc hb hr 1#32 254#32 amt (rnd hc hb hr 0#32 255#32 amt x))))))

/-- Rotated by six bits, a row at `c` is the row at `c` plus its amount, while that stays inside the row. -/
theorem bar6_apply {K : Nat} (hc : (⟨3, ![K, 256, 1]⟩ : Shape).ShapeCasts ⟨3, ![K, 256, 1]⟩)
    (hb : (⟨3, ![K, 256, 1]⟩ : Shape).Broadcasts ⟨3, ![K, 256, 128]⟩) (hr : (⟨3, ![K, 256, 128]⟩ : Shape).Rotates 2 none)
    (amt : IVec ⟨3, ![K, 256, 1]⟩ 32) (x : FVec Ideal ⟨3, ![K, 256, 128]⟩ .f32) (r : Fin K) (i : Fin 256) (c d : Fin 128)
    (ha : (amt (ix3 r i 0)).toNat < 64) (hd : d.val = c.val + (amt (ix3 r i 0)).toNat) :
    bar6 hc hb hr amt x (ix3 r i c) = x (ix3 r i d) := by
  have hs := bits6 _ ha
  have hdl := d.isLt
  generalize h5 : (if bit (amt (ix3 r i 0)) 5#32 = 1#1 then 32 else 0) = b5 at hs
  generalize h4 : (if bit (amt (ix3 r i 0)) 4#32 = 1#1 then 16 else 0) = b4 at hs
  generalize h3 : (if bit (amt (ix3 r i 0)) 3#32 = 1#1 then 8 else 0) = b3 at hs
  generalize h2 : (if bit (amt (ix3 r i 0)) 2#32 = 1#1 then 4 else 0) = b2 at hs
  generalize h1 : (if bit (amt (ix3 r i 0)) 1#32 = 1#1 then 2 else 0) = b1 at hs
  generalize h0 : (if bit (amt (ix3 r i 0)) 0#32 = 1#1 then 1 else 0) = b0 at hs
  unfold bar6
  rw [rnd_step hc hb hr 5#32 96#32 amt _ r i c ⟨c.val + b5, by omega⟩ 32 rfl (by omega) (by decide) (by rw [h5]),
    rnd_step hc hb hr 4#32 112#32 amt _ r i _ ⟨c.val + b5 + b4, by omega⟩ 16 rfl (by omega) (by decide) (by rw [h4]),
    rnd_step hc hb hr 3#32 120#32 amt _ r i _ ⟨c.val + b5 + b4 + b3, by omega⟩ 8 rfl (by omega) (by decide) (by rw [h3]),
    rnd_step hc hb hr 2#32 124#32 amt _ r i _ ⟨c.val + b5 + b4 + b3 + b2, by omega⟩ 4 rfl (by omega) (by decide) (by rw [h2]),
    rnd_step hc hb hr 1#32 126#32 amt _ r i _ ⟨c.val + b5 + b4 + b3 + b2 + b1, by omega⟩ 2 rfl (by omega) (by decide) (by rw [h1]),
    rnd_step hc hb hr 0#32 127#32 amt _ r i _ d 1 rfl (by omega) (by decide) (by rw [h0, hd, hs]; show _ = c.val + b5 + b4 + b3 + b2 + b1 + b0; omega)]

/-- Rotated by seven bits, a row at `c` is the row at `c` plus its amount, while that stays inside the row. -/
theorem bar7_apply {K : Nat} (hc : (⟨3, ![K, 256, 1]⟩ : Shape).ShapeCasts ⟨3, ![K, 256, 1]⟩)
    (hb : (⟨3, ![K, 256, 1]⟩ : Shape).Broadcasts ⟨3, ![K, 256, 256]⟩) (hr : (⟨3, ![K, 256, 256]⟩ : Shape).Rotates 2 none)
    (amt : IVec ⟨3, ![K, 256, 1]⟩ 32) (x : FVec Ideal ⟨3, ![K, 256, 256]⟩ .f32) (r : Fin K) (i : Fin 256) (c d : Fin 256)
    (ha : (amt (ix3 r i 0)).toNat < 128) (hd : d.val = c.val + (amt (ix3 r i 0)).toNat) :
    bar7 hc hb hr amt x (ix3 r i c) = x (ix3 r i d) := by
  have hs := bits7 _ ha
  have hdl := d.isLt
  generalize h6 : (if bit (amt (ix3 r i 0)) 6#32 = 1#1 then 64 else 0) = b6 at hs
  generalize h5 : (if bit (amt (ix3 r i 0)) 5#32 = 1#1 then 32 else 0) = b5 at hs
  generalize h4 : (if bit (amt (ix3 r i 0)) 4#32 = 1#1 then 16 else 0) = b4 at hs
  generalize h3 : (if bit (amt (ix3 r i 0)) 3#32 = 1#1 then 8 else 0) = b3 at hs
  generalize h2 : (if bit (amt (ix3 r i 0)) 2#32 = 1#1 then 4 else 0) = b2 at hs
  generalize h1 : (if bit (amt (ix3 r i 0)) 1#32 = 1#1 then 2 else 0) = b1 at hs
  generalize h0 : (if bit (amt (ix3 r i 0)) 0#32 = 1#1 then 1 else 0) = b0 at hs
  unfold bar7
  rw [rnd_step hc hb hr 6#32 192#32 amt _ r i c ⟨c.val + b6, by omega⟩ 64 rfl (by omega) (by decide) (by rw [h6]),
    rnd_step hc hb hr 5#32 224#32 amt _ r i _ ⟨c.val + b6 + b5, by omega⟩ 32 rfl (by omega) (by decide) (by rw [h5]),
    rnd_step hc hb hr 4#32 240#32 amt _ r i _ ⟨c.val + b6 + b5 + b4, by omega⟩ 16 rfl (by omega) (by decide) (by rw [h4]),
    rnd_step hc hb hr 3#32 248#32 amt _ r i _ ⟨c.val + b6 + b5 + b4 + b3, by omega⟩ 8 rfl (by omega) (by decide) (by rw [h3]),
    rnd_step hc hb hr 2#32 252#32 amt _ r i _ ⟨c.val + b6 + b5 + b4 + b3 + b2, by omega⟩ 4 rfl (by omega) (by decide) (by rw [h2]),
    rnd_step hc hb hr 1#32 254#32 amt _ r i _ ⟨c.val + b6 + b5 + b4 + b3 + b2 + b1, by omega⟩ 2 rfl (by omega) (by decide) (by rw [h1]),
    rnd_step hc hb hr 0#32 255#32 amt _ r i _ d 1 rfl (by omega) (by decide) (by rw [h0, hd, hs]; show _ = c.val + b6 + b5 + b4 + b3 + b2 + b1 + b0; omega)]

end Cert.KernelIdeal.Roll
end
-- ==== Proof.Fold.lean ====
module

public import proofs.«01_k».proof.Proof.Barrel
public import proofs.«01_k».proof.Proof.SpecB

@[expose] public section

set_option maxRecDepth 16384

noncomputable section

namespace Cert.Spec

open Idealize.ShloMosaic

/-- What the positions' weights `A` give a table's row `78 - l`: the weights of all positions whose relation to `a` is that row. -/
def wrev (C a : Nat) (A : Nat → EReal) (l : Nat) : EReal := ∑ c : Fin C, if (relI a c.val).val + l = 78 then A c.val else 0

/-- Three axes' rows of 79 laid end to end. -/
def wcat (s : Fin 3) (a : Fin 3 → Nat) (A : Fin 3 → Nat → EReal) (x : Nat) : EReal :=
  if x < 79 then wrev (cS s 0) (a 0) (A 0) x
  else if x - 79 < 79 then wrev (cS s 1) (a 1) (A 1) (x - 79)
  else wrev (cS s 2) (a 2) (A 2) (x - 79 - 79)

/-- Away from the table's two ends, at most one position falls on a row: its weight is the one 39 further back. -/
theorem wrev_mid (C a : Nat) (A : Nat → EReal) (l : Nat) (h0 : 0 < l) (h1 : l < 78) :
    wrev C a A l = if 39 ≤ l + a ∧ l + a - 39 < C then A (l + a - 39) else 0 := by
  unfold wrev
  split
  · rename_i h
    rw [Finset.sum_eq_single (⟨l + a - 39, h.2⟩ : Fin C)]
    · rw [if_pos]
      show min (a + 39 - (l + a - 39)) 78 + l = 78
      omega
    · intro c _ hc
      rw [if_neg]
      show ¬ (min (a + 39 - c.val) 78 + l = 78)
      intro e
      apply hc
      apply Fin.ext
      show c.val = l + a - 39
      omega
    · intro h; exact absurd (Finset.mem_univ _) h
  · rename_i h
    refine Finset.sum_eq_zero fun c _ => if_neg ?_
    show ¬ (min (a + 39 - c.val) 78 + l = 78)
    have := c.isLt
    omega

end Cert.Spec

namespace Cert.KernelIdeal.Roll

open Idealize.ShloMosaic Cert.KernelIdeal Cert.KernelIdeal.Gen Cert.Spec

/-- The kernel's comparison at the table's one end, said of natural numbers. -/
theorem sle_iff (c a : BitVec 32) (hc : c.toNat < 128) (ha : a.toNat < 128) : IntOp.cmpi .sle c (IntOp.subi a 39#32) = 1#1 ↔ c.toNat + 39 ≤ a.toNat := by
  have key : ∀ c a : Fin 128, (IntOp.cmpi .sle (BitVec.ofNat 32 c.val) (IntOp.subi (BitVec.ofNat 32 a.val) 39#32) = 1#1) ↔ c.val + 39 ≤ a.val := by
    decide +kernel
  have := key ⟨c.toNat, hc⟩ ⟨a.toNat, ha⟩
  simpa only [BitVec.ofNat_toNat, BitVec.setWidth_eq] using this

/-- The kernel's comparison at the table's other end, said of natural numbers. -/
theorem sge_iff (c a : BitVec 32) (hc : c.toNat < 128) (ha : a.toNat < 128) : IntOp.cmpi .sge c (IntOp.addi a 39#32) = 1#1 ↔ a.toNat + 39 ≤ c.toNat := by
  have key : ∀ c a : Fin 128, (IntOp.cmpi .sge (BitVec.ofNat 32 c.val) (IntOp.addi (BitVec.ofNat 32 a.val) 39#32) = 1#1) ↔ a.val + 39 ≤ c.val := by
    decide +kernel
  have := key ⟨c.toNat, hc⟩ ⟨a.toNat, ha⟩
  simpa only [BitVec.ofNat_toNat, BitVec.setWidth_eq] using this

/-- An amount for each of two heads. -/
def am2 (a : IVec S256x1 32) : IVec S2x256x1 32 :=
  broadcastTo S2x256x1 (shapeCast S1x256x1 (shapeCast S1x256x1 a shapeCasts_S256x1_S1x256x1) shapeCasts_S1x256x1_S1x256x1) broadcasts_S1x256x1_S2x256x1

/-- Both heads' amount at a row is the row's amount. -/
theorem am2_apply (a : IVec S256x1 32) (h : Fin 2) (i : Fin 256) : am2 a (ix3 h i 0) = a (ix2 i 0) := by pointwise [am2]

/-- A row of weights between zeros, 39 to the left. -/
def zp41 (A : FVec Ideal S2x256x41 .f32) : FVec Ideal S2x256x128 .f32 :=
  concatenate S2x256x128 2 [⟨S2x256x39, broadcast S2x256x39 (Scalar.ofBits (F := Ideal) .f32 0x00000000#32)⟩,
    ⟨S2x256x41, shapeCast S2x256x41 A shapeCasts_S2x256x41_S2x256x41⟩, ⟨S2x256x48, broadcast S2x256x48 (Scalar.ofBits (F := Ideal) .f32 0x00000000#32)⟩]
    concatenates_S2x256x39_S2x256x41_S2x256x48_S2x256x128_d2

/-- The padded row of 41 weights, entry by entry. -/
theorem zp41_apply (A : FVec Ideal S2x256x41 .f32) (A' : Nat → EReal) (h : Fin 2) (i : Fin 256) (p : Fin 128)
    (hA : ∀ c : Fin 41, A (ix3 h i c) = A' c.val) :
    zp41 A (ix3 h i p) = if 39 ≤ p.val ∧ p.val - 39 < 41 then A' (p.val - 39) else 0 := by
  pointwise [zp41]
  by_cases h1 : p.val < 39
  · exact (dif_pos h1).trans (if_neg (by omega)).symm
  · rw [dif_neg h1]
    by_cases h2 : p.val - 39 < 41
    · refine (dif_pos h2).trans ((hA ⟨p.val - 39, h2⟩).trans (if_pos ⟨by omega, h2⟩).symm)
    · exact (dif_neg h2).trans (if_neg (by omega)).symm

/-- The row of 79 weights from the rotated weights, its two end columns sums. -/
def wr41 (a : IVec S256x1 32) (A : FVec Ideal S2x256x41 .f32) (y : FVec Ideal S2x256x79 .f32) : FVec Ideal S2x256x79 .f32 :=
  concatenate S2x256x79 2 [
    ⟨S2x256x1, shapeCast S2x256x1 (multiReduction .add [2] S2x256 (select (cmpi .sle (iota .tc S2x256x41 32 [2] iota_S2x256x41_d2_w32)
      (broadcastTo S2x256x41 (subi (shapeCast S1x256x1 a shapeCasts_S256x1_S1x256x1) (broadcast S1x256x1 39#32)) broadcasts_S1x256x1_S2x256x41))
      (shapeCast S2x256x41 A shapeCasts_S2x256x41_S2x256x41) (broadcast S2x256x41 (Scalar.ofBits (F := Ideal) .f32 0x00000000#32)))
      0x00000000#32 reduces_S2x256x41_S2x256 (.inl rfl) rfl) shapeCasts_S2x256_S2x256x1⟩,
    ⟨S2x256x77, extractStridedSlice S2x256x77 ![0, 0, 1] y slices_S2x256x79_o0_0_1_S2x256x77⟩,
    ⟨S2x256x1, shapeCast S2x256x1 (multiReduction .add [2] S2x256 (select (cmpi .sge (iota .tc S2x256x41 32 [2] iota_S2x256x41_d2_w32)
      (broadcastTo S2x256x41 (addi (shapeCast S1x256x1 a shapeCasts_S256x1_S1x256x1) (broadcast S1x256x1 39#32)) broadcasts_S1x256x1_S2x256x41))
      (shapeCast S2x256x41 A shapeCasts_S2x256x41_S2x256x41) (broadcast S2x256x41 (Scalar.ofBits (F := Ideal) .f32 0x00000000#32)))
      0x00000000#32 reduces_S2x256x41_S2x256 (.inl rfl) rfl) shapeCasts_S2x256_S2x256x1⟩]
    concatenates_S2x256x1_S2x256x77_S2x256x1_S2x256x79_d2

/-- From 41 rotated weights, with the end columns' sums, come the weights per table row. -/
theorem wr41_apply (a : IVec S256x1 32) (A : FVec Ideal S2x256x41 .f32) (y : FVec Ideal S2x256x79 .f32) (A' : Nat → EReal) (h : Fin 2) (i : Fin 256)
    (ha : (a (ix2 i 0)).toNat < 41) (hA : ∀ c : Fin 41, A (ix3 h i c) = A' c.val)
    (hy : ∀ l : Fin 79, y (ix3 h i l) = if 39 ≤ l.val + (a (ix2 i 0)).toNat ∧ l.val + (a (ix2 i 0)).toNat - 39 < 41 then A' (l.val + (a (ix2 i 0)).toNat - 39) else 0)
    (l : Fin 79) : wr41 a A y (ix3 h i l) = wrev 41 (a (ix2 i 0)).toNat A' l.val := by
  pointwise [wr41]
  have hlt := l.isLt
  by_cases h1 : l.val < 1
  · rw [dif_pos h1]
    unfold wrev
    refine Finset.sum_congr rfl fun c _ => ?_
    have hc := c.isLt
    have e : (BitVec.ofNat 32 c.val).toNat = c.val := by rw [BitVec.toNat_ofNat]; exact Nat.mod_eq_of_lt (by omega)
    have hi := sle_iff (BitVec.ofNat 32 c.val) (a (ix2 i 0)) (by rw [e]; omega) (by omega)
    rw [e] at hi
    unfold Scalar.select
    have hr : (relI (a (ix2 i 0)).toNat c.val).val = min ((a (ix2 i 0)).toNat + 39 - c.val) 78 := rfl
    by_cases hh : c.val + 39 ≤ (a (ix2 i 0)).toNat
    · exact ((if_pos (hi.2 hh)).trans (hA c)).trans (if_pos (by omega)).symm
    · exact (if_neg (fun e => hh (hi.1 e))).trans (if_neg (by omega)).symm
  · rw [dif_neg h1]
    by_cases h2 : l.val - 1 < 77
    · rw [dif_pos h2, wrev_mid _ _ _ _ (by omega) (by omega)]
      refine Eq.trans ?_ (hy l)
      congr 2
      apply Fin.ext
      show 1 + (l.val - 1) = l.val
      omega
    · rw [dif_neg h2]
      unfold wrev
      refine Finset.sum_congr rfl fun c _ => ?_
      have hc := c.isLt
      have e : (BitVec.ofNat 32 c.val).toNat = c.val := by rw [BitVec.toNat_ofNat]; exact Nat.mod_eq_of_lt (by omega)
      have hi := sge_iff (BitVec.ofNat 32 c.val) (a (ix2 i 0)) (by rw [e]; omega) (by omega)
      rw [e] at hi
      unfold Scalar.select
      have hr : (relI (a (ix2 i 0)).toNat c.val).val = min ((a (ix2 i 0)).toNat + 39 - c.val) 78 := rfl
      by_cases hh : (a (ix2 i 0)).toNat + 39 ≤ c.val
      · exact ((if_pos (hi.2 hh)).trans (hA c)).trans (if_pos (by omega)).symm
      · exact (if_neg (fun e => hh (hi.1 e))).trans (if_neg (by omega)).symm

/-- A row of weights between zeros, 39 to the left. -/
def zp101 (A : FVec Ideal S2x256x101 .f32) : FVec Ideal S2x256x256 .f32 :=
  concatenate S2x256x256 2 [⟨S2x256x39, broadcast S2x256x39 (Scalar.ofBits (F := Ideal) .f32 0x00000000#32)⟩,
    ⟨S2x256x101, shapeCast S2x256x101 A shapeCasts_S2x256x101_S2x256x101⟩, ⟨S2x256x116, broadcast S2x256x116 (Scalar.ofBits (F := Ideal) .f32 0x00000000#32)⟩]
    concatenates_S2x256x39_S2x256x101_S2x256x116_S2x256x256_d2

/-- The padded row of 101 weights, entry by entry. -/
theorem zp101_apply (A : FVec Ideal S2x256x101 .f32) (A' : Nat → EReal) (h : Fin 2) (i : Fin 256) (p : Fin 256)
    (hA : ∀ c : Fin 101, A (ix3 h i c) = A' c.val) :
    zp101 A (ix3 h i p) = if 39 ≤ p.val ∧ p.val - 39 < 101 then A' (p.val - 39) else 0 := by
  pointwise [zp101]
  by_cases h1 : p.val < 39
  · exact (dif_pos h1).trans (if_neg (by omega)).symm
  · rw [dif_neg h1]
    by_cases h2 : p.val - 39 < 101
    · refine (dif_pos h2).trans ((hA ⟨p.val - 39, h2⟩).trans (if_pos ⟨by omega, h2⟩).symm)
    · exact (dif_neg h2).trans (if_neg (by omega)).symm

/-- The row of 79 weights from the rotated weights, its two end columns sums. -/
def wr101 (a : IVec S256x1 32) (A : FVec Ideal S2x256x101 .f32) (y : FVec Ideal S2x256x79 .f32) : FVec Ideal S2x256x79 .f32 :=
  concatenate S2x256x79 2 [
    ⟨S2x256x1, shapeCast S2x256x1 (multiReduction .add [2] S2x256 (select (cmpi .sle (iota .tc S2x256x101 32 [2] iota_S2x256x101_d2_w32)
      (broadcastTo S2x256x101 (subi (shapeCast S1x256x1 a shapeCasts_S256x1_S1x256x1) (broadcast S1x256x1 39#32)) broadcasts_S1x256x1_S2x256x101))
      (shapeCast S2x256x101 A shapeCasts_S2x256x101_S2x256x101) (broadcast S2x256x101 (Scalar.ofBits (F := Ideal) .f32 0x00000000#32)))
      0x00000000#32 reduces_S2x256x101_S2x256 (.inl rfl) rfl) shapeCasts_S2x256_S2x256x1⟩,
    ⟨S2x256x77, extractStridedSlice S2x256x77 ![0, 0, 1] y slices_S2x256x79_o0_0_1_S2x256x77⟩,
    ⟨S2x256x1, shapeCast S2x256x1 (multiReduction .add [2] S2x256 (select (cmpi .sge (iota .tc S2x256x101 32 [2] iota_S2x256x101_d2_w32)
      (broadcastTo S2x256x101 (addi (shapeCast S1x256x1 a shapeCasts_S256x1_S1x256x1) (broadcast S1x256x1 39#32)) broadcasts_S1x256x1_S2x256x101))
      (shapeCast S2x256x101 A shapeCasts_S2x256x101_S2x256x101) (broadcast S2x256x101 (Scalar.ofBits (F := Ideal) .f32 0x00000000#32)))
      0x00000000#32 reduces_S2x256x101_S2x256 (.inl rfl) rfl) shapeCasts_S2x256_S2x256x1⟩]
    concatenates_S2x256x1_S2x256x77_S2x256x1_S2x256x79_d2

/-- From 101 rotated weights, with the end columns' sums, come the weights per table row. -/
theorem wr101_apply (a : IVec S256x1 32) (A : FVec Ideal S2x256x101 .f32) (y : FVec Ideal S2x256x79 .f32) (A' : Nat → EReal) (h : Fin 2) (i : Fin 256)
    (ha : (a (ix2 i 0)).toNat < 101) (hA : ∀ c : Fin 101, A (ix3 h i c) = A' c.val)
    (hy : ∀ l : Fin 79, y (ix3 h i l) = if 39 ≤ l.val + (a (ix2 i 0)).toNat ∧ l.val + (a (ix2 i 0)).toNat - 39 < 101 then A' (l.val + (a (ix2 i 0)).toNat - 39) else 0)
    (l : Fin 79) : wr101 a A y (ix3 h i l) = wrev 101 (a (ix2 i 0)).toNat A' l.val := by
  pointwise [wr101]
  have hlt := l.isLt
  by_cases h1 : l.val < 1
  · rw [dif_pos h1]
    unfold wrev
    refine Finset.sum_congr rfl fun c _ => ?_
    have hc := c.isLt
    have e : (BitVec.ofNat 32 c.val).toNat = c.val := by rw [BitVec.toNat_ofNat]; exact Nat.mod_eq_of_lt (by omega)
    have hi := sle_iff (BitVec.ofNat 32 c.val) (a (ix2 i 0)) (by rw [e]; omega) (by omega)
    rw [e] at hi
    unfold Scalar.select
    have hr : (relI (a (ix2 i 0)).toNat c.val).val = min ((a (ix2 i 0)).toNat + 39 - c.val) 78 := rfl
    by_cases hh : c.val + 39 ≤ (a (ix2 i 0)).toNat
    · exact ((if_pos (hi.2 hh)).trans (hA c)).trans (if_pos (by omega)).symm
    · exact (if_neg (fun e => hh (hi.1 e))).trans (if_neg (by omega)).symm
  · rw [dif_neg h1]
    by_cases h2 : l.val - 1 < 77
    · rw [dif_pos h2, wrev_mid _ _ _ _ (by omega) (by omega)]
      refine Eq.trans ?_ (hy l)
      congr 2
      apply Fin.ext
      show 1 + (l.val - 1) = l.val
      omega
    · rw [dif_neg h2]
      unfold wrev
      refine Finset.sum_congr rfl fun c _ => ?_
      have hc := c.isLt
      have e : (BitVec.ofNat 32 c.val).toNat = c.val := by rw [BitVec.toNat_ofNat]; exact Nat.mod_eq_of_lt (by omega)
      have hi := sge_iff (BitVec.ofNat 32 c.val) (a (ix2 i 0)) (by rw [e]; omega) (by omega)
      rw [e] at hi
      unfold Scalar.select
      have hr : (relI (a (ix2 i 0)).toNat c.val).val = min ((a (ix2 i 0)).toNat + 39 - c.val) 78 := rfl
      by_cases hh : (a (ix2 i 0)).toNat + 39 ≤ c.val
      · exact ((if_pos (hi.2 hh)).trans (hA c)).trans (if_pos (by omega)).symm
      · exact (if_neg (fun e => hh (hi.1 e))).trans (if_neg (by omega)).symm

/-- The rotated weights of two narrow axes. -/
def cmb4 (a b : IVec S256x1 32) (A B : FVec Ideal S2x256x41 .f32) : FVec Ideal S4x256x128 .f32 :=
  bar6 (K := 4) shapeCasts_S4x256x1_S4x256x1 broadcasts_S4x256x1_S4x256x128 rotates_S4x256x128_d2
    (concatenate S4x256x1 0 [⟨S2x256x1, am2 a⟩, ⟨S2x256x1, am2 b⟩] concatenates_S2x256x1_S2x256x1_S4x256x1_d0)
    (concatenate S4x256x128 0 [⟨S2x256x128, zp41 A⟩, ⟨S2x256x128, zp41 B⟩] concatenates_S2x256x128_S2x256x128_S4x256x128_d0)

/-- The rotated weights of the wide axis. -/
def cmb2 (a : IVec S256x1 32) (A : FVec Ideal S2x256x101 .f32) : FVec Ideal S2x256x256 .f32 :=
  bar7 (K := 2) shapeCasts_S2x256x1_S2x256x1 broadcasts_S2x256x1_S2x256x256 rotates_S2x256x256_d2 (am2 a) (zp101 A)

/-- The wide axis's rotated weights, entry by entry. -/
theorem cmb2_apply (a : IVec S256x1 32) (A : FVec Ideal S2x256x101 .f32) (A' : Nat → EReal) (h : Fin 2) (i : Fin 256)
    (ha : (a (ix2 i 0)).toNat < 101) (hA : ∀ c : Fin 101, A (ix3 h i c) = A' c.val) (l : Fin 79) :
    extractStridedSlice S2x256x79 ![0, 0, 0] (cmb2 a A) slices_S2x256x256_o0_0_0_S2x256x79 (ix3 h i l)
      = if 39 ≤ l.val + (a (ix2 i 0)).toNat ∧ l.val + (a (ix2 i 0)).toNat - 39 < 101 then A' (l.val + (a (ix2 i 0)).toNat - 39) else 0 := by
  have hl := l.isLt
  refine Eq.trans (b := cmb2 a A (ix3 h i ⟨l.val, by omega⟩)) (by pointwise []) ?_
  unfold cmb2
  rw [bar7_apply _ _ _ _ _ h i ⟨l.val, by omega⟩ ⟨l.val + (a (ix2 i 0)).toNat, by omega⟩ (by rw [am2_apply]; omega) (by rw [am2_apply])]
  exact zp101_apply A A' h i ⟨l.val + (a (ix2 i 0)).toNat, by omega⟩ hA

/-- The first narrow axis's rotated weights, entry by entry. -/
theorem cmb4_0 (a b : IVec S256x1 32) (A B : FVec Ideal S2x256x41 .f32) (A' : Nat → EReal) (h : Fin 2) (i : Fin 256)
    (ha : (a (ix2 i 0)).toNat < 41) (hA : ∀ c : Fin 41, A (ix3 h i c) = A' c.val) (l : Fin 79) :
    extractStridedSlice S2x256x79 ![0, 0, 0] (cmb4 a b A B) slices_S4x256x128_o0_0_0_S2x256x79 (ix3 h i l)
      = if 39 ≤ l.val + (a (ix2 i 0)).toNat ∧ l.val + (a (ix2 i 0)).toNat - 39 < 41 then A' (l.val + (a (ix2 i 0)).toNat - 39) else 0 := by
  have hl := l.isLt
  have hh := h.isLt
  have hamt : concatenate S4x256x1 0 [⟨S2x256x1, am2 a⟩, ⟨S2x256x1, am2 b⟩] concatenates_S2x256x1_S2x256x1_S4x256x1_d0 (ix3 (⟨h.val, by omega⟩ : Fin 4) i 0)
      = a (ix2 i 0) := by
    pointwise [am2]
  refine Eq.trans (b := cmb4 a b A B (ix3 ⟨h.val, by omega⟩ i ⟨l.val, by omega⟩)) (by pointwise []) ?_
  unfold cmb4
  rw [bar6_apply _ _ _ _ _ _ i ⟨l.val, by omega⟩ ⟨l.val + (a (ix2 i 0)).toNat, by omega⟩ (by rw [hamt]; omega) (by rw [hamt])]
  refine Eq.trans ?_ (zp41_apply A A' h i ⟨l.val + (a (ix2 i 0)).toNat, by omega⟩ hA)
  pointwise []

/-- The second narrow axis's rotated weights, entry by entry. -/
theorem cmb4_1 (a b : IVec S256x1 32) (A B : FVec Ideal S2x256x41 .f32) (A' : Nat → EReal) (h : Fin 2) (i : Fin 256)
    (ha : (b (ix2 i 0)).toNat < 41) (hA : ∀ c : Fin 41, B (ix3 h i c) = A' c.val) (l : Fin 79) :
    extractStridedSlice S2x256x79 ![2, 0, 0] (cmb4 a b A B) slices_S4x256x128_o2_0_0_S2x256x79 (ix3 h i l)
      = if 39 ≤ l.val + (b (ix2 i 0)).toNat ∧ l.val + (b (ix2 i 0)).toNat - 39 < 41 then A' (l.val + (b (ix2 i 0)).toNat - 39) else 0 := by
  have hl := l.isLt
  have hh := h.isLt
  have hamt : concatenate S4x256x1 0 [⟨S2x256x1, am2 a⟩, ⟨S2x256x1, am2 b⟩] concatenates_S2x256x1_S2x256x1_S4x256x1_d0 (ix3 (⟨2 + h.val, by omega⟩ : Fin 4) i 0)
      = b (ix2 i 0) := by
    pointwise [am2]
  refine Eq.trans (b := cmb4 a b A B (ix3 ⟨2 + h.val, by omega⟩ i ⟨l.val, by omega⟩)) (by pointwise []) ?_
  unfold cmb4
  rw [bar6_apply _ _ _ _ _ _ i ⟨l.val, by omega⟩ ⟨l.val + (b (ix2 i 0)).toNat, by omega⟩ (by rw [hamt]; omega) (by rw [hamt])]
  refine Eq.trans ?_ (zp41_apply B A' h i ⟨l.val + (b (ix2 i 0)).toNat, by omega⟩ hA)
  pointwise []

end Cert.KernelIdeal.Roll
end
-- ==== Proof.SpecC.lean ====
module

public import proofs.«01_k».proof.Proof.SpecB
public import proofs.«01_k».proof.Proof.Fold

@[expose] public section

noncomputable section

namespace Cert.Spec

open Idealize.ShloMosaic

/-- The head's place in its strip. -/
def hq (h : Fin 6) : Fin 2 := ⟨h.val % 2, by omega⟩

/-- A point's quantised positions in a strip's windows. -/
def pos (r : Fin 2048 → Fin 3 → EReal) (s : Fin 3) (n : Fin 2048) (d : Fin 3) : Nat := (QD (r n d) (wS s d)).toNat

/-- The attention weights of a head: the softmax, over the points, of the scores of the points that share a window. -/
def PP (r : Fin 2048 → Fin 3 → EReal) (b : Fin 2048 → BitVec 32) (L : Fin 2048 → Fin 1152 → EReal)
    (TQ TK : Fin 79 → Fin 3 → Fin 2 → Fin 64 → EReal) (h : Fin 6) (n : Fin 2048) : Fin 2048 → EReal :=
  smx (fun m => msk (WID (b n) (r n) (st h)) (WID (b m) (r m) (st h))
    (score (qh (L n) h) (kh (L m) h) (fun d l e => TQ l d (hq h) e) (fun d l e => TK l d (hq h) e) (pos r (st h) n) (pos r (st h) m)))

/-- A head's result: the values weighed, and the value table's rows weighed by what falls on each of them. -/
def YY (r : Fin 2048 → Fin 3 → EReal) (b : Fin 2048 → BitVec 32) (L : Fin 2048 → Fin 1152 → EReal)
    (TQ TK TV : Fin 79 → Fin 3 → Fin 2 → Fin 64 → EReal) (h : Fin 6) (n : Fin 2048) (e : Fin 64) : EReal :=
  ∑ m, PP r b L TQ TK h n m * vh (L m) h e
    + ∑ d, ∑ l : Fin 79, (∑ m, if relI (pos r (st h) n d) (pos r (st h) m d) = l then PP r b L TQ TK h n m else 0) * TV l d (hq h) e

/-- The whole result: the heads side by side through the last linear map. -/
def OUT (r : Fin 2048 → Fin 3 → EReal) (b : Fin 2048 → BitVec 32) (L : Fin 2048 → Fin 1152 → EReal)
    (TQ TK TV : Fin 79 → Fin 3 → Fin 2 → Fin 64 → EReal) (pw : Fin 384 → Fin 384 → EReal) (pb : Fin 384 → EReal) (n : Fin 2048) (j : Fin 384) : EReal :=
  ∑ x : Fin 384, YY r b L TQ TK TV ⟨x.val / 64, by omega⟩ n ⟨x.val % 64, by omega⟩ * pw j x + pb j

/-- A reversed row of weights that are sums of the weights at each position, as one sum over the points. -/
theorem wrev_sum (C a : Nat) (P : Fin 2048 → EReal) (B : Fin 2048 → Nat) (hB : ∀ m, B m < C) (A : Nat → EReal)
    (hA : ∀ c, c < C → A c = ∑ m, P m * oh c (B m)) (l : Nat) :
    wrev C a A l = ∑ m, if (relI a (B m)).val + l = 78 then P m else 0 := by
  unfold wrev
  have e : ∀ c : Fin C, (if (relI a c.val).val + l = 78 then A c.val else 0)
      = ∑ m, if (relI a c.val).val + l = 78 then P m * oh c.val (B m) else 0 := by
    intro c
    by_cases h : (relI a c.val).val + l = 78
    · simp only [if_pos h]
      exact hA _ c.isLt
    · simp only [if_neg h]
      exact Finset.sum_const_zero.symm
  rw [Finset.sum_congr rfl fun c _ => e c, Finset.sum_comm]
  refine Finset.sum_congr rfl fun m _ => ?_
  rw [Finset.sum_eq_single (⟨B m, hB m⟩ : Fin C)]
  · simp [oh]
  · intro c _ hc
    have : c.val ≠ B m := fun e => hc (Fin.ext e)
    simp [oh, this]
  · intro h; exact absurd (Finset.mem_univ _) h

/-- A product with three reversed rows laid end to end, axis by axis and row by row of the table. -/
theorem sum_wcat (s : Fin 3) (a : Fin 3 → Nat) (A : Fin 3 → Nat → EReal) (T : Fin 79 → Fin 3 → EReal) :
    ∑ x : Fin 237, wcat s a A x.val * T ⟨78 - x.val % 79, by omega⟩ ⟨x.val / 79, by omega⟩
      = ∑ d, ∑ l : Fin 79, wrev (cS s d) (a d) (A d) (78 - l.val) * T l d := by
  have key : ∀ d : Fin 3, ∀ l : Fin 79, wcat s a A (l.val + 79 * d.val) = wrev (cS s d) (a d) (A d) l.val := by
    intro d l
    have hl := l.isLt
    unfold wcat
    match d with
    | 0 => rw [if_pos (by simp)]; rfl
    | 1 =>
      rw [if_neg (by simp), if_pos (by simp)]
      congr 1
    | 2 =>
      rw [if_neg (by simp), if_neg (by simp)]
      congr 1
  have h := (finProdFinEquiv (m := 3) (n := 79)).sum_comp (fun x : Fin (3 * 79) => wcat s a A x.val * T ⟨78 - x.val % 79, by omega⟩ ⟨x.val / 79, by omega⟩)
  refine h.symm.trans ?_
  rw [Fintype.sum_prod_type]
  refine Finset.sum_congr rfl fun d _ => ?_
  refine (Equiv.sum_comp (Fin.revPerm (n := 79)) _).symm.trans ?_
  refine Finset.sum_congr rfl fun l _ => ?_
  have hl := l.isLt
  have hv : (Fin.revPerm l).val = 78 - l.val := by simp [Fin.rev]
  have hx : (finProdFinEquiv (d, Fin.revPerm l)).val = (Fin.revPerm l).val + 79 * d.val := rfl
  refine congrArg₂ (· * ·) ?_ (congrArg₂ T (Fin.ext ?_) (Fin.ext ?_))
  · rw [hx, key, hv]
  · show 78 - (finProdFinEquiv (d, Fin.revPerm l)).val % 79 = l.val
    rw [hx, hv]; omega
  · show (finProdFinEquiv (d, Fin.revPerm l)).val / 79 = d.val
    rw [hx, hv]; omega

end Cert.Spec
end
-- ==== Proof.Range.lean ====
module

public import proofs.«01_k».proof.Proof.SpecB

@[expose] public section

noncomputable section

namespace Cert.Spec

open Idealize.ShloMosaic

/-- The smaller window, as a real. -/
theorem w04 : Ideal.ofBits .f32 1053609165#32 = ((13421773 / 2 ^ 25 : ℝ) : EReal) := by
  simp [Ideal.ofBits, Ideal.ieee, -EReal.coe_mul]; norm_num

/-- The quantum, as a real. -/
theorem w001 : Ideal.ofBits .f32 1008981770#32 = ((10737418 / 2 ^ 30 : ℝ) : EReal) := by
  simp [Ideal.ofBits, Ideal.ieee, -EReal.coe_mul]; norm_num

/-- The floor modulus of a nonnegative real by a positive one lies below it. -/
theorem FM_real (x w : ℝ) (hx : 0 ≤ x) (hw : 0 < w) : ∃ y : ℝ, FM x w = (y : EReal) ∧ 0 ≤ y ∧ y < w := by
  have hd : 0 ≤ x / w := div_nonneg hx hw.le
  have e : Ideal.remf (x : EReal) (w : EReal) = ((x - w * (⌊x / w⌋ : ℝ) : ℝ) : EReal) := by
    rw [Ideal.remf_coe, if_neg hw.ne', Ideal.truncInt, if_pos hd]
  have h1 := Int.floor_le (x / w)
  have h2 := Int.lt_floor_add_one (x / w)
  have hxw : x / w * w = x := div_mul_cancel₀ x hw.ne'
  have g1 : 0 ≤ x - w * (⌊x / w⌋ : ℝ) := by nlinarith
  have g2 : x - w * (⌊x / w⌋ : ℝ) < w := by nlinarith
  refine ⟨_, ?_, g1, g2⟩
  have n1 : ¬ (Ideal.remf (x : EReal) (w : EReal) < 0) := by
    rw [e]; exact not_lt.mpr (by exact_mod_cast g1)
  have n2 : ¬ ((w : EReal) < 0) := not_lt.mpr (by exact_mod_cast hw.le)
  unfold FM
  rw [decide_eq_false n1, decide_eq_false n2, e]
  cases decide (((x - w * (⌊x / w⌋ : ℝ) : ℝ) : EReal) ≠ 0) <;> rfl

/-- The quantised position of a nonnegative real in a window `w` of fewer than `k` quanta. -/
theorem QD_real (x w : ℝ) (k : Nat) (hx : 0 ≤ x) (hw : 0 < w) (hk : w ≤ k * (10737418 / 2 ^ 30)) (hk' : k < 1000) : (QD x w).toNat < k := by
  obtain ⟨y, e, h0, h1⟩ := FM_real x w hx hw
  unfold QD
  rw [e, w001, Ideal.div_coe (by norm_num), ← EReal.coe_mul, Ideal.liftRound_coe]
  have hq0 : (0 : ℝ) ≤ y * (1 / (10737418 / 2 ^ 30)) := by positivity
  have hq1 : y * (1 / (10737418 / 2 ^ 30)) < (k : ℝ) := by
    rw [mul_one_div, div_lt_iff₀ (by norm_num)]
    exact lt_of_lt_of_le h1 hk
  set q := y * (1 / (10737418 / 2 ^ 30)) with hq
  have f0 : 0 ≤ ⌊q⌋ := Int.floor_nonneg.mpr hq0
  have f1 : ⌊q⌋ < (k : ℤ) := Int.floor_lt.mpr (by exact_mod_cast hq1)
  show (BitVec.ofInt 32 (Ideal.toIntClamped _ _ ((⌊q⌋ : ℝ) : EReal))).toNat < k
  rw [Ideal.toIntClamped_coe, if_pos (by exact_mod_cast f0), Int.floor_intCast]
  have hk2 : (k : ℤ) < 1000 := by exact_mod_cast hk'
  generalize ⌊q⌋ = z at f0 f1
  have hz : max (-((2 ^ (32 - 1) : Nat) : ℤ)) (min (((2 ^ (32 - 1) : Nat) : ℤ) - 1) z) = z := by
    norm_num; omega
  rw [hz, BitVec.toNat_ofInt]
  omega

/-- A nonnegative real's quantised positions lie in the strips' ranges. -/
theorem QD_lt (x : ℝ) (hx : 0 ≤ x) (s d : Fin 3) : (QD x (wS s d)).toNat < cS s d := by
  unfold wS cS
  split
  · rw [show (1 : EReal) = ((1 : ℝ) : EReal) from rfl]
    exact QD_real x 1 101 hx (by norm_num) (by norm_num) (by norm_num)
  · rw [w04]
    exact QD_real x _ 41 hx (by norm_num) (by norm_num) (by norm_num)

end Cert.Spec
end
-- ==== Proof.RA.lean ====
module

public import proofs.«01_k».proof.Proof.Gen.ReferenceIdeal.Read
public import proofs.«01_k».proof.Proof.SpecC
public import proofs.«01_k».proof.Proof.Range
public import Idealize.ShloMosaic.Lib.Pointwise
public import Idealize.ShloMosaic.Lib.StableHlo.Predicate

@[expose] public section

noncomputable section

namespace Cert.ReferenceIdeal.Roll

open Cert.ReferenceIdeal Cert.ReferenceIdeal.Gen Cert.ReferenceIdeal.Read Cert.Spec Idealize.ShloMosaic Idealize.ShloMosaic.TcCoe

/-- A head's channel among the linear map's outputs. -/
theorem v4_at (x0 : FVec Ideal S2048x384 .f32) (x3 : FVec Ideal S1152x384 .f32) (x4 : FVec Ideal S1152 .f32) (n : Fin 2048) (j : Fin 1152) :
    val_main_v4 (F := Ideal) x0 x3 x4 (ix2 n j) = lin (fun x => x0 (ix2 n x)) (fun j x => x3 (ix2 j x)) (fun j => x4 (ix1 j)) j := by
  pointwise [val_main_v4, val_main_v3, val_main_v2, val_main_v1, val_main_v0]
  rfl

/-- The linear map's columns, split into query, key and value, strip, head and channel. -/
theorem v5_at (x0 : FVec Ideal S2048x384 .f32) (x3 : FVec Ideal S1152x384 .f32) (x4 : FVec Ideal S1152 .f32) (n : Fin 2048) (a s : Fin 3) (p : Fin 2) (e : Fin 64) :
    val_main_v5 (F := Ideal) x0 x3 x4 (ix5 n a s p e) = val_main_v4 (F := Ideal) x0 x3 x4 (ix2 n ⟨a.val * 384 + (2 * s.val + p.val) * 64 + e.val, by omega⟩) := by
  refine (val_main_v5_apply (F := Ideal) x0 x3 x4 (ix5 n a s p e)).trans (congrArg _ ?_)
  have hn := n.isLt
  have ha := a.isLt
  have hs := s.isLt
  have hp := p.isLt
  have he := e.isLt
  refine funext fun d => Fin.ext ?_
  match d with
  | ⟨0, _⟩ => show ((((n.val * 3 + a.val) * 3 + s.val) * 2 + p.val) * 64 + e.val) / 1152 = n.val; omega
  | ⟨1, _⟩ => show ((((n.val * 3 + a.val) * 3 + s.val) * 2 + p.val) * 64 + e.val) % 1152 = a.val * 384 + (2 * s.val + p.val) * 64 + e.val; omega

/-- The linear map's outputs of one point. -/
abbrev LN (x0 : FVec Ideal S2048x384 .f32) (x3 : FVec Ideal S1152x384 .f32) (x4 : FVec Ideal S1152 .f32) (n : Fin 2048) : Fin 1152 → EReal :=
  lin (fun x => x0 (ix2 n x)) (fun j x => x3 (ix2 j x)) (fun j => x4 (ix1 j))

/-- The scaled queries. -/
theorem v9_at (x0 : FVec Ideal S2048x384 .f32) (x3 : FVec Ideal S1152x384 .f32) (x4 : FVec Ideal S1152 .f32) (n : Fin 2048) (s : Fin 3) (p : Fin 2) (e : Fin 64) :
    val_main_v9 (F := Ideal) x0 x3 x4 (ix4 n s p e) = qh (LN x0 x3 x4 n) (hd s p) e := by
  have h : val_main_v7 (F := Ideal) x0 x3 x4 (ix4 n s p e) = val_main_v5 (F := Ideal) x0 x3 x4 (ix5 n 0 s p e) := by
    pointwise [val_main_v7, val_main_v6]
  show FloatOps.mulf (F := Ideal) (φ := .f32) (val_main_v7 (F := Ideal) x0 x3 x4 (ix4 n s p e)) (val_main_v8 (F := Ideal) (ix4 n s p e)) = _
  rw [h, v5_at, v4_at, val_main_v8_apply]
  refine congrArg (fun z => z * _) (congrArg (LN x0 x3 x4 n) (Fin.ext ?_))
  show 0 * 384 + (2 * s.val + p.val) * 64 + e.val = (2 * s.val + p.val) * 64 + e.val
  omega

/-- The keys. -/
theorem v11_at (x0 : FVec Ideal S2048x384 .f32) (x3 : FVec Ideal S1152x384 .f32) (x4 : FVec Ideal S1152 .f32) (n : Fin 2048) (s : Fin 3) (p : Fin 2) (e : Fin 64) :
    val_main_v11 (F := Ideal) x0 x3 x4 (ix4 n s p e) = kh (LN x0 x3 x4 n) (hd s p) e := by
  have h : val_main_v11 (F := Ideal) x0 x3 x4 (ix4 n s p e) = val_main_v5 (F := Ideal) x0 x3 x4 (ix5 n 1 s p e) := by
    pointwise [val_main_v11, val_main_v10]
  rw [h, v5_at, v4_at]
  refine congrArg (LN x0 x3 x4 n) (Fin.ext ?_)
  show 1 * 384 + (2 * s.val + p.val) * 64 + e.val = 384 + (2 * s.val + p.val) * 64 + e.val
  omega

/-- The values. -/
theorem v13_at (x0 : FVec Ideal S2048x384 .f32) (x3 : FVec Ideal S1152x384 .f32) (x4 : FVec Ideal S1152 .f32) (n : Fin 2048) (s : Fin 3) (p : Fin 2) (e : Fin 64) :
    val_main_v13 (F := Ideal) x0 x3 x4 (ix4 n s p e) = vh (LN x0 x3 x4 n) (hd s p) e := by
  have h : val_main_v13 (F := Ideal) x0 x3 x4 (ix4 n s p e) = val_main_v5 (F := Ideal) x0 x3 x4 (ix5 n 2 s p e) := by
    pointwise [val_main_v13, val_main_v12]
  rw [h, v5_at, v4_at]
  refine congrArg (LN x0 x3 x4 n) (Fin.ext ?_)
  show 2 * 384 + (2 * s.val + p.val) * 64 + e.val = 768 + (2 * s.val + p.val) * 64 + e.val
  omega

/-- The strips' windows. -/
theorem v23_at (s d : Fin 3) : val_main_v23 (F := Ideal) (ix3 s 0 d) = wS s d := by
  have h : val_main_v23 (F := Ideal) (ix3 s 0 d) = Scalar.select (IntOp.cmpi .eq (IntOp.addi (BitVec.ofNat 32 s.val) (BitVec.ofNat 32 d.val)) 2#32)
      (Ideal.ofBits .f32 0x3F800000#32) (Ideal.ofBits .f32 0x3ECCCCCD#32) := by
    pointwise [val_main_v23, val_main_v22, val_main_v21, val_main_c, val_main_v20, val_main_v19, val_main_v18, val_main_v17, val_main_v16, val_main_v15, val_main_v14, val_main_call0_v0, val_main_call0_v1, val_main_cst_0, val_main_cst_1]
    all_goals rfl
  rw [h, Ideal.ofBits_one_f32]
  unfold wS
  fin_cases s <;> fin_cases d <;> rfl

/-- The windows' indices. -/
theorem v33_at (x1 : FVec Ideal S2048x3 .f32) (s : Fin 3) (n : Fin 2048) (d : Fin 3) :
    val_main_v33 (F := Ideal) x1 (ix3 s n d) = WI (val_main_v27 (F := Ideal) x1 (ix2 n d)) (wS s d) := by
  unfold WI
  rw [← v23_at s d]
  pointwise [val_main_v33, val_main_v32, val_main_v31, val_main_v30, val_main_v29, val_main_v28]

/-- The windows' numbers. -/
theorem v50_at (x1 : FVec Ideal S2048x3 .f32) (x2 : IVec S2048 32) (s : Fin 3) (n : Fin 2048) :
    val_main_v50 (F := Ideal) x1 x2 (ix2 s n) = WID (x2 (ix1 n)) (fun d => val_main_v27 (F := Ideal) x1 (ix2 n d)) s := by
  unfold WID
  rw [← v33_at x1 s n 0, ← v33_at x1 s n 1, ← v33_at x1 s n 2]
  pointwise [val_main_v50, val_main_v49, val_main_v48, val_main_v47, val_main_v46, val_main_c_5, val_main_v45, val_main_v44, val_main_v43, val_main_v42, val_main_v41, val_main_c_4, val_main_v40, val_main_v39, val_main_v38, val_main_v37, val_main_v36, val_main_v35, val_main_v34, val_main_c_3]

/-- Whether two points share a window. -/
theorem v55_at (x1 : FVec Ideal S2048x3 .f32) (x2 : IVec S2048 32) (s : Fin 3) (n m : Fin 2048) :
    val_main_v55 (F := Ideal) x1 x2 (ix3 s n m) = IntOp.cmpi .eq (WID (x2 (ix1 n)) (fun d => val_main_v27 (F := Ideal) x1 (ix2 n d)) s)
      (WID (x2 (ix1 m)) (fun d => val_main_v27 (F := Ideal) x1 (ix2 m d)) s) := by
  rw [← v50_at, ← v50_at]
  pointwise [val_main_v55, val_main_v54, val_main_v53, val_main_v52, val_main_v51]

/-- Two bits differ exactly where their exclusive or is one. -/
theorem ne_xor (a b : BitVec 1) : IntOp.cmpi .ne a b = IntOp.xori a b := by
  revert a b; decide

/-- The floor modulus as the reference computes it. -/
def FMr (x w : EReal) : EReal :=
  Scalar.select (IntOp.andi (IntOp.cmpi .ne (FloatOps.cmpf (F := Ideal) (φ := .f32) .olt (FloatOps.hostRemf (F := Ideal) (φ := .f32) x w) (Ideal.ofBits .f32 0#32))
      (FloatOps.cmpf (F := Ideal) (φ := .f32) .olt w (Ideal.ofBits .f32 0#32)))
      (FloatOps.cmpf (F := Ideal) (φ := .f32) .une (FloatOps.hostRemf (F := Ideal) (φ := .f32) x w) (Ideal.ofBits .f32 0#32)))
    (FloatOps.addf (F := Ideal) (φ := .f32) (FloatOps.hostRemf (F := Ideal) (φ := .f32) x w) w) (FloatOps.hostRemf (F := Ideal) (φ := .f32) x w)

/-- The reference's floor modulus is the kernel's. -/
theorem FMr_eq (x w : EReal) : FMr x w = FM x w := by
  unfold FMr
  rw [ne_xor, Ideal.ofBits_zero_f32]
  rfl

/-- The floor modulus. -/
theorem v56_at (x1 : FVec Ideal S2048x3 .f32) (s : Fin 3) (n : Fin 2048) (d : Fin 3) :
    val_main_v56 (F := Ideal) x1 (ix3 s n d) = FM (val_main_v27 (F := Ideal) x1 (ix2 n d)) (wS s d) := by
  rw [← FMr_eq, ← v23_at s d]
  unfold FMr
  pointwise [val_main_v56, val_main_call1_v12, val_main_call1_v14, val_main_call1_v13, val_main_call1_v11, val_main_call1_v10, val_main_call1_v9, val_main_call1_v8, val_main_call1_cst_1, val_main_call1_v7, val_main_call1_v6, val_main_call1_cst_0, val_main_call1_v5, val_main_call1_v4, val_main_call1_cst, val_main_call1_v3, val_main_call1_v2, val_main_call1_v1, val_main_call1_v0]
  all_goals rfl

/-- The quantised positions. -/
theorem v60_at (x1 : FVec Ideal S2048x3 .f32) (s : Fin 3) (n : Fin 2048) (d : Fin 3) :
    val_main_v60 (F := Ideal) x1 (ix3 s n d) = QD (val_main_v27 (F := Ideal) x1 (ix2 n d)) (wS s d) := by
  unfold QD
  rw [← v56_at]
  pointwise [val_main_v60, val_main_v59, val_main_v58, val_main_v57, val_main_cst_6]
  all_goals rfl

/-- The clipped difference of two small numbers. -/
theorem clip_rel (a b : BitVec 32) (ha : a.toNat < 101) (hb : b.toNat < 101) :
    IntOp.minsi 78#32 (IntOp.maxsi 0#32 (IntOp.addi (IntOp.subi a b) 39#32)) = BitVec.ofNat 32 (relI a.toNat b.toNat).val := by
  have hs : (IntOp.addi (IntOp.subi a b) 39#32).toInt = (a.toNat : Int) - b.toNat + 39 := by
    have e : IntOp.addi (IntOp.subi a b) 39#32 = a - b + 39#32 := rfl
    rw [e, BitVec.toInt_eq_toNat_bmod, BitVec.toNat_add, BitVec.toNat_sub]
    simp only [BitVec.toNat_ofNat, Int.bmod]
    omega
  generalize IntOp.addi (IntOp.subi a b) 39#32 = z at hs
  apply BitVec.eq_of_toInt_eq
  rw [StableHlo.Predicate.toInt_ofNat_small _ (by omega)]
  have h0 : (0#32).toInt = 0 := rfl
  have h78 : (78#32).toInt = 78 := rfl
  show (if (78#32).slt (if z.slt 0#32 then 0#32 else z) then 78#32 else (if z.slt 0#32 then 0#32 else z)).toInt = ((min (a.toNat + 39 - b.toNat) 78 : Nat) : Int)
  by_cases c0 : z.toInt < 0
  · have c1 : z.slt 0#32 = true := by rw [BitVec.slt_iff_toInt_lt, h0]; exact c0
    rw [if_pos c1, if_neg (by decide), h0]
    omega
  · have c1 : ¬ z.slt 0#32 = true := by rw [BitVec.slt_iff_toInt_lt, h0]; exact c0
    rw [if_neg c1]
    by_cases c2 : 78 < z.toInt
    · rw [if_pos (by rw [BitVec.slt_iff_toInt_lt, h78]; exact c2), h78]
      omega
    · rw [if_neg (by rw [BitVec.slt_iff_toInt_lt, h78]; exact c2)]
      omega

/-- A small number read as nonnegative is left as it is. -/
theorem wrap_at (k : Nat) (hk : k < 2 ^ 31) (c : BitVec 32) :
    Scalar.select (IntOp.cmpi .slt (BitVec.ofNat 32 k) 0#32) c (BitVec.ofNat 32 k) = BitVec.ofNat 32 k := by
  have h : ¬ (BitVec.ofNat 32 k).slt 0#32 = true := by
    rw [BitVec.slt_iff_toInt_lt, StableHlo.Predicate.toInt_ofNat_small _ hk]
    show ¬ ((k : Int) < 0)
    omega
  show (if BitVec.ofBool ((BitVec.ofNat 32 k).slt 0#32) = 1#1 then c else BitVec.ofNat 32 k) = _
  rw [Bool.eq_false_iff.mpr h]
  rfl

/-- All positions of the points are small. -/
def Small (x1 : FVec Ideal S2048x3 .f32) : Prop :=
  ∀ s n d, (QD (val_main_v27 (F := Ideal) x1 (ix2 n d)) (wS s d)).toNat < 101

/-- The position of a point. -/
abbrev ps (x1 : FVec Ideal S2048x3 .f32) (s : Fin 3) (n : Fin 2048) (d : Fin 3) : Nat := pos (fun n d => val_main_v27 (F := Ideal) x1 (ix2 n d)) s n d

/-- The clipped relative position. -/
theorem v68_at (x1 : FVec Ideal S2048x3 .f32) (hx : Small x1) (s : Fin 3) (n m : Fin 2048) (d : Fin 3) :
    val_main_v68 (F := Ideal) x1 (ix4 s n m d) = BitVec.ofNat 32 (relI (ps x1 s n d) (ps x1 s m d)).val := by
  refine Eq.trans ?_ (clip_rel _ _ (hx s n d) (hx s m d))
  rw [← v60_at, ← v60_at]
  pointwise [val_main_v68, val_main_call2_v4, val_main_call2_v3, val_main_call2_v2, val_main_call2_v1, val_main_call2_v0, val_main_c_9, val_main_c_8, val_main_v67, val_main_v66, val_main_c_7, val_main_v65, val_main_v64, val_main_v63, val_main_v62, val_main_v61]
  all_goals rfl

/-- The row of the table taken for a pair. -/
theorem w75_at (x1 : FVec Ideal S2048x3 .f32) (hx : Small x1) (s : Fin 3) (n m : Fin 2048) (d : Fin 3) :
    val_main_call3_v4 (F := Ideal) x1 (ix5 s n m d 0) = BitVec.ofNat 32 (relI (ps x1 s n d) (ps x1 s m d)).val := by
  refine Eq.trans ?_ (wrap_at _ (by omega) (IntOp.addi (BitVec.ofNat 32 (relI (ps x1 s n d) (ps x1 s m d)).val) 79#32))
  rw [← v68_at x1 hx]
  pointwise [val_main_call3_v4, val_main_call3_v3, val_main_call3_v2, val_main_call3_c_0, val_main_call3_v1, val_main_call3_v0, val_main_call3_c, val_main_v75]
  all_goals rfl

/-- The row of the other table taken for a pair. -/
theorem w78_at (x1 : FVec Ideal S2048x3 .f32) (hx : Small x1) (s : Fin 3) (n m : Fin 2048) (d : Fin 3) :
    val_main_call4_v4 (F := Ideal) x1 (ix5 s m n d 0) = BitVec.ofNat 32 (relI (ps x1 s n d) (ps x1 s m d)).val := by
  refine Eq.trans ?_ (wrap_at _ (by omega) (IntOp.addi (BitVec.ofNat 32 (relI (ps x1 s n d) (ps x1 s m d)).val) 79#32))
  rw [← v68_at x1 hx]
  pointwise [val_main_call4_v4, val_main_call4_v3, val_main_call4_v2, val_main_call4_c_0, val_main_call4_v1, val_main_call4_v0, val_main_call4_c, val_main_v78, val_main_v77]
  all_goals rfl

end Cert.ReferenceIdeal.Roll
-- ==== Proof.RG.lean ====
module

public import proofs.«01_k».proof.Proof.RA

@[expose] public section

set_option maxRecDepth 16384

noncomputable section

namespace Cert.ReferenceIdeal.Roll

open Cert.ReferenceIdeal Cert.ReferenceIdeal.Gen Cert.ReferenceIdeal.Read Cert.Spec Idealize.ShloMosaic Idealize.ShloMosaic.TcCoe

/-- The take's dimension numbers. -/
abbrev GD : GatherDims S3x2048x79x3x2 S3x2048x2048x3x1 S3x2048x2048x3x2 := gather_S3x2048x79x3x2_S3x2048x2048x3x1_S3x2048x2048x3x2_4_2_013_013_2_4_11112
/-- The addition's dimension numbers. -/
abbrev SD : ScatterDims S3x2048x3x79x2 S3x2048x2048x3x4 S3x2048x2048x3x2 := scatter_S3x2048x3x79x2_S3x2048x2048x3x4_S3x2048x2048x3x2_4_0123_0123_4

/-- The rows taken along an axis: an entry is the operand's at the row the indices name. -/
theorem gather_at (x : FVec Ideal S3x2048x79x3x2 .f32) (idx : IVec S3x2048x2048x3x1 32) (s : Fin 3) (n m : Fin 2048) (d : Fin 3) (p : Fin 2) (l : Fin 79)
    (h : idx (ix5 s n m d 0) = BitVec.ofNat 32 l.val) :
    Host.gather GD x idx (ix5 s n m d p) = x (ix5 s n l d p) := by
  unfold Host.gather
  refine congrArg x (funext fun a => Fin.ext ?_)
  show GatherDims.start GD (ix5 s n m d p) idx a + GatherDims.batchCoord GD (ix5 s n m d p) a + GatherDims.offCoord GD (ix5 s n m d p) a = _
  match a with
  | ⟨0, _⟩ =>
    unfold GatherDims.start GatherDims.batchCoord GatherDims.offCoord
    rw [dif_neg (show (⟨0, by decide⟩ : Fin S3x2048x79x3x2.rank) ∉ GD.startIndexMap by decide), dif_pos (show (⟨0, by decide⟩ : Fin S3x2048x79x3x2.rank) ∈ GD.operandBatchingDims by decide), dif_neg (show (⟨0, by decide⟩ : Fin S3x2048x79x3x2.rank) ∉ GD.sKept by decide)]
    simp only [Nat.zero_add, Nat.add_zero]
    rfl
  | ⟨1, _⟩ =>
    unfold GatherDims.start GatherDims.batchCoord GatherDims.offCoord
    rw [dif_neg (show (⟨1, by decide⟩ : Fin S3x2048x79x3x2.rank) ∉ GD.startIndexMap by decide), dif_pos (show (⟨1, by decide⟩ : Fin S3x2048x79x3x2.rank) ∈ GD.operandBatchingDims by decide), dif_neg (show (⟨1, by decide⟩ : Fin S3x2048x79x3x2.rank) ∉ GD.sKept by decide)]
    simp only [Nat.zero_add, Nat.add_zero]
    rfl
  | ⟨2, _⟩ =>
    unfold GatherDims.start GatherDims.batchCoord GatherDims.offCoord
    rw [dif_pos (show (⟨2, by decide⟩ : Fin S3x2048x79x3x2.rank) ∈ GD.startIndexMap by decide), dif_neg (show (⟨2, by decide⟩ : Fin S3x2048x79x3x2.rank) ∉ GD.operandBatchingDims by decide), dif_neg (show (⟨2, by decide⟩ : Fin S3x2048x79x3x2.rank) ∉ GD.sKept by decide)]
    simp only [Nat.zero_add, Nat.add_zero]
    have hsi : ∀ c, GatherDims.siIdx GD (ix5 s n m d p) c = ix5 s n m d 0 := by
      intro c
      refine funext fun b => Fin.ext ?_
      match b with
      | ⟨0, _⟩ => rfl
      | ⟨1, _⟩ => rfl
      | ⟨2, _⟩ => rfl
      | ⟨3, _⟩ => rfl
      | ⟨4, _⟩ => exact Nat.lt_one_iff.1 c.isLt
    have hl := l.isLt
    rw [hsi, h, StableHlo.Predicate.toInt_ofNat_small _ (by omega)]
    show min l.val 78 = l.val
    omega
  | ⟨3, _⟩ =>
    unfold GatherDims.start GatherDims.batchCoord GatherDims.offCoord
    rw [dif_neg (show (⟨3, by decide⟩ : Fin S3x2048x79x3x2.rank) ∉ GD.startIndexMap by decide), dif_pos (show (⟨3, by decide⟩ : Fin S3x2048x79x3x2.rank) ∈ GD.operandBatchingDims by decide), dif_neg (show (⟨3, by decide⟩ : Fin S3x2048x79x3x2.rank) ∉ GD.sKept by decide)]
    simp only [Nat.zero_add, Nat.add_zero]
    rfl
  | ⟨4, _⟩ =>
    unfold GatherDims.start GatherDims.batchCoord GatherDims.offCoord
    rw [dif_neg (show (⟨4, by decide⟩ : Fin S3x2048x79x3x2.rank) ∉ GD.startIndexMap by decide), dif_neg (show (⟨4, by decide⟩ : Fin S3x2048x79x3x2.rank) ∉ GD.operandBatchingDims by decide), dif_pos (show (⟨4, by decide⟩ : Fin S3x2048x79x3x2.rank) ∈ GD.sKept by decide)]
    simp only [Nat.zero_add, Nat.add_zero]
    rfl

/-- Where an update lands. -/
theorem result_at (idx : IVec S3x2048x2048x3x4 32) (s : Fin 3) (n m : Fin 2048) (d : Fin 3) (p : Fin 2) (l : Fin 79)
    (h0 : idx (ix5 s n m d 0) = BitVec.ofNat 32 s.val) (h1 : idx (ix5 s n m d 1) = BitVec.ofNat 32 n.val)
    (h2 : idx (ix5 s n m d 2) = BitVec.ofNat 32 d.val) (h3 : idx (ix5 s n m d 3) = BitVec.ofNat 32 l.val) :
    ScatterDims.resultIdx? SD (ix5 s n m d p) idx = some (ix5 s n d l p) := by
  have hsi : ∀ c, ScatterDims.siIdx SD (ix5 s n m d p) c = ix5 s n m d ⟨c.val, c.isLt⟩ := by
    intro c
    refine funext fun b => Fin.ext ?_
    match b with
    | ⟨0, _⟩ => rfl
    | ⟨1, _⟩ => rfl
    | ⟨2, _⟩ => rfl
    | ⟨3, _⟩ => rfl
    | ⟨4, _⟩ => rfl
  have key : ∀ a, ScatterDims.start SD (ix5 s n m d p) idx a + (ScatterDims.window SD (ix5 s n m d p) a : Int) = ((ix5 s n d l p a).val : Int) := by
    intro a
    match a with
    | ⟨0, _⟩ =>
      unfold ScatterDims.start ScatterDims.window
      rw [dif_pos (show (⟨0, by decide⟩ : Fin S3x2048x3x79x2.rank) ∈ SD.scatterDimsToOperandDims by decide), dif_neg (show (⟨0, by decide⟩ : Fin S3x2048x3x79x2.rank) ∉ SD.sKept by decide), hsi]
      refine (congrArg (fun z : BitVec 32 => z.toInt + ((0 : Nat) : Int)) h0).trans ?_
      show (BitVec.ofNat 32 s.val).toInt + ((0 : Nat) : Int) = (s.val : Int)
      rw [StableHlo.Predicate.toInt_ofNat_small _ (by omega)]
      omega
    | ⟨1, _⟩ =>
      unfold ScatterDims.start ScatterDims.window
      rw [dif_pos (show (⟨1, by decide⟩ : Fin S3x2048x3x79x2.rank) ∈ SD.scatterDimsToOperandDims by decide), dif_neg (show (⟨1, by decide⟩ : Fin S3x2048x3x79x2.rank) ∉ SD.sKept by decide), hsi]
      refine (congrArg (fun z : BitVec 32 => z.toInt + ((0 : Nat) : Int)) h1).trans ?_
      show (BitVec.ofNat 32 n.val).toInt + ((0 : Nat) : Int) = (n.val : Int)
      rw [StableHlo.Predicate.toInt_ofNat_small _ (by omega)]
      omega
    | ⟨2, _⟩ =>
      unfold ScatterDims.start ScatterDims.window
      rw [dif_pos (show (⟨2, by decide⟩ : Fin S3x2048x3x79x2.rank) ∈ SD.scatterDimsToOperandDims by decide), dif_neg (show (⟨2, by decide⟩ : Fin S3x2048x3x79x2.rank) ∉ SD.sKept by decide), hsi]
      refine (congrArg (fun z : BitVec 32 => z.toInt + ((0 : Nat) : Int)) h2).trans ?_
      show (BitVec.ofNat 32 d.val).toInt + ((0 : Nat) : Int) = (d.val : Int)
      rw [StableHlo.Predicate.toInt_ofNat_small _ (by omega)]
      omega
    | ⟨3, _⟩ =>
      unfold ScatterDims.start ScatterDims.window
      rw [dif_pos (show (⟨3, by decide⟩ : Fin S3x2048x3x79x2.rank) ∈ SD.scatterDimsToOperandDims by decide), dif_neg (show (⟨3, by decide⟩ : Fin S3x2048x3x79x2.rank) ∉ SD.sKept by decide), hsi]
      refine (congrArg (fun z : BitVec 32 => z.toInt + ((0 : Nat) : Int)) h3).trans ?_
      show (BitVec.ofNat 32 l.val).toInt + ((0 : Nat) : Int) = (l.val : Int)
      rw [StableHlo.Predicate.toInt_ofNat_small _ (by omega)]
      omega
    | ⟨4, _⟩ =>
      unfold ScatterDims.start ScatterDims.window
      rw [dif_neg (show (⟨4, by decide⟩ : Fin S3x2048x3x79x2.rank) ∉ SD.scatterDimsToOperandDims by decide), dif_pos (show (⟨4, by decide⟩ : Fin S3x2048x3x79x2.rank) ∈ SD.sKept by decide)]
      show (0 : Int) + ((p.val : Nat) : Int) = (p.val : Int)
      omega
  unfold ScatterDims.resultIdx?
  rw [dif_pos (fun a => by rw [key a]; exact ⟨by omega, by exact_mod_cast (ix5 s n d l p a).isLt⟩)]
  refine congrArg some (funext fun a => Fin.ext ?_)
  show (ScatterDims.start SD (ix5 s n m d p) idx a + (ScatterDims.window SD (ix5 s n m d p) a : Int)).toNat = _
  rw [key a]
  rfl

/-- The updates added up at a cell: over the second points whose row is the cell's. -/
theorem scatter_at (x : FVec Ideal S3x2048x3x79x2 .f32) (idx : IVec S3x2048x2048x3x4 32) (u : FVec Ideal S3x2048x2048x3x2 .f32)
    (L : Fin 3 → Fin 2048 → Fin 2048 → Fin 3 → Fin 79)
    (h0 : ∀ s n m d, idx (ix5 s n m d 0) = BitVec.ofNat 32 s.val) (h1 : ∀ s n m d, idx (ix5 s n m d 1) = BitVec.ofNat 32 n.val)
    (h2 : ∀ s n m d, idx (ix5 s n m d 2) = BitVec.ofNat 32 d.val) (h3 : ∀ s n m d, idx (ix5 s n m d 3) = BitVec.ofNat 32 (L s n m d).val)
    (s : Fin 3) (n : Fin 2048) (d : Fin 3) (l : Fin 79) (p : Fin 2) :
    Host.scatterAdd SD x idx u (ix5 s n d l p) = x (ix5 s n d l p) + ∑ m, if L s n m d = l then u (ix5 s n m d p) else 0 := by
  have e : ∀ j : S3x2048x2048x3x2.Idx, ∃ s' n' m' d' p', j = ix5 s' n' m' d' p' := fun j => ⟨j 0, j 1, j 2, j 3, j 4, by
    refine funext fun b => ?_
    match b with
    | ⟨0, _⟩ => rfl
    | ⟨1, _⟩ => rfl
    | ⟨2, _⟩ => rfl
    | ⟨3, _⟩ => rfl
    | ⟨4, _⟩ => rfl⟩
  show x (ix5 s n d l p) + ∑ j ∈ Finset.univ.filter (fun j => ScatterDims.resultIdx? SD j idx = some (ix5 s n d l p)), u j = _
  refine congrArg (fun z => x (ix5 s n d l p) + z) ?_
  rw [← Finset.sum_filter]
  symm
  refine Finset.sum_bij (fun m _ => ix5 s n m d p) ?_ ?_ ?_ ?_
  · intro m hm
    have hm' := (Finset.mem_filter.1 hm).2
    refine Finset.mem_filter.2 ⟨Finset.mem_univ _, ?_⟩
    rw [result_at idx s n m d p _ (h0 ..) (h1 ..) (h2 ..) (h3 ..), hm']
  · intro m _ m' _ he
    exact congrFun he 2
  · intro j hj
    have hj' := (Finset.mem_filter.1 hj).2
    obtain ⟨s', n', m', d', p', rfl⟩ := e j
    rw [result_at idx s' n' m' d' p' _ (h0 ..) (h1 ..) (h2 ..) (h3 ..)] at hj'
    have hi := Option.some.inj hj'
    have a0 : s' = s := congrFun hi 0
    have a1 : n' = n := congrFun hi 1
    have a2 : d' = d := congrFun hi 2
    have a3 : L s' n' m' d' = l := congrFun hi 3
    have a4 : p' = p := congrFun hi 4
    subst a0 a1 a2 a4
    exact ⟨m', Finset.mem_filter.2 ⟨Finset.mem_univ _, a3⟩, rfl⟩
  · intro m _
    rfl

end Cert.ReferenceIdeal.Roll
-- ==== Proof.RB.lean ====
module

public import proofs.«01_k».proof.Proof.RG

@[expose] public section

set_option maxRecDepth 16384

noncomputable section

namespace Cert.ReferenceIdeal.Roll

open Cert.ReferenceIdeal Cert.ReferenceIdeal.Gen Cert.ReferenceIdeal.Read Cert.Spec Idealize.ShloMosaic Idealize.ShloMosaic.TcCoe

/-- An index of four coordinates is given by them. -/
theorem e4 {n0 n1 n2 n3 : Nat} {f : (⟨4, ![n0, n1, n2, n3]⟩ : Shape).Idx} {a : Fin n0} {b : Fin n1} {c : Fin n2} {d : Fin n3}
    (h0 : f 0 = a) (h1 : f 1 = b) (h2 : f 2 = c) (h3 : f 3 = d) : f = ix4 a b c d := by
  subst h0 h1 h2 h3
  exact eq_ix4 f

/-- An index of five coordinates is given by them. -/
theorem e5 {n0 n1 n2 n3 n4 : Nat} {f : (⟨5, ![n0, n1, n2, n3, n4]⟩ : Shape).Idx} {a : Fin n0} {b : Fin n1} {c : Fin n2} {d : Fin n3} {e : Fin n4}
    (h0 : f 0 = a) (h1 : f 1 = b) (h2 : f 2 = c) (h3 : f 3 = d) (h4 : f 4 = e) : f = ix5 a b c d e := by
  subst h0 h1 h2 h3 h4
  exact eq_ix5 f

variable (x0 : FVec Ideal S2048x384 .f32) (x1 : FVec Ideal S2048x3 .f32) (x2 : IVec S2048 32) (x3 : FVec Ideal S1152x384 .f32) (x4 : FVec Ideal S1152 .f32)
  (x7 x8 x9 : FVec Ideal S79x3x2x64 .f32)

/-- The heads' products. -/
theorem v70_at (s : Fin 3) (n m : Fin 2048) (p : Fin 2) :
    val_main_v70 (F := Ideal) x0 x3 x4 (ix4 s n m p) = ∑ c, qh (LN x0 x3 x4 n) (hd s p) c * kh (LN x0 x3 x4 m) (hd s p) c := by
  refine (val_main_v70_apply (F := Ideal) x0 x3 x4 (ix4 s n m p)).trans ?_
  rw [show idx_main_v70 (ix4 s n m p) = ix4 s p m n from e4 rfl rfl rfl rfl]
  refine (val_main_v69_apply x0 x3 x4 (ix4 s p m n)).trans (Finset.sum_congr rfl fun c _ => ?_)
  rw [show lidx_main_v69 (ix4 s p m n) c = ix4 m s p c from e4 rfl rfl rfl rfl, show ridx_main_v69 (ix4 s p m n) c = ix4 n s p c from e4 rfl rfl rfl rfl,
    v11_at, v9_at, mul_comm]

/-- The query table's products. -/
theorem v72_at (s : Fin 3) (n : Fin 2048) (l : Fin 79) (d : Fin 3) (p : Fin 2) :
    val_main_v72 (F := Ideal) x0 x3 x4 x7 (ix5 s n l d p) = tab (qh (LN x0 x3 x4 n) (hd s p)) (fun l e => x7 (ix4 l d p e)) l := by
  refine (val_main_v72_apply (F := Ideal) x0 x3 x4 x7 (ix5 s n l d p)).trans ?_
  rw [show idx_main_v72 (ix5 s n l d p) = ix5 p l d n s from e5 rfl rfl rfl rfl rfl]
  refine (val_main_v71_apply x0 x3 x4 x7 (ix5 p l d n s)).trans (Finset.sum_congr rfl fun c _ => ?_)
  rw [show lidx_main_v71 (ix5 p l d n s) c = ix4 l d p c from e4 rfl rfl rfl rfl, show ridx_main_v71 (ix5 p l d n s) c = ix4 n s p c from e4 rfl rfl rfl rfl,
    v9_at, mul_comm]

/-- The key table's products. -/
theorem v74_at (s : Fin 3) (n : Fin 2048) (l : Fin 79) (d : Fin 3) (p : Fin 2) :
    val_main_v74 (F := Ideal) x0 x3 x4 x8 (ix5 s n l d p) = tab (kh (LN x0 x3 x4 n) (hd s p)) (fun l e => x8 (ix4 l d p e)) l := by
  refine (val_main_v74_apply (F := Ideal) x0 x3 x4 x8 (ix5 s n l d p)).trans ?_
  rw [show idx_main_v74 (ix5 s n l d p) = ix5 p l d n s from e5 rfl rfl rfl rfl rfl]
  refine (val_main_v73_apply x0 x3 x4 x8 (ix5 p l d n s)).trans (Finset.sum_congr rfl fun c _ => ?_)
  rw [show lidx_main_v73 (ix5 p l d n s) c = ix4 l d p c from e4 rfl rfl rfl rfl, show ridx_main_v73 (ix5 p l d n s) c = ix4 n s p c from e4 rfl rfl rfl rfl,
    v11_at, mul_comm]

/-- The query table's terms of the scores, summed over the axes. -/
theorem v80_at (hx : Small x1) (s : Fin 3) (n m : Fin 2048) (p : Fin 2) :
    val_main_v80 (F := Ideal) x0 x1 x3 x4 x7 (ix4 s n m p)
      = ∑ d, tab (qh (LN x0 x3 x4 n) (hd s p)) (fun l e => x7 (ix4 l d p e)) (relI (ps x1 s n d) (ps x1 s m d)) := by
  refine (val_main_v80_apply x0 x1 x3 x4 x7 (ix4 s n m p)).trans ?_
  rw [show val_main_cst_10 (F := Ideal) (Shape.Idx.first h_S_) = (0 : EReal) from Ideal.ofBits_zero_f32, zero_add]
  refine Finset.sum_congr rfl fun d _ => ?_
  rw [show idx_main_v80 (ix4 s n m p) d = ix5 s n m d p from e5 rfl rfl rfl rfl rfl]
  exact (gather_at _ _ s n m d p _ (w75_at x1 hx s n m d)).trans (v72_at ..)

/-- The key table's terms of the scores, summed over the axes. -/
theorem v83_at (hx : Small x1) (s : Fin 3) (n m : Fin 2048) (p : Fin 2) :
    val_main_v83 (F := Ideal) x0 x1 x3 x4 x8 (ix4 s n m p)
      = ∑ d, tab (kh (LN x0 x3 x4 m) (hd s p)) (fun l e => x8 (ix4 l d p e)) (relI (ps x1 s n d) (ps x1 s m d)) := by
  refine (val_main_v83_apply x0 x1 x3 x4 x8 (ix4 s n m p)).trans ?_
  rw [show val_main_cst_11 (F := Ideal) (Shape.Idx.first h_S_) = (0 : EReal) from Ideal.ofBits_zero_f32, zero_add]
  refine Finset.sum_congr rfl fun d _ => ?_
  rw [show idx_main_v83 (ix4 s n m p) d = ix5 s n m d p from e5 rfl rfl rfl rfl rfl]
  refine (val_main_v82_apply (F := Ideal) x0 x1 x3 x4 x8 (ix5 s n m d p)).trans ?_
  rw [show idx_main_v82 (ix5 s n m d p) = ix5 s m n d p from e5 rfl rfl rfl rfl rfl]
  exact (gather_at _ _ s m n d p _ (w78_at x1 hx s n m d)).trans (v74_at ..)

/-- The scores. -/
theorem v84_at (hx : Small x1) (s : Fin 3) (n m : Fin 2048) (p : Fin 2) :
    val_main_v84 (F := Ideal) x0 x1 x3 x4 x7 x8 (ix4 s n m p)
      = score (qh (LN x0 x3 x4 n) (hd s p)) (kh (LN x0 x3 x4 m) (hd s p)) (fun d l e => x7 (ix4 l d p e)) (fun d l e => x8 (ix4 l d p e)) (ps x1 s n) (ps x1 s m) := by
  unfold score
  rw [← v70_at, ← v80_at x0 x1 x3 x4 x7 hx, ← v83_at x0 x1 x3 x4 x8 hx]
  rfl

/-- The masked scores. -/
theorem v86_at (hx : Small x1) (s : Fin 3) (n m : Fin 2048) (p : Fin 2) :
    val_main_v86 (F := Ideal) x0 x1 x2 x3 x4 x7 x8 (ix4 s n m p)
      = msk (WID (x2 (ix1 n)) (fun d => val_main_v27 (F := Ideal) x1 (ix2 n d)) s) (WID (x2 (ix1 m)) (fun d => val_main_v27 (F := Ideal) x1 (ix2 m d)) s)
        (score (qh (LN x0 x3 x4 n) (hd s p)) (kh (LN x0 x3 x4 m) (hd s p)) (fun d l e => x7 (ix4 l d p e)) (fun d l e => x8 (ix4 l d p e)) (ps x1 s n) (ps x1 s m)) := by
  unfold msk
  rw [← v84_at x0 x1 x3 x4 x7 x8 hx, ← v55_at]
  unfold val_main_v86 val_main_call5_v1 val_main_v85
  generalize val_main_v84 (F := Ideal) x0 x1 x3 x4 x7 x8 = y
  generalize val_main_v55 (F := Ideal) x1 x2 = z
  pointwise [val_main_call5_v2, val_main_call5_v0, val_main_cst_12]
  all_goals rfl

/-- The greatest entries along the third axis. -/
theorem max_at (y : FVec Ideal S3x2048x2048x2 .f32) (b : FVec Ideal S_ .f32) (hb : (b (Shape.Idx.first h_S_) : EReal) = Ideal.ofBits .f32 4286578688#32) (s : Fin 3) (n : Fin 2048) (p : Fin 2) :
    (Host.reduce FloatOps.maximumf y b reducesTo_S3x2048x2048x2_S3x2048x2_d2 h_S_ : FVec Ideal S3x2048x2 .f32) (ix3 s n p)
      = mx (fun m : Fin 2048 => (y (ix4 s n m p) : EReal)) := by
  unfold mx
  rw [← hb]
  pointwise []

/-- A row's greatest score is at least the value that the maximum starts from. -/
theorem max_mx {k : Nat} (a : Fin k → EReal) : max (Ideal.ofBits .f32 4286578688#32) (mx a) = mx a :=
  max_eq_right ((Finset.le_fold_max _).2 (Or.inl le_rfl))

/-- Taking the maximum with the least value changes nothing where the entry is at least that. -/
theorem max_floor (y : FVec Ideal S3x2048x2 .f32) (s : Fin 3) (n : Fin 2048) (p : Fin 2) (M : EReal) (hM : (y (ix3 s n p) : EReal) = M)
    (hm : max (Ideal.ofBits .f32 4286578688#32) M = M) :
    (maximumf (val_main_v88 (F := Ideal)) y : FVec Ideal S3x2048x2 .f32) (ix3 s n p) = M := by
  have h : (maximumf (val_main_v88 (F := Ideal)) y : FVec Ideal S3x2048x2 .f32) (ix3 s n p) = (max (Ideal.ofBits .f32 4286578688#32) (y (ix3 s n p)) : EReal) := by
    pointwise [val_main_v88, val_main_cst_14]
    all_goals rfl
  rw [h, hM, hm]

/-- The reference's row maximum is the greatest of the row's masked scores. -/
theorem v87_at (s : Fin 3) (n : Fin 2048) (p : Fin 2) :
    val_main_v87 (F := Ideal) x0 x1 x2 x3 x4 x7 x8 (ix3 s n p) = mx (fun m : Fin 2048 => val_main_v86 (F := Ideal) x0 x1 x2 x3 x4 x7 x8 (ix4 s n m p)) :=
  max_at (val_main_v86 (F := Ideal) x0 x1 x2 x3 x4 x7 x8) (val_main_cst_13 (F := Ideal)) rfl s n p

/-- The rows' greatest scores. -/
theorem v89_at (s : Fin 3) (n : Fin 2048) (p : Fin 2) :
    val_main_v89 (F := Ideal) x0 x1 x2 x3 x4 x7 x8 (ix3 s n p) = mx (fun m : Fin 2048 => val_main_v86 (F := Ideal) x0 x1 x2 x3 x4 x7 x8 (ix4 s n m p)) :=
  max_floor (val_main_v87 (F := Ideal) x0 x1 x2 x3 x4 x7 x8) s n p _ (v87_at x0 x1 x2 x3 x4 x7 x8 s n p) (max_mx _)

/-- The exponentials. -/
theorem v93_at (s : Fin 3) (n m : Fin 2048) (p : Fin 2) :
    val_main_v93 (F := Ideal) x0 x1 x2 x3 x4 x7 x8 (ix4 s n m p)
      = Ideal.exp (val_main_v86 (F := Ideal) x0 x1 x2 x3 x4 x7 x8 (ix4 s n m p) - mx (fun m : Fin 2048 => val_main_v86 (F := Ideal) x0 x1 x2 x3 x4 x7 x8 (ix4 s n m p))) := by
  rw [← v89_at]
  unfold val_main_v93 val_main_v92 val_main_v91 val_main_v90
  generalize val_main_v89 (F := Ideal) x0 x1 x2 x3 x4 x7 x8 = y
  generalize val_main_v86 (F := Ideal) x0 x1 x2 x3 x4 x7 x8 = z
  pointwise []
  all_goals rfl

/-- The softmax. -/
theorem v97_at (s : Fin 3) (n m : Fin 2048) (p : Fin 2) :
    val_main_v97 (F := Ideal) x0 x1 x2 x3 x4 x7 x8 (ix4 s n m p) = smx (fun m : Fin 2048 => val_main_v86 (F := Ideal) x0 x1 x2 x3 x4 x7 x8 (ix4 s n m p)) m := by
  have h : val_main_v94 (F := Ideal) x0 x1 x2 x3 x4 x7 x8 (ix3 s n p) = ∑ m : Fin 2048, val_main_v93 (F := Ideal) x0 x1 x2 x3 x4 x7 x8 (ix4 s n m p) := by
    refine (val_main_v94_apply x0 x1 x2 x3 x4 x7 x8 (ix3 s n p)).trans ?_
    rw [show val_main_cst_15 (F := Ideal) (Shape.Idx.first h_S_) = (0 : EReal) from Ideal.ofBits_zero_f32, zero_add]
    refine Finset.sum_congr rfl fun m _ => ?_
    rw [show idx_main_v94 (ix3 s n p) m = ix4 s n m p from e4 rfl rfl rfl rfl]
  unfold smx
  refine Eq.trans ?_ (congrArg₂ Ideal.div (v93_at x0 x1 x2 x3 x4 x7 x8 s n m p) (Finset.sum_congr rfl fun y _ => v93_at x0 x1 x2 x3 x4 x7 x8 s n y p))
  rw [← h]
  unfold val_main_v97 val_main_v96 val_main_v95
  generalize val_main_v94 (F := Ideal) x0 x1 x2 x3 x4 x7 x8 = y
  generalize val_main_v93 (F := Ideal) x0 x1 x2 x3 x4 x7 x8 = z
  pointwise []
  all_goals rfl

end Cert.ReferenceIdeal.Roll
-- ==== Proof.RC.lean ====
module

public import proofs.«01_k».proof.Proof.RB

@[expose] public section

set_option maxRecDepth 16384

noncomputable section

namespace Cert.ReferenceIdeal.Roll

open Cert.ReferenceIdeal Cert.ReferenceIdeal.Gen Cert.ReferenceIdeal.Read Cert.Spec Idealize.ShloMosaic Idealize.ShloMosaic.TcCoe

/-- Four columns side by side. -/
theorem cat4 (A B C D : IVec S3x2048x2048x3x1 32) (s : Fin 3) (n m : Fin 2048) (d : Fin 3) (k : Fin 4) :
    (concatenate S3x2048x2048x3x4 4 [⟨S3x2048x2048x3x1, A⟩, ⟨S3x2048x2048x3x1, B⟩, ⟨S3x2048x2048x3x1, C⟩, ⟨S3x2048x2048x3x1, D⟩]
      concatenates_S3x2048x2048x3x1_S3x2048x2048x3x1_S3x2048x2048x3x1_S3x2048x2048x3x1_S3x2048x2048x3x4_d4 : IVec S3x2048x2048x3x4 32) (ix5 s n m d k)
      = if k.val = 0 then A (ix5 s n m d 0) else if k.val = 1 then B (ix5 s n m d 0) else if k.val = 2 then C (ix5 s n m d 0) else D (ix5 s n m d 0) := by
  fin_cases k <;> pointwise []

/-- The scatter's first coordinate is the strip. -/
theorem v128_at (s : Fin 3) (n m : Fin 2048) (d : Fin 3) : val_main_v128 (F := Ideal) (ix5 s n m d 0) = BitVec.ofNat 32 s.val := by
  refine Eq.trans ?_ (wrap_at _ (by omega) (IntOp.addi (BitVec.ofNat 32 s.val) 3#32))
  pointwise [val_main_v128, val_main_v125, val_main_v109, val_main_v108, val_main_v107, val_main_c_18, val_main_v106, val_main_v105, val_main_c_17, val_main_v103, val_main_v15, val_main_v14]

/-- The scatter's second coordinate is the query point. -/
theorem v129_at (s : Fin 3) (n m : Fin 2048) (d : Fin 3) : val_main_v129 (F := Ideal) (ix5 s n m d 0) = BitVec.ofNat 32 n.val := by
  refine Eq.trans ?_ (wrap_at _ (by omega) (IntOp.addi (BitVec.ofNat 32 n.val) 2048#32))
  pointwise [val_main_v129, val_main_v126, val_main_v114, val_main_v113, val_main_v112, val_main_c_20, val_main_v111, val_main_v110, val_main_c_19, val_main_v101, val_main_v100]

/-- The scatter's third coordinate is the axis. -/
theorem v130_at (s : Fin 3) (n m : Fin 2048) (d : Fin 3) : val_main_v130 (F := Ideal) (ix5 s n m d 0) = BitVec.ofNat 32 d.val := by
  refine Eq.trans ?_ (wrap_at _ (by omega) (IntOp.addi (BitVec.ofNat 32 d.val) 3#32))
  pointwise [val_main_v130, val_main_v127, val_main_v119, val_main_v118, val_main_v117, val_main_c_22, val_main_v116, val_main_v115, val_main_c_21, val_main_v16]

variable (x0 : FVec Ideal S2048x384 .f32) (x1 : FVec Ideal S2048x3 .f32) (x2 : IVec S2048 32) (x3 : FVec Ideal S1152x384 .f32) (x4 : FVec Ideal S1152 .f32)
  (x5 : FVec Ideal S384x384 .f32) (x6 : FVec Ideal S384 .f32) (x7 x8 x9 : FVec Ideal S79x3x2x64 .f32)

/-- The scatter's fourth coordinate is the clipped relative position. -/
theorem v131_at (hx : Small x1) (s : Fin 3) (n m : Fin 2048) (d : Fin 3) :
    val_main_v131 (F := Ideal) x1 (ix5 s n m d 0) = BitVec.ofNat 32 (relI (ps x1 s n d) (ps x1 s m d)).val := by
  refine Eq.trans ?_ (wrap_at _ (by omega) (IntOp.addi (BitVec.ofNat 32 (relI (ps x1 s n d) (ps x1 s m d)).val) 79#32))
  rw [← v68_at x1 hx]
  pointwise [val_main_v131, val_main_v124, val_main_v123, val_main_v122, val_main_c_24, val_main_v121, val_main_v120, val_main_c_23]

/-- The coordinates an update is added at. -/
theorem v132_at (s : Fin 3) (n m : Fin 2048) (d : Fin 3) (k : Fin 4) :
    val_main_v132 (F := Ideal) x1 (ix5 s n m d k)
      = if k.val = 0 then val_main_v128 (F := Ideal) (ix5 s n m d 0) else if k.val = 1 then val_main_v129 (F := Ideal) (ix5 s n m d 0)
        else if k.val = 2 then val_main_v130 (F := Ideal) (ix5 s n m d 0) else val_main_v131 (F := Ideal) x1 (ix5 s n m d 0) := by
  unfold val_main_v132
  generalize val_main_v131 (F := Ideal) x1 = D
  generalize val_main_v130 (F := Ideal) = C
  generalize val_main_v129 (F := Ideal) = B
  generalize val_main_v128 (F := Ideal) = A
  exact cat4 A B C D s n m d k

/-- The attention weights added up at each clipped relative position. -/
theorem v134_at (hx : Small x1) (s : Fin 3) (n : Fin 2048) (d : Fin 3) (l : Fin 79) (p : Fin 2) :
    val_main_v134 (F := Ideal) x0 x1 x2 x3 x4 x7 x8 (ix5 s n d l p)
      = ∑ m, if relI (ps x1 s n d) (ps x1 s m d) = l then (val_main_v97 (F := Ideal) x0 x1 x2 x3 x4 x7 x8 (ix4 s n m p) : EReal) else 0 := by
  have hu : ∀ m, val_main_v133 (F := Ideal) x0 x1 x2 x3 x4 x7 x8 (ix5 s n m d p) = val_main_v97 (F := Ideal) x0 x1 x2 x3 x4 x7 x8 (ix4 s n m p) := by
    intro m
    unfold val_main_v133 val_main_v104
    generalize val_main_v97 (F := Ideal) x0 x1 x2 x3 x4 x7 x8 = y
    pointwise []
  have hz : (val_main_v102 (F := Ideal) (ix5 s n d l p) : EReal) = 0 := (val_main_v102_apply (F := Ideal) _).trans Ideal.ofBits_zero_f32
  unfold val_main_v134
  refine (scatter_at _ (val_main_v132 (F := Ideal) x1) _ (fun s n m d => relI (ps x1 s n d) (ps x1 s m d)) ?_ ?_ ?_ ?_ s n d l p).trans ?_
  · intro s n m d
    rw [v132_at, if_pos (show (0 : Fin 4).val = 0 from rfl), v128_at]
  · intro s n m d
    rw [v132_at, if_neg (show ¬ (1 : Fin 4).val = 0 by decide), if_pos (show (1 : Fin 4).val = 1 from rfl), v129_at]
  · intro s n m d
    rw [v132_at, if_neg (show ¬ (2 : Fin 4).val = 0 by decide), if_neg (show ¬ (2 : Fin 4).val = 1 by decide), if_pos (show (2 : Fin 4).val = 2 from rfl), v130_at]
  · intro s n m d
    rw [v132_at, if_neg (show ¬ (3 : Fin 4).val = 0 by decide), if_neg (show ¬ (3 : Fin 4).val = 1 by decide), if_neg (show ¬ (3 : Fin 4).val = 2 by decide), v131_at x1 hx]
  · rw [hz, zero_add]
    exact Finset.sum_congr rfl fun m _ => by rw [hu m]

/-- The points, their positions in the strips' windows. -/
abbrev R1 : Fin 2048 → Fin 3 → EReal := fun n d => val_main_v27 (F := Ideal) x1 (ix2 n d)

/-- The attention weights. -/
theorem PP_at (hx : Small x1) (s : Fin 3) (n m : Fin 2048) (p : Fin 2) :
    val_main_v97 (F := Ideal) x0 x1 x2 x3 x4 x7 x8 (ix4 s n m p)
      = PP (R1 x1) (fun n => x2 (ix1 n)) (LN x0 x3 x4) (fun l d p e => x7 (ix4 l d p e)) (fun l d p e => x8 (ix4 l d p e)) (hd s p) n m := by
  have h1 : st (hd s p) = s := Fin.ext (by show (2 * s.val + p.val) / 2 = s.val; omega)
  have h2 : hq (hd s p) = p := Fin.ext (by show (2 * s.val + p.val) % 2 = p.val; omega)
  rw [v97_at]
  unfold PP
  rw [h1, h2]
  exact congrArg (fun a : Fin 2048 → EReal => smx a m) (funext fun m => v86_at x0 x1 x2 x3 x4 x7 x8 hx s n m p)

/-- A head's result. -/
theorem v138_at (hx : Small x1) (n : Fin 2048) (s : Fin 3) (p : Fin 2) (e : Fin 64) :
    val_main_v138 (F := Ideal) x0 x1 x2 x3 x4 x7 x8 x9 (ix4 n s p e)
      = YY (R1 x1) (fun n => x2 (ix1 n)) (LN x0 x3 x4) (fun l d p e => x7 (ix4 l d p e)) (fun l d p e => x8 (ix4 l d p e)) (fun l d p e => x9 (ix4 l d p e)) (hd s p) n e := by
  have h1 : st (hd s p) = s := Fin.ext (by show (2 * s.val + p.val) / 2 = s.val; omega)
  have h2 : hq (hd s p) = p := Fin.ext (by show (2 * s.val + p.val) % 2 = p.val; omega)
  have hA : (val_main_v99 (F := Ideal) x0 x1 x2 x3 x4 x7 x8 (ix4 n s p e) : EReal)
      = ∑ m, PP (R1 x1) (fun n => x2 (ix1 n)) (LN x0 x3 x4) (fun l d p e => x7 (ix4 l d p e)) (fun l d p e => x8 (ix4 l d p e)) (hd s p) n m * vh (LN x0 x3 x4 m) (hd s p) e := by
    refine (val_main_v99_apply (F := Ideal) x0 x1 x2 x3 x4 x7 x8 (ix4 n s p e)).trans ?_
    rw [show idx_main_v99 (ix4 n s p e) = ix4 s p e n from e4 rfl rfl rfl rfl]
    refine (val_main_v98_apply x0 x1 x2 x3 x4 x7 x8 (ix4 s p e n)).trans (Finset.sum_congr rfl fun m _ => ?_)
    rw [show lidx_main_v98 (ix4 s p e n) m = ix4 m s p e from e4 rfl rfl rfl rfl, show ridx_main_v98 (ix4 s p e n) m = ix4 s n m p from e4 rfl rfl rfl rfl,
      v13_at, PP_at x0 x1 x2 x3 x4 x7 x8 hx, mul_comm]
  have hB : (val_main_v137 (F := Ideal) x0 x1 x2 x3 x4 x7 x8 x9 (ix4 n s p e) : EReal)
      = ∑ d, ∑ l : Fin 79, (∑ m, if relI (ps x1 s n d) (ps x1 s m d) = l then PP (R1 x1) (fun n => x2 (ix1 n)) (LN x0 x3 x4) (fun l d p e => x7 (ix4 l d p e)) (fun l d p e => x8 (ix4 l d p e)) (hd s p) n m else 0)
          * x9 (ix4 l d p e) := by
    refine (val_main_v137_apply x0 x1 x2 x3 x4 x7 x8 x9 (ix4 n s p e)).trans ?_
    rw [show val_main_cst_25 (F := Ideal) (Shape.Idx.first h_S_) = (0 : EReal) from Ideal.ofBits_zero_f32, zero_add]
    refine Finset.sum_congr rfl fun d _ => ?_
    rw [show idx_main_v137 (ix4 n s p e) d = ix5 d n s p e from e5 rfl rfl rfl rfl rfl]
    refine (val_main_v136_apply (F := Ideal) x0 x1 x2 x3 x4 x7 x8 x9 (ix5 d n s p e)).trans ?_
    rw [show idx_main_v136 (ix5 d n s p e) = ix5 d p e s n from e5 rfl rfl rfl rfl rfl]
    refine (val_main_v135_apply x0 x1 x2 x3 x4 x7 x8 x9 (ix5 d p e s n)).trans (Finset.sum_congr rfl fun l _ => ?_)
    rw [show lidx_main_v135 (ix5 d p e s n) l = ix4 l d p e from e4 rfl rfl rfl rfl, show ridx_main_v135 (ix5 d p e s n) l = ix5 s n d l p from e5 rfl rfl rfl rfl rfl,
      v134_at x0 x1 x2 x3 x4 x7 x8 hx, mul_comm]
    simp only [PP_at x0 x1 x2 x3 x4 x7 x8 hx]
  refine Eq.trans (b := (val_main_v99 (F := Ideal) x0 x1 x2 x3 x4 x7 x8 (ix4 n s p e) : EReal) + (val_main_v137 (F := Ideal) x0 x1 x2 x3 x4 x7 x8 x9 (ix4 n s p e) : EReal)) rfl ?_
  rw [hA, hB]
  unfold YY
  rw [h1, h2]

/-- The heads side by side. -/
theorem v139_at (hx : Small x1) (n : Fin 2048) (x : Fin 384) :
    val_main_v139 (F := Ideal) x0 x1 x2 x3 x4 x7 x8 x9 (ix2 n x)
      = YY (R1 x1) (fun n => x2 (ix1 n)) (LN x0 x3 x4) (fun l d p e => x7 (ix4 l d p e)) (fun l d p e => x8 (ix4 l d p e)) (fun l d p e => x9 (ix4 l d p e))
          ⟨x.val / 64, by omega⟩ n ⟨x.val % 64, by omega⟩ := by
  have hn := n.isLt
  have hxl := x.isLt
  have hh : hd ⟨x.val / 128, by omega⟩ ⟨x.val / 64 % 2, by omega⟩ = ⟨x.val / 64, by omega⟩ :=
    Fin.ext (by show 2 * (x.val / 128) + x.val / 64 % 2 = x.val / 64; omega)
  rw [← hh, ← v138_at x0 x1 x2 x3 x4 x7 x8 x9 hx]
  refine (val_main_v139_apply (F := Ideal) x0 x1 x2 x3 x4 x7 x8 x9 (ix2 n x)).trans (congrArg _ ?_)
  refine e4 (Fin.ext ?_) (Fin.ext ?_) (Fin.ext ?_) (Fin.ext ?_)
  · show (n.val * 384 + x.val) / 384 = n.val
    omega
  · show (n.val * 384 + x.val) / 128 % 3 = x.val / 128
    omega
  · show (n.val * 384 + x.val) / 64 % 2 = x.val / 64 % 2
    omega
  · show (n.val * 384 + x.val) % 64 = x.val % 64
    omega

/-- The reference's result, entry by entry. -/
theorem rval (hx : Small x1) (n : Fin 2048) (j : Fin 384) :
    val_main_v144 (F := Ideal) x0 x1 x2 x3 x4 x5 x6 x7 x8 x9 (ix2 n j)
      = OUT (R1 x1) (fun n => x2 (ix1 n)) (LN x0 x3 x4) (fun l d p e => x7 (ix4 l d p e)) (fun l d p e => x8 (ix4 l d p e)) (fun l d p e => x9 (ix4 l d p e))
          (fun j x => x5 (ix2 j x)) (fun j => x6 (ix1 j)) n j := by
  have hA : (val_main_v141 (F := Ideal) x0 x1 x2 x3 x4 x5 x7 x8 x9 (ix2 n j) : EReal)
      = ∑ x : Fin 384, YY (R1 x1) (fun n => x2 (ix1 n)) (LN x0 x3 x4) (fun l d p e => x7 (ix4 l d p e)) (fun l d p e => x8 (ix4 l d p e)) (fun l d p e => x9 (ix4 l d p e))
          ⟨x.val / 64, by omega⟩ n ⟨x.val % 64, by omega⟩ * x5 (ix2 j x) := by
    refine (val_main_v141_apply x0 x1 x2 x3 x4 x5 x7 x8 x9 (ix2 n j)).trans (Finset.sum_congr rfl fun x _ => ?_)
    rw [show lidx_main_v141 (ix2 n j) x = ix2 n x from (eq_ix2 _), v139_at x0 x1 x2 x3 x4 x7 x8 x9 hx]
    refine congrArg _ ?_
    pointwise [val_main_v140]
    all_goals rfl
  have hB : (val_main_v143 (F := Ideal) x6 (ix2 n j) : EReal) = x6 (ix1 j) := by
    pointwise [val_main_v143, val_main_v142]
  refine Eq.trans (b := (val_main_v141 (F := Ideal) x0 x1 x2 x3 x4 x5 x7 x8 x9 (ix2 n j) : EReal) + (val_main_v143 (F := Ideal) x6 (ix2 n j) : EReal)) rfl ?_
  rw [hA, hB]
  rfl

end Cert.ReferenceIdeal.Roll
-- ==== Proof.Group.lean ====
module

public import proofs.«01_k».proof.Proof.Barrel

@[expose] public section

set_option maxRecDepth 16384

noncomputable section

namespace Cert.KernelIdeal.Roll

open Idealize.ShloMosaic Cert.KernelIdeal Cert.KernelIdeal.Gen

/-- A table row padded by its own ends to 128 columns, one to the left. -/
def pad1 (t : FVec Ideal S256x79 .f32) : FVec Ideal S1x256x128 .f32 :=
  shapeCast S1x256x128 (concatenate S256x128 1 [⟨S256x1, extractStridedSlice S256x1 ![0, 0] t slices_S256x79_o0_0_S256x1⟩, ⟨S256x79, t⟩,
    ⟨S256x48, broadcastTo S256x48 (shapeCast S256x1 (extractStridedSlice S256x1 ![0, 78] t slices_S256x79_o0_78_S256x1)
      shapeCasts_S256x1_S256x1) broadcasts_S256x1_S256x48⟩] concatenates_S256x1_S256x79_S256x48_S256x128_d1) shapeCasts_S256x128_S1x256x128

/-- A table row padded by its own ends to 256 columns, 61 to the left. -/
def pad61 (t : FVec Ideal S256x79 .f32) : FVec Ideal S1x256x256 .f32 :=
  shapeCast S1x256x256 (concatenate S256x256 1 [⟨S256x61, broadcastTo S256x61 (shapeCast S256x1 (extractStridedSlice S256x1 ![0, 0] t
      slices_S256x79_o0_0_S256x1) shapeCasts_S256x1_S256x1) broadcasts_S256x1_S256x61⟩, ⟨S256x79, t⟩,
    ⟨S256x116, broadcastTo S256x116 (shapeCast S256x1 (extractStridedSlice S256x1 ![0, 78] t slices_S256x79_o0_78_S256x1)
      shapeCasts_S256x1_S256x1) broadcasts_S256x1_S256x116⟩] concatenates_S256x61_S256x79_S256x116_S256x256_d1) shapeCasts_S256x256_S1x256x256

/-- The row padded to 128 columns, entry by entry: its ends are repeated. -/
theorem pad1_apply (t : FVec Ideal S256x79 .f32) (i : Fin 256) (p : Fin 128) (l : Fin 79) (h : l.val = min (p.val - 1) 78) :
    pad1 t (ix3 0 i p) = t (ix2 i l) := by
  pointwise [pad1]
  split_ifs <;> (congr 2; apply Fin.ext; (try simp only []); first | omega | (simp; omega))

/-- The row padded to 256 columns, entry by entry: its ends are repeated. -/
theorem pad61_apply (t : FVec Ideal S256x79 .f32) (i : Fin 256) (p : Fin 256) (l : Fin 79) (h : l.val = min (p.val - 61) 78) :
    pad61 t (ix3 0 i p) = t (ix2 i l) := by
  pointwise [pad61]
  split_ifs <;> (congr 2; apply Fin.ext; (try simp only []); first | omega | (simp; omega))

/-- An amount as a row block. -/
def row (a : IVec S256x1 32) : IVec S1x256x1 32 := shapeCast S1x256x1 a shapeCasts_S256x1_S1x256x1

/-- The amounts of two narrow axes. -/
def amt8 (a b : IVec S256x1 32) : IVec S8x256x1 32 :=
  concatenate S8x256x1 0 [⟨S1x256x1, row a⟩, ⟨S1x256x1, row a⟩, ⟨S1x256x1, row (subi (broadcast S256x1 40#32) a)⟩,
    ⟨S1x256x1, row (subi (broadcast S256x1 40#32) a)⟩, ⟨S1x256x1, row b⟩, ⟨S1x256x1, row b⟩,
    ⟨S1x256x1, row (subi (broadcast S256x1 40#32) b)⟩, ⟨S1x256x1, row (subi (broadcast S256x1 40#32) b)⟩]
    concatenates_S1x256x1_S1x256x1_S1x256x1_S1x256x1_S1x256x1_S1x256x1_S1x256x1_S1x256x1_S8x256x1_d0

/-- The amounts of the wide axis. -/
def amt4 (a : IVec S256x1 32) : IVec S4x256x1 32 :=
  concatenate S4x256x1 0 [⟨S1x256x1, row a⟩, ⟨S1x256x1, row a⟩, ⟨S1x256x1, row (subi (broadcast S256x1 100#32) a)⟩,
    ⟨S1x256x1, row (subi (broadcast S256x1 100#32) a)⟩]
    concatenates_S1x256x1_S1x256x1_S1x256x1_S1x256x1_S4x256x1_d0

/-- The eight padded rows of two narrow axes, each rotated by its amount. -/
def grp8 (a b : IVec S256x1 32) (t0 t1 t2 t3 t4 t5 t6 t7 : FVec Ideal S256x79 .f32) : FVec Ideal S8x256x128 .f32 :=
  bar6 (K := 8) shapeCasts_S8x256x1_S8x256x1 broadcasts_S8x256x1_S8x256x128 rotates_S8x256x128_d2 (amt8 a b)
    (concatenate S8x256x128 0 [⟨S1x256x128, pad1 t0⟩, ⟨S1x256x128, pad1 t1⟩, ⟨S1x256x128, pad1 t2⟩, ⟨S1x256x128, pad1 t3⟩,
      ⟨S1x256x128, pad1 t4⟩, ⟨S1x256x128, pad1 t5⟩, ⟨S1x256x128, pad1 t6⟩, ⟨S1x256x128, pad1 t7⟩]
      concatenates_S1x256x128_S1x256x128_S1x256x128_S1x256x128_S1x256x128_S1x256x128_S1x256x128_S1x256x128_S8x256x128_d0)

/-- The four padded rows of the wide axis, each rotated by its amount. -/
def grp4 (a : IVec S256x1 32) (t0 t1 t2 t3 : FVec Ideal S256x79 .f32) : FVec Ideal S4x256x256 .f32 :=
  bar7 (K := 4) shapeCasts_S4x256x1_S4x256x1 broadcasts_S4x256x1_S4x256x256 rotates_S4x256x256_d2 (amt4 a)
    (concatenate S4x256x256 0 [⟨S1x256x256, pad61 t0⟩, ⟨S1x256x256, pad61 t1⟩, ⟨S1x256x256, pad61 t2⟩, ⟨S1x256x256, pad61 t3⟩]
      concatenates_S1x256x256_S1x256x256_S1x256x256_S1x256x256_S4x256x256_d0)

/-- A difference of words that does not wrap is the difference of their numbers. -/
theorem subi_toNat (k a : BitVec 32) (h : a.toNat ≤ k.toNat) : (IntOp.subi k a).toNat = k.toNat - a.toNat := by
  show (k - a).toNat = _
  rw [BitVec.toNat_sub]
  have := k.isLt
  omega

/-- Row 0 of the group of 8: the table row shifted by its amount, its ends repeated. -/
theorem grp8_0 (a b : IVec S256x1 32) (t0 t1 t2 t3 t4 t5 t6 t7 : FVec Ideal S256x79 .f32) (i : Fin 256) (c : Fin 128) (hc : c.val < 41)
    (ha : (a (ix2 i 0)).toNat < 41) (l : Fin 79) (hl : l.val = min (c.val + (a (ix2 i 0)).toNat - 1) 78) :
    grp8 a b t0 t1 t2 t3 t4 t5 t6 t7 (ix3 0 i c) = t0 (ix2 i l) := by
  have hamt : amt8 a b (ix3 0 i 0) = a (ix2 i 0) := by pointwise [amt8, row]
  have hN : (amt8 a b (ix3 0 i 0)).toNat = (a (ix2 i 0)).toNat := by
    rw [hamt]
  unfold grp8
  rw [bar6_apply _ _ _ _ _ 0 i c ⟨c.val + (amt8 a b (ix3 0 i 0)).toNat, by omega⟩ (by omega) rfl]
  refine Eq.trans ?_ (pad1_apply t0 i ⟨c.val + (amt8 a b (ix3 0 i 0)).toNat, by omega⟩ l (by rw [hl]; simp only [hN]))
  pointwise []

/-- Row 1 of the group of 8: the table row shifted by its amount, its ends repeated. -/
theorem grp8_1 (a b : IVec S256x1 32) (t0 t1 t2 t3 t4 t5 t6 t7 : FVec Ideal S256x79 .f32) (i : Fin 256) (c : Fin 128) (hc : c.val < 41)
    (ha : (a (ix2 i 0)).toNat < 41) (l : Fin 79) (hl : l.val = min (c.val + (a (ix2 i 0)).toNat - 1) 78) :
    grp8 a b t0 t1 t2 t3 t4 t5 t6 t7 (ix3 1 i c) = t1 (ix2 i l) := by
  have hamt : amt8 a b (ix3 1 i 0) = a (ix2 i 0) := by pointwise [amt8, row]
  have hN : (amt8 a b (ix3 1 i 0)).toNat = (a (ix2 i 0)).toNat := by
    rw [hamt]
  unfold grp8
  rw [bar6_apply _ _ _ _ _ 1 i c ⟨c.val + (amt8 a b (ix3 1 i 0)).toNat, by omega⟩ (by omega) rfl]
  refine Eq.trans ?_ (pad1_apply t1 i ⟨c.val + (amt8 a b (ix3 1 i 0)).toNat, by omega⟩ l (by rw [hl]; simp only [hN]))
  pointwise []

/-- Row 2 of the group of 8: the table row shifted by its amount, its ends repeated. -/
theorem grp8_2 (a b : IVec S256x1 32) (t0 t1 t2 t3 t4 t5 t6 t7 : FVec Ideal S256x79 .f32) (i : Fin 256) (c : Fin 128) (hc : c.val < 41)
    (ha : (a (ix2 i 0)).toNat < 41) (l : Fin 79) (hl : l.val = min (c.val + (40 - (a (ix2 i 0)).toNat) - 1) 78) :
    grp8 a b t0 t1 t2 t3 t4 t5 t6 t7 (ix3 2 i c) = t2 (ix2 i l) := by
  have hamt : amt8 a b (ix3 2 i 0) = IntOp.subi 40#32 (a (ix2 i 0)) := by pointwise [amt8, row]
  have hN : (amt8 a b (ix3 2 i 0)).toNat = (40 - (a (ix2 i 0)).toNat) := by
    rw [hamt]; exact subi_toNat _ _ (by have : (40#32 : BitVec 32).toNat = 40 := rfl; omega)
  unfold grp8
  rw [bar6_apply _ _ _ _ _ 2 i c ⟨c.val + (amt8 a b (ix3 2 i 0)).toNat, by omega⟩ (by omega) rfl]
  refine Eq.trans ?_ (pad1_apply t2 i ⟨c.val + (amt8 a b (ix3 2 i 0)).toNat, by omega⟩ l (by rw [hl]; simp only [hN]))
  pointwise []

/-- Row 3 of the group of 8: the table row shifted by its amount, its ends repeated. -/
theorem grp8_3 (a b : IVec S256x1 32) (t0 t1 t2 t3 t4 t5 t6 t7 : FVec Ideal S256x79 .f32) (i : Fin 256) (c : Fin 128) (hc : c.val < 41)
    (ha : (a (ix2 i 0)).toNat < 41) (l : Fin 79) (hl : l.val = min (c.val + (40 - (a (ix2 i 0)).toNat) - 1) 78) :
    grp8 a b t0 t1 t2 t3 t4 t5 t6 t7 (ix3 3 i c) = t3 (ix2 i l) := by
  have hamt : amt8 a b (ix3 3 i 0) = IntOp.subi 40#32 (a (ix2 i 0)) := by pointwise [amt8, row]
  have hN : (amt8 a b (ix3 3 i 0)).toNat = (40 - (a (ix2 i 0)).toNat) := by
    rw [hamt]; exact subi_toNat _ _ (by have : (40#32 : BitVec 32).toNat = 40 := rfl; omega)
  unfold grp8
  rw [bar6_apply _ _ _ _ _ 3 i c ⟨c.val + (amt8 a b (ix3 3 i 0)).toNat, by omega⟩ (by omega) rfl]
  refine Eq.trans ?_ (pad1_apply t3 i ⟨c.val + (amt8 a b (ix3 3 i 0)).toNat, by omega⟩ l (by rw [hl]; simp only [hN]))
  pointwise []

/-- Row 4 of the group of 8: the table row shifted by its amount, its ends repeated. -/
theorem grp8_4 (a b : IVec S256x1 32) (t0 t1 t2 t3 t4 t5 t6 t7 : FVec Ideal S256x79 .f32) (i : Fin 256) (c : Fin 128) (hc : c.val < 41)
    (ha : (b (ix2 i 0)).toNat < 41) (l : Fin 79) (hl : l.val = min (c.val + (b (ix2 i 0)).toNat - 1) 78) :
    grp8 a b t0 t1 t2 t3 t4 t5 t6 t7 (ix3 4 i c) = t4 (ix2 i l) := by
  have hamt : amt8 a b (ix3 4 i 0) = b (ix2 i 0) := by pointwise [amt8, row]
  have hN : (amt8 a b (ix3 4 i 0)).toNat = (b (ix2 i 0)).toNat := by
    rw [hamt]
  unfold grp8
  rw [bar6_apply _ _ _ _ _ 4 i c ⟨c.val + (amt8 a b (ix3 4 i 0)).toNat, by omega⟩ (by omega) rfl]
  refine Eq.trans ?_ (pad1_apply t4 i ⟨c.val + (amt8 a b (ix3 4 i 0)).toNat, by omega⟩ l (by rw [hl]; simp only [hN]))
  pointwise []

/-- Row 5 of the group of 8: the table row shifted by its amount, its ends repeated. -/
theorem grp8_5 (a b : IVec S256x1 32) (t0 t1 t2 t3 t4 t5 t6 t7 : FVec Ideal S256x79 .f32) (i : Fin 256) (c : Fin 128) (hc : c.val < 41)
    (ha : (b (ix2 i 0)).toNat < 41) (l : Fin 79) (hl : l.val = min (c.val + (b (ix2 i 0)).toNat - 1) 78) :
    grp8 a b t0 t1 t2 t3 t4 t5 t6 t7 (ix3 5 i c) = t5 (ix2 i l) := by
  have hamt : amt8 a b (ix3 5 i 0) = b (ix2 i 0) := by pointwise [amt8, row]
  have hN : (amt8 a b (ix3 5 i 0)).toNat = (b (ix2 i 0)).toNat := by
    rw [hamt]
  unfold grp8
  rw [bar6_apply _ _ _ _ _ 5 i c ⟨c.val + (amt8 a b (ix3 5 i 0)).toNat, by omega⟩ (by omega) rfl]
  refine Eq.trans ?_ (pad1_apply t5 i ⟨c.val + (amt8 a b (ix3 5 i 0)).toNat, by omega⟩ l (by rw [hl]; simp only [hN]))
  pointwise []

/-- Row 6 of the group of 8: the table row shifted by its amount, its ends repeated. -/
theorem grp8_6 (a b : IVec S256x1 32) (t0 t1 t2 t3 t4 t5 t6 t7 : FVec Ideal S256x79 .f32) (i : Fin 256) (c : Fin 128) (hc : c.val < 41)
    (ha : (b (ix2 i 0)).toNat < 41) (l : Fin 79) (hl : l.val = min (c.val + (40 - (b (ix2 i 0)).toNat) - 1) 78) :
    grp8 a b t0 t1 t2 t3 t4 t5 t6 t7 (ix3 6 i c) = t6 (ix2 i l) := by
  have hamt : amt8 a b (ix3 6 i 0) = IntOp.subi 40#32 (b (ix2 i 0)) := by pointwise [amt8, row]
  have hN : (amt8 a b (ix3 6 i 0)).toNat = (40 - (b (ix2 i 0)).toNat) := by
    rw [hamt]; exact subi_toNat _ _ (by have : (40#32 : BitVec 32).toNat = 40 := rfl; omega)
  unfold grp8
  rw [bar6_apply _ _ _ _ _ 6 i c ⟨c.val + (amt8 a b (ix3 6 i 0)).toNat, by omega⟩ (by omega) rfl]
  refine Eq.trans ?_ (pad1_apply t6 i ⟨c.val + (amt8 a b (ix3 6 i 0)).toNat, by omega⟩ l (by rw [hl]; simp only [hN]))
  pointwise []

/-- Row 7 of the group of 8: the table row shifted by its amount, its ends repeated. -/
theorem grp8_7 (a b : IVec S256x1 32) (t0 t1 t2 t3 t4 t5 t6 t7 : FVec Ideal S256x79 .f32) (i : Fin 256) (c : Fin 128) (hc : c.val < 41)
    (ha : (b (ix2 i 0)).toNat < 41) (l : Fin 79) (hl : l.val = min (c.val + (40 - (b (ix2 i 0)).toNat) - 1) 78) :
    grp8 a b t0 t1 t2 t3 t4 t5 t6 t7 (ix3 7 i c) = t7 (ix2 i l) := by
  have hamt : amt8 a b (ix3 7 i 0) = IntOp.subi 40#32 (b (ix2 i 0)) := by pointwise [amt8, row]
  have hN : (amt8 a b (ix3 7 i 0)).toNat = (40 - (b (ix2 i 0)).toNat) := by
    rw [hamt]; exact subi_toNat _ _ (by have : (40#32 : BitVec 32).toNat = 40 := rfl; omega)
  unfold grp8
  rw [bar6_apply _ _ _ _ _ 7 i c ⟨c.val + (amt8 a b (ix3 7 i 0)).toNat, by omega⟩ (by omega) rfl]
  refine Eq.trans ?_ (pad1_apply t7 i ⟨c.val + (amt8 a b (ix3 7 i 0)).toNat, by omega⟩ l (by rw [hl]; simp only [hN]))
  pointwise []

/-- Row 0 of the group of 4: the table row shifted by its amount, its ends repeated. -/
theorem grp4_0 (a : IVec S256x1 32) (t0 t1 t2 t3 : FVec Ideal S256x79 .f32) (i : Fin 256) (c : Fin 256) (hc : c.val < 101)
    (ha : (a (ix2 i 0)).toNat < 101) (l : Fin 79) (hl : l.val = min (c.val + (a (ix2 i 0)).toNat - 61) 78) :
    grp4 a t0 t1 t2 t3 (ix3 0 i c) = t0 (ix2 i l) := by
  have hamt : amt4 a (ix3 0 i 0) = a (ix2 i 0) := by pointwise [amt4, row]
  have hN : (amt4 a (ix3 0 i 0)).toNat = (a (ix2 i 0)).toNat := by
    rw [hamt]
  unfold grp4
  rw [bar7_apply _ _ _ _ _ 0 i c ⟨c.val + (amt4 a (ix3 0 i 0)).toNat, by omega⟩ (by omega) rfl]
  refine Eq.trans ?_ (pad61_apply t0 i ⟨c.val + (amt4 a (ix3 0 i 0)).toNat, by omega⟩ l (by rw [hl]; simp only [hN]))
  pointwise []

/-- Row 1 of the group of 4: the table row shifted by its amount, its ends repeated. -/
theorem grp4_1 (a : IVec S256x1 32) (t0 t1 t2 t3 : FVec Ideal S256x79 .f32) (i : Fin 256) (c : Fin 256) (hc : c.val < 101)
    (ha : (a (ix2 i 0)).toNat < 101) (l : Fin 79) (hl : l.val = min (c.val + (a (ix2 i 0)).toNat - 61) 78) :
    grp4 a t0 t1 t2 t3 (ix3 1 i c) = t1 (ix2 i l) := by
  have hamt : amt4 a (ix3 1 i 0) = a (ix2 i 0) := by pointwise [amt4, row]
  have hN : (amt4 a (ix3 1 i 0)).toNat = (a (ix2 i 0)).toNat := by
    rw [hamt]
  unfold grp4
  rw [bar7_apply _ _ _ _ _ 1 i c ⟨c.val + (amt4 a (ix3 1 i 0)).toNat, by omega⟩ (by omega) rfl]
  refine Eq.trans ?_ (pad61_apply t1 i ⟨c.val + (amt4 a (ix3 1 i 0)).toNat, by omega⟩ l (by rw [hl]; simp only [hN]))
  pointwise []

/-- Row 2 of the group of 4: the table row shifted by its amount, its ends repeated. -/
theorem grp4_2 (a : IVec S256x1 32) (t0 t1 t2 t3 : FVec Ideal S256x79 .f32) (i : Fin 256) (c : Fin 256) (hc : c.val < 101)
    (ha : (a (ix2 i 0)).toNat < 101) (l : Fin 79) (hl : l.val = min (c.val + (100 - (a (ix2 i 0)).toNat) - 61) 78) :
    grp4 a t0 t1 t2 t3 (ix3 2 i c) = t2 (ix2 i l) := by
  have hamt : amt4 a (ix3 2 i 0) = IntOp.subi 100#32 (a (ix2 i 0)) := by pointwise [amt4, row]
  have hN : (amt4 a (ix3 2 i 0)).toNat = (100 - (a (ix2 i 0)).toNat) := by
    rw [hamt]; exact subi_toNat _ _ (by have : (100#32 : BitVec 32).toNat = 100 := rfl; omega)
  unfold grp4
  rw [bar7_apply _ _ _ _ _ 2 i c ⟨c.val + (amt4 a (ix3 2 i 0)).toNat, by omega⟩ (by omega) rfl]
  refine Eq.trans ?_ (pad61_apply t2 i ⟨c.val + (amt4 a (ix3 2 i 0)).toNat, by omega⟩ l (by rw [hl]; simp only [hN]))
  pointwise []

/-- Row 3 of the group of 4: the table row shifted by its amount, its ends repeated. -/
theorem grp4_3 (a : IVec S256x1 32) (t0 t1 t2 t3 : FVec Ideal S256x79 .f32) (i : Fin 256) (c : Fin 256) (hc : c.val < 101)
    (ha : (a (ix2 i 0)).toNat < 101) (l : Fin 79) (hl : l.val = min (c.val + (100 - (a (ix2 i 0)).toNat) - 61) 78) :
    grp4 a t0 t1 t2 t3 (ix3 3 i c) = t3 (ix2 i l) := by
  have hamt : amt4 a (ix3 3 i 0) = IntOp.subi 100#32 (a (ix2 i 0)) := by pointwise [amt4, row]
  have hN : (amt4 a (ix3 3 i 0)).toNat = (100 - (a (ix2 i 0)).toNat) := by
    rw [hamt]; exact subi_toNat _ _ (by have : (100#32 : BitVec 32).toNat = 100 := rfl; omega)
  unfold grp4
  rw [bar7_apply _ _ _ _ _ 3 i c ⟨c.val + (amt4 a (ix3 3 i 0)).toNat, by omega⟩ (by omega) rfl]
  refine Eq.trans ?_ (pad61_apply t3 i ⟨c.val + (amt4 a (ix3 3 i 0)).toNat, by omega⟩ l (by rw [hl]; simp only [hN]))
  pointwise []

end Cert.KernelIdeal.Roll
end
-- ==== Proof.Slot.lean ====
module

public import proofs.«01_k».proof.Proof.Group
public import proofs.«01_k».proof.Proof.Spec

@[expose] public section

set_option maxRecDepth 16384

noncomputable section

namespace Cert.KernelIdeal.Roll

open Idealize.ShloMosaic Cert.KernelIdeal Cert.KernelIdeal.Gen Cert.Spec

/-- A vector's products with a table's rows. -/
def tb (q : FVec Ideal S256x64 .f32) (T : FVec Ideal S1x1x79x64 .f32) : FVec Ideal S256x79 .f32 :=
  matmul dot_S256x64_S79x64_S256x79_1_1_0_0_n_n none q (shapeCast S79x64 T shapeCasts_S1x1x79x64_S79x64) (constant S256x79 .f32 0x00000000#32)

/-- A vector's products with a table's rows, entry by entry. -/
theorem tb_apply (q : FVec Ideal S256x64 .f32) (T : FVec Ideal S1x1x79x64 .f32) (i : Fin 256) (l : Fin 79) :
    tb q T (ix2 i l) = tab (fun y => q (ix2 i y)) (fun l y => T (ix4 0 0 l y)) l := by
  unfold tab
  pointwise [tb]

/-- A one-hot element as the kernel makes it: one where the column is the position. -/
theorem oh_eq (c : Nat) (hc : c < 256) (a : BitVec 32) :
    FloatOps.sitofp (F := Ideal) FTy.f32 (BitVec.setWidth 32 (IntOp.cmpi .eq (BitVec.ofNat 32 c) a)) = oh c a.toNat := by
  unfold oh
  split
  · rename_i h
    have : BitVec.ofNat 32 c = a := by
      apply BitVec.eq_of_toNat_eq
      rw [BitVec.toNat_ofNat, Nat.mod_eq_of_lt (by omega), h]
    subst this
    simp [IntOp.cmpi, FloatOps.sitofp]
  · rename_i h
    have : ¬ BitVec.ofNat 32 c = a := by
      intro e
      apply h
      rw [← e, BitVec.toNat_ofNat, Nat.mod_eq_of_lt (by omega)]
    have hb : (BitVec.ofNat 32 c == a) = false := by simpa using this
    simp [IntOp.cmpi, FloatOps.sitofp, hb]

/-- Row 0 of the two narrow axes' rotated rows is its table row, shifted by its amount. -/
theorem slot8_0 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (a (ix2 i 0)).toNat < 41) (c : Fin 41) :
    (shapeCast S256x41 (extractStridedSlice S1x256x41 ![0, 0, 0] y slices_S8x256x128_o0_0_0_S1x256x41) shapeCasts_S1x256x41_S256x41
      : FVec Ideal S256x41 .f32) (ix2 i c) = sh (fun l => t0 (ix2 i l)) 41 (a (ix2 i 0)).toNat c.val := by
  subst hy
  refine Eq.trans ?_ (grp8_0 a b t0 t1 t2 t3 t4 t5 t6 t7 i ⟨c.val, by omega⟩ c.isLt ha ⟨min (c.val + (a (ix2 i 0)).toNat - (41 - 40)) 78, by omega⟩ rfl)
  pointwise []

/-- Row 1 of the two narrow axes' rotated rows is its table row, shifted by its amount. -/
theorem slot8_1 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (a (ix2 i 0)).toNat < 41) (c : Fin 41) :
    (shapeCast S256x41 (extractStridedSlice S1x256x41 ![1, 0, 0] y slices_S8x256x128_o1_0_0_S1x256x41) shapeCasts_S1x256x41_S256x41
      : FVec Ideal S256x41 .f32) (ix2 i c) = sh (fun l => t1 (ix2 i l)) 41 (a (ix2 i 0)).toNat c.val := by
  subst hy
  refine Eq.trans ?_ (grp8_1 a b t0 t1 t2 t3 t4 t5 t6 t7 i ⟨c.val, by omega⟩ c.isLt ha ⟨min (c.val + (a (ix2 i 0)).toNat - (41 - 40)) 78, by omega⟩ rfl)
  pointwise []

/-- Row 2 of the two narrow axes' rotated rows is its table row, shifted by its amount. -/
theorem slot8_2 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (a (ix2 i 0)).toNat < 41) (c : Fin 41) :
    (shapeCast S256x41 (extractStridedSlice S1x256x41 ![2, 0, 0] y slices_S8x256x128_o2_0_0_S1x256x41) shapeCasts_S1x256x41_S256x41
      : FVec Ideal S256x41 .f32) (ix2 i c) = sh (fun l => t2 (ix2 i l)) 41 (41 - 1 - (a (ix2 i 0)).toNat) c.val := by
  subst hy
  refine Eq.trans ?_ (grp8_2 a b t0 t1 t2 t3 t4 t5 t6 t7 i ⟨c.val, by omega⟩ c.isLt ha ⟨min (c.val + (41 - 1 - (a (ix2 i 0)).toNat) - (41 - 40)) 78, by omega⟩ rfl)
  pointwise []

/-- Row 3 of the two narrow axes' rotated rows is its table row, shifted by its amount. -/
theorem slot8_3 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (a (ix2 i 0)).toNat < 41) (c : Fin 41) :
    (shapeCast S256x41 (extractStridedSlice S1x256x41 ![3, 0, 0] y slices_S8x256x128_o3_0_0_S1x256x41) shapeCasts_S1x256x41_S256x41
      : FVec Ideal S256x41 .f32) (ix2 i c) = sh (fun l => t3 (ix2 i l)) 41 (41 - 1 - (a (ix2 i 0)).toNat) c.val := by
  subst hy
  refine Eq.trans ?_ (grp8_3 a b t0 t1 t2 t3 t4 t5 t6 t7 i ⟨c.val, by omega⟩ c.isLt ha ⟨min (c.val + (41 - 1 - (a (ix2 i 0)).toNat) - (41 - 40)) 78, by omega⟩ rfl)
  pointwise []

/-- Row 4 of the two narrow axes' rotated rows is its table row, shifted by its amount. -/
theorem slot8_4 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (b (ix2 i 0)).toNat < 41) (c : Fin 41) :
    (shapeCast S256x41 (extractStridedSlice S1x256x41 ![4, 0, 0] y slices_S8x256x128_o4_0_0_S1x256x41) shapeCasts_S1x256x41_S256x41
      : FVec Ideal S256x41 .f32) (ix2 i c) = sh (fun l => t4 (ix2 i l)) 41 (b (ix2 i 0)).toNat c.val := by
  subst hy
  refine Eq.trans ?_ (grp8_4 a b t0 t1 t2 t3 t4 t5 t6 t7 i ⟨c.val, by omega⟩ c.isLt ha ⟨min (c.val + (b (ix2 i 0)).toNat - (41 - 40)) 78, by omega⟩ rfl)
  pointwise []

/-- Row 5 of the two narrow axes' rotated rows is its table row, shifted by its amount. -/
theorem slot8_5 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (b (ix2 i 0)).toNat < 41) (c : Fin 41) :
    (shapeCast S256x41 (extractStridedSlice S1x256x41 ![5, 0, 0] y slices_S8x256x128_o5_0_0_S1x256x41) shapeCasts_S1x256x41_S256x41
      : FVec Ideal S256x41 .f32) (ix2 i c) = sh (fun l => t5 (ix2 i l)) 41 (b (ix2 i 0)).toNat c.val := by
  subst hy
  refine Eq.trans ?_ (grp8_5 a b t0 t1 t2 t3 t4 t5 t6 t7 i ⟨c.val, by omega⟩ c.isLt ha ⟨min (c.val + (b (ix2 i 0)).toNat - (41 - 40)) 78, by omega⟩ rfl)
  pointwise []

/-- Row 6 of the two narrow axes' rotated rows is its table row, shifted by its amount. -/
theorem slot8_6 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (b (ix2 i 0)).toNat < 41) (c : Fin 41) :
    (shapeCast S256x41 (extractStridedSlice S1x256x41 ![6, 0, 0] y slices_S8x256x128_o6_0_0_S1x256x41) shapeCasts_S1x256x41_S256x41
      : FVec Ideal S256x41 .f32) (ix2 i c) = sh (fun l => t6 (ix2 i l)) 41 (41 - 1 - (b (ix2 i 0)).toNat) c.val := by
  subst hy
  refine Eq.trans ?_ (grp8_6 a b t0 t1 t2 t3 t4 t5 t6 t7 i ⟨c.val, by omega⟩ c.isLt ha ⟨min (c.val + (41 - 1 - (b (ix2 i 0)).toNat) - (41 - 40)) 78, by omega⟩ rfl)
  pointwise []

/-- Row 7 of the two narrow axes' rotated rows is its table row, shifted by its amount. -/
theorem slot8_7 (y : FVec Ideal S8x256x128 .f32) (a b : IVec S256x1 32) (t0 t1 t2 t3 t4 t5 t6 t7 : FVec Ideal S256x79 .f32)
    (hy : y = grp8 a b t0 t1 t2 t3 t4 t5 t6 t7) (i : Fin 256) (ha : (b (ix2 i 0)).toNat < 41) (c : Fin 41) :
    (shapeCast S256x41 (extractStridedSlice S1x256x41 ![7, 0, 0] y slices_S8x256x128_o7_0_0_S1x256x41) shapeCasts_S1x256x41_S256x41
      : FVec Ideal S256x41 .f32) (ix2 i c) = sh (fun l => t7 (ix2 i l)) 41 (41 - 1 - (b (ix2 i 0)).toNat) c.val := by
  subst hy
  refine Eq.trans ?_ (grp8_7 a b t0 t1 t2 t3 t4 t5 t6 t7 i ⟨c.val, by omega⟩ c.isLt ha ⟨min (c.val + (41 - 1 - (b (ix2 i 0)).toNat) - (41 - 40)) 78, by omega⟩ rfl)
  pointwise []

/-- Row 0 of the wide axis's rotated rows is its table row, shifted by its amount. -/
theorem slot4_0 (y : FVec Ideal S4x256x256 .f32) (a : IVec S256x1 32) (t0 t1 t2 t3 : FVec Ideal S256x79 .f32)
    (hy : y = grp4 a t0 t1 t2 t3) (i : Fin 256) (ha : (a (ix2 i 0)).toNat < 101) (c : Fin 101) :
    (shapeCast S256x101 (extractStridedSlice S1x256x101 ![0, 0, 0] y slices_S4x256x256_o0_0_0_S1x256x101) shapeCasts_S1x256x101_S256x101
      : FVec Ideal S256x101 .f32) (ix2 i c) = sh (fun l => t0 (ix2 i l)) 101 (a (ix2 i 0)).toNat c.val := by
  subst hy
  refine Eq.trans ?_ (grp4_0 a t0 t1 t2 t3 i ⟨c.val, by omega⟩ c.isLt ha ⟨min (c.val + (a (ix2 i 0)).toNat - (101 - 40)) 78, by omega⟩ rfl)
  pointwise []

/-- Row 1 of the wide axis's rotated rows is its table row, shifted by its amount. -/
theorem slot4_1 (y : FVec Ideal S4x256x256 .f32) (a : IVec S256x1 32) (t0 t1 t2 t3 : FVec Ideal S256x79 .f32)
    (hy : y = grp4 a t0 t1 t2 t3) (i : Fin 256) (ha : (a (ix2 i 0)).toNat < 101) (c : Fin 101) :
    (shapeCast S256x101 (extractStridedSlice S1x256x101 ![1, 0, 0] y slices_S4x256x256_o1_0_0_S1x256x101) shapeCasts_S1x256x101_S256x101
      : FVec Ideal S256x101 .f32) (ix2 i c) = sh (fun l => t1 (ix2 i l)) 101 (a (ix2 i 0)).toNat c.val := by
  subst hy
  refine Eq.trans ?_ (grp4_1 a t0 t1 t2 t3 i ⟨c.val, by omega⟩ c.isLt ha ⟨min (c.val + (a (ix2 i 0)).toNat - (101 - 40)) 78, by omega⟩ rfl)
  pointwise []

/-- Row 2 of the wide axis's rotated rows is its table row, shifted by its amount. -/
theorem slot4_2 (y : FVec Ideal S4x256x256 .f32) (a : IVec S256x1 32) (t0 t1 t2 t3 : FVec Ideal S256x79 .f32)
    (hy : y = grp4 a t0 t1 t2 t3) (i : Fin 256) (ha : (a (ix2 i 0)).toNat < 101) (c : Fin 101) :
    (shapeCast S256x101 (extractStridedSlice S1x256x101 ![2, 0, 0] y slices_S4x256x256_o2_0_0_S1x256x101) shapeCasts_S1x256x101_S256x101
      : FVec Ideal S256x101 .f32) (ix2 i c) = sh (fun l => t2 (ix2 i l)) 101 (101 - 1 - (a (ix2 i 0)).toNat) c.val := by
  subst hy
  refine Eq.trans ?_ (grp4_2 a t0 t1 t2 t3 i ⟨c.val, by omega⟩ c.isLt ha ⟨min (c.val + (101 - 1 - (a (ix2 i 0)).toNat) - (101 - 40)) 78, by omega⟩ rfl)
  pointwise []

/-- Row 3 of the wide axis's rotated rows is its table row, shifted by its amount. -/
theorem slot4_3 (y : FVec Ideal S4x256x256 .f32) (a : IVec S256x1 32) (t0 t1 t2 t3 : FVec Ideal S256x79 .f32)
    (hy : y = grp4 a t0 t1 t2 t3) (i : Fin 256) (ha : (a (ix2 i 0)).toNat < 101) (c : Fin 101) :
    (shapeCast S256x101 (extractStridedSlice S1x256x101 ![3, 0, 0] y slices_S4x256x256_o3_0_0_S1x256x101) shapeCasts_S1x256x101_S256x101
      : FVec Ideal S256x101 .f32) (ix2 i c) = sh (fun l => t3 (ix2 i l)) 101 (101 - 1 - (a (ix2 i 0)).toNat) c.val := by
  subst hy
  refine Eq.trans ?_ (grp4_3 a t0 t1 t2 t3 i ⟨c.val, by omega⟩ c.isLt ha ⟨min (c.val + (101 - 1 - (a (ix2 i 0)).toNat) - (101 - 40)) 78, by omega⟩ rfl)
  pointwise []

/-- Strip 0's augmented row of a query or a key. -/
def cat0 (q : FVec Ideal S256x64 .f32) (g0 : FVec Ideal S256x41 .f32) (g1 : FVec Ideal S256x41 .f32) (g2 : FVec Ideal S256x101 .f32) (o0 : FVec Ideal S256x41 .f32) (o1 : FVec Ideal S256x41 .f32) (o2 : FVec Ideal S256x101 .f32) : FVec Ideal S1x256x430 .f32 :=
  shapeCast S1x256x430 (concatenate S256x430 1 [⟨S256x64, q⟩, ⟨S256x41, g0⟩, ⟨S256x41, g1⟩, ⟨S256x101, g2⟩, ⟨S256x41, o0⟩, ⟨S256x41, o1⟩, ⟨S256x101, o2⟩]
    concatenates_S256x64_S256x41_S256x41_S256x101_S256x41_S256x41_S256x101_S256x430_d1) shapeCasts_S256x430_S1x256x430

/-- Strip 0's augmented row of a value. -/
def vat0 (q : FVec Ideal S256x64 .f32) (o0 : FVec Ideal S256x41 .f32) (o1 : FVec Ideal S256x41 .f32) (o2 : FVec Ideal S256x101 .f32) : FVec Ideal S1x256x247 .f32 :=
  shapeCast S1x256x247 (concatenate S256x247 1 [⟨S256x64, q⟩, ⟨S256x41, o0⟩, ⟨S256x41, o1⟩, ⟨S256x101, o2⟩]
    concatenates_S256x64_S256x41_S256x41_S256x101_S256x247_d1) shapeCasts_S256x247_S1x256x247

/-- Strip 0's augmented query or key row, entry by entry, from its seven parts. -/
theorem cat0_apply (q : FVec Ideal S256x64 .f32) (g0 : FVec Ideal S256x41 .f32) (g1 : FVec Ideal S256x41 .f32) (g2 : FVec Ideal S256x101 .f32) (o0 : FVec Ideal S256x41 .f32) (o1 : FVec Ideal S256x41 .f32) (o2 : FVec Ideal S256x101 .f32) (i : Fin 256) (Q : Fin 64 → EReal) (G O : Fin 3 → Nat → EReal)
    (hq : ∀ c, q (ix2 i c) = Q c) (hg0 : ∀ c : Fin 41, g0 (ix2 i c) = G 0 c.val) (hg1 : ∀ c : Fin 41, g1 (ix2 i c) = G 1 c.val) (hg2 : ∀ c : Fin 101, g2 (ix2 i c) = G 2 c.val)
    (ho0 : ∀ c : Fin 41, o0 (ix2 i c) = O 0 c.val) (ho1 : ∀ c : Fin 41, o1 (ix2 i c) = O 1 c.val) (ho2 : ∀ c : Fin 101, o2 (ix2 i c) = O 2 c.val) (x : Fin 430) :
    cat0 q g0 g1 g2 o0 o1 o2 (ix3 0 i x) = aug (cS 0) Q G O x.val := by
  pointwise [cat0]
  unfold aug
  simp only [show cS 0 0 = 41 from rfl, show cS 0 1 = 41 from rfl, show cS 0 2 = 101 from rfl]
  split_ifs <;> first | exact hq _ | exact hg0 _ | exact hg1 _ | exact hg2 _ | exact ho0 _ | exact ho1 _ | exact ho2 _ | (exfalso; omega)

/-- Strip 0's augmented value row, entry by entry, from its four parts. -/
theorem vat0_apply (q : FVec Ideal S256x64 .f32) (o0 : FVec Ideal S256x41 .f32) (o1 : FVec Ideal S256x41 .f32) (o2 : FVec Ideal S256x101 .f32) (i : Fin 256) (Q : Fin 64 → EReal) (O : Fin 3 → Nat → EReal)
    (hq : ∀ c, q (ix2 i c) = Q c)
    (ho0 : ∀ c : Fin 41, o0 (ix2 i c) = O 0 c.val) (ho1 : ∀ c : Fin 41, o1 (ix2 i c) = O 1 c.val) (ho2 : ∀ c : Fin 101, o2 (ix2 i c) = O 2 c.val) (x : Fin 247) :
    vat0 q o0 o1 o2 (ix3 0 i x) = aug3 (cS 0) Q O x.val := by
  pointwise [vat0]
  unfold aug3
  simp only [show cS 0 0 = 41 from rfl, show cS 0 1 = 41 from rfl, show cS 0 2 = 101 from rfl]
  split_ifs <;> first | exact hq _ | exact ho0 _ | exact ho1 _ | exact ho2 _ | (exfalso; omega)

/-- Strip 1's augmented row of a query or a key. -/
def cat1 (q : FVec Ideal S256x64 .f32) (g0 : FVec Ideal S256x41 .f32) (g1 : FVec Ideal S256x101 .f32) (g2 : FVec Ideal S256x41 .f32) (o0 : FVec Ideal S256x41 .f32) (o1 : FVec Ideal S256x101 .f32) (o2 : FVec Ideal S256x41 .f32) : FVec Ideal S1x256x430 .f32 :=
  shapeCast S1x256x430 (concatenate S256x430 1 [⟨S256x64, q⟩, ⟨S256x41, g0⟩, ⟨S256x101, g1⟩, ⟨S256x41, g2⟩, ⟨S256x41, o0⟩, ⟨S256x101, o1⟩, ⟨S256x41, o2⟩]
    concatenates_S256x64_S256x41_S256x101_S256x41_S256x41_S256x101_S256x41_S256x430_d1) shapeCasts_S256x430_S1x256x430

/-- Strip 1's augmented row of a value. -/
def vat1 (q : FVec Ideal S256x64 .f32) (o0 : FVec Ideal S256x41 .f32) (o1 : FVec Ideal S256x101 .f32) (o2 : FVec Ideal S256x41 .f32) : FVec Ideal S1x256x247 .f32 :=
  shapeCast S1x256x247 (concatenate S256x247 1 [⟨S256x64, q⟩, ⟨S256x41, o0⟩, ⟨S256x101, o1⟩, ⟨S256x41, o2⟩]
    concatenates_S256x64_S256x41_S256x101_S256x41_S256x247_d1) shapeCasts_S256x247_S1x256x247

/-- Strip 1's augmented query or key row, entry by entry, from its seven parts. -/
theorem cat1_apply (q : FVec Ideal S256x64 .f32) (g0 : FVec Ideal S256x41 .f32) (g1 : FVec Ideal S256x101 .f32) (g2 : FVec Ideal S256x41 .f32) (o0 : FVec Ideal S256x41 .f32) (o1 : FVec Ideal S256x101 .f32) (o2 : FVec Ideal S256x41 .f32) (i : Fin 256) (Q : Fin 64 → EReal) (G O : Fin 3 → Nat → EReal)
    (hq : ∀ c, q (ix2 i c) = Q c) (hg0 : ∀ c : Fin 41, g0 (ix2 i c) = G 0 c.val) (hg1 : ∀ c : Fin 101, g1 (ix2 i c) = G 1 c.val) (hg2 : ∀ c : Fin 41, g2 (ix2 i c) = G 2 c.val)
    (ho0 : ∀ c : Fin 41, o0 (ix2 i c) = O 0 c.val) (ho1 : ∀ c : Fin 101, o1 (ix2 i c) = O 1 c.val) (ho2 : ∀ c : Fin 41, o2 (ix2 i c) = O 2 c.val) (x : Fin 430) :
    cat1 q g0 g1 g2 o0 o1 o2 (ix3 0 i x) = aug (cS 1) Q G O x.val := by
  pointwise [cat1]
  unfold aug
  simp only [show cS 1 0 = 41 from rfl, show cS 1 1 = 101 from rfl, show cS 1 2 = 41 from rfl]
  split_ifs <;> first | exact hq _ | exact hg0 _ | exact hg1 _ | exact hg2 _ | exact ho0 _ | exact ho1 _ | exact ho2 _ | (exfalso; omega)

/-- Strip 1's augmented value row, entry by entry, from its four parts. -/
theorem vat1_apply (q : FVec Ideal S256x64 .f32) (o0 : FVec Ideal S256x41 .f32) (o1 : FVec Ideal S256x101 .f32) (o2 : FVec Ideal S256x41 .f32) (i : Fin 256) (Q : Fin 64 → EReal) (O : Fin 3 → Nat → EReal)
    (hq : ∀ c, q (ix2 i c) = Q c)
    (ho0 : ∀ c : Fin 41, o0 (ix2 i c) = O 0 c.val) (ho1 : ∀ c : Fin 101, o1 (ix2 i c) = O 1 c.val) (ho2 : ∀ c : Fin 41, o2 (ix2 i c) = O 2 c.val) (x : Fin 247) :
    vat1 q o0 o1 o2 (ix3 0 i x) = aug3 (cS 1) Q O x.val := by
  pointwise [vat1]
  unfold aug3
  simp only [show cS 1 0 = 41 from rfl, show cS 1 1 = 101 from rfl, show cS 1 2 = 41 from rfl]
  split_ifs <;> first | exact hq _ | exact ho0 _ | exact ho1 _ | exact ho2 _ | (exfalso; omega)

/-- Strip 2's augmented row of a query or a key. -/
def cat2 (q : FVec Ideal S256x64 .f32) (g0 : FVec Ideal S256x101 .f32) (g1 : FVec Ideal S256x41 .f32) (g2 : FVec Ideal S256x41 .f32) (o0 : FVec Ideal S256x101 .f32) (o1 : FVec Ideal S256x41 .f32) (o2 : FVec Ideal S256x41 .f32) : FVec Ideal S1x256x430 .f32 :=
  shapeCast S1x256x430 (concatenate S256x430 1 [⟨S256x64, q⟩, ⟨S256x101, g0⟩, ⟨S256x41, g1⟩, ⟨S256x41, g2⟩, ⟨S256x101, o0⟩, ⟨S256x41, o1⟩, ⟨S256x41, o2⟩]
    concatenates_S256x64_S256x101_S256x41_S256x41_S256x101_S256x41_S256x41_S256x430_d1) shapeCasts_S256x430_S1x256x430

/-- Strip 2's augmented row of a value. -/
def vat2 (q : FVec Ideal S256x64 .f32) (o0 : FVec Ideal S256x101 .f32) (o1 : FVec Ideal S256x41 .f32) (o2 : FVec Ideal S256x41 .f32) : FVec Ideal S1x256x247 .f32 :=
  shapeCast S1x256x247 (concatenate S256x247 1 [⟨S256x64, q⟩, ⟨S256x101, o0⟩, ⟨S256x41, o1⟩, ⟨S256x41, o2⟩]
    concatenates_S256x64_S256x101_S256x41_S256x41_S256x247_d1) shapeCasts_S256x247_S1x256x247

/-- Strip 2's augmented query or key row, entry by entry, from its seven parts. -/
theorem cat2_apply (q : FVec Ideal S256x64 .f32) (g0 : FVec Ideal S256x101 .f32) (g1 : FVec Ideal S256x41 .f32) (g2 : FVec Ideal S256x41 .f32) (o0 : FVec Ideal S256x101 .f32) (o1 : FVec Ideal S256x41 .f32) (o2 : FVec Ideal S256x41 .f32) (i : Fin 256) (Q : Fin 64 → EReal) (G O : Fin 3 → Nat → EReal)
    (hq : ∀ c, q (ix2 i c) = Q c) (hg0 : ∀ c : Fin 101, g0 (ix2 i c) = G 0 c.val) (hg1 : ∀ c : Fin 41, g1 (ix2 i c) = G 1 c.val) (hg2 : ∀ c : Fin 41, g2 (ix2 i c) = G 2 c.val)
    (ho0 : ∀ c : Fin 101, o0 (ix2 i c) = O 0 c.val) (ho1 : ∀ c : Fin 41, o1 (ix2 i c) = O 1 c.val) (ho2 : ∀ c : Fin 41, o2 (ix2 i c) = O 2 c.val) (x : Fin 430) :
    cat2 q g0 g1 g2 o0 o1 o2 (ix3 0 i x) = aug (cS 2) Q G O x.val := by
  pointwise [cat2]
  unfold aug
  simp only [show cS 2 0 = 101 from rfl, show cS 2 1 = 41 from rfl, show cS 2 2 = 41 from rfl]
  split_ifs <;> first | exact hq _ | exact hg0 _ | exact hg1 _ | exact hg2 _ | exact ho0 _ | exact ho1 _ | exact ho2 _ | (exfalso; omega)

/-- Strip 2's augmented value row, entry by entry, from its four parts. -/
theorem vat2_apply (q : FVec Ideal S256x64 .f32) (o0 : FVec Ideal S256x101 .f32) (o1 : FVec Ideal S256x41 .f32) (o2 : FVec Ideal S256x41 .f32) (i : Fin 256) (Q : Fin 64 → EReal) (O : Fin 3 → Nat → EReal)
    (hq : ∀ c, q (ix2 i c) = Q c)
    (ho0 : ∀ c : Fin 101, o0 (ix2 i c) = O 0 c.val) (ho1 : ∀ c : Fin 41, o1 (ix2 i c) = O 1 c.val) (ho2 : ∀ c : Fin 41, o2 (ix2 i c) = O 2 c.val) (x : Fin 247) :
    vat2 q o0 o1 o2 (ix3 0 i x) = aug3 (cS 2) Q O x.val := by
  pointwise [vat2]
  unfold aug3
  simp only [show cS 2 0 = 101 from rfl, show cS 2 1 = 41 from rfl, show cS 2 2 = 41 from rfl]
  split_ifs <;> first | exact hq _ | exact ho0 _ | exact ho1 _ | exact ho2 _ | (exfalso; omega)

end Cert.KernelIdeal.Roll
end
-- ==== Proof.Aug.lean ====
module

public import proofs.«01_k».proof.Proof.Gen.KernelIdeal.Frame
public import proofs.«01_k».proof.Proof.Slot
public import Idealize.ShloMosaic.Lib.Pipeline.ValueKit

@[expose] public section

set_option maxRecDepth 16384

noncomputable section

namespace Cert.KernelIdeal.Roll

open Idealize.ShloMosaic Cert.KernelIdeal Cert.KernelIdeal.Gen Cert.Spec

variable (x0 : Vec Ideal S256x384 .f32) (x1 : Vec Ideal S1152x384 .f32) (x2 : Vec Ideal S1x1152 .f32) (x3 : Vec Ideal S2x3x79x64 .f32)
  (x4 : Vec Ideal S2x3x79x64 .f32) (x5 : Vec Ideal S256x3 .f32) (x6 : Vec Ideal S256x1 .i32)

/-- A block's linear map at a row. -/
def LB (i : Fin 256) : Fin 1152 → EReal := lin (fun x => x0 (ix2 i x)) (fun j x => x1 (ix2 j x)) (fun j => x2 (ix2 0 j))

/-- A block's quantised positions at a row. -/
def AB (s : Fin 3) (i : Fin 256) (d : Fin 3) : Nat := (QD (x5 (ix2 i d)) (wS s d)).toNat

/-- Shifted rows agree where their tables and amounts do. -/
theorem sh_congr {C a a' : Nat} {t t' : Fin 79 → EReal} (ht : ∀ l, t l = t' l) (ha : a = a') (c : Nat) : sh t C a c = sh t' C a' c := by
  rw [funext ht, ha]

/-- The block's first product, with its constants, is the linear map of the block's rows. -/
theorem L218 (i : Fin 256) (j : Fin 1152) : k0_pay218 x0 x1 x2 x3 x4 x5 x6 (ix2 i j) = LB x0 x1 x2 i j := by
  unfold LB lin
  pointwise [k0_pay218, k0_pay2]

/-- Strip 0's positions along axis 0 are the coordinates' quantised positions. -/
theorem qd00 (i : Fin 256) : k0_pay221 x0 x1 x2 x3 x4 x5 x6 (ix2 i 0) = QD (x5 (ix2 i 0)) (wS 0 0) := by
  pointwise [k0_pay221, k0_pay7, k0_pay5, k0_pay3]
  rfl

/-- Strip 0's one-hot rows along axis 0 are one at the quantised position and zero elsewhere. -/
theorem oh00 (i : Fin 256) (c : Fin 41) : k0_pay224 x0 x1 x2 x3 x4 x5 x6 (ix2 i c) = oh c.val (AB x5 0 i 0) := by
  unfold AB
  rw [← qd00 x0 x1 x2 x3 x4 x5 x6 i]
  refine Eq.trans ?_ (oh_eq c.val (by omega) _)
  pointwise [k0_pay224, k0_pay18]

/-- Strip 0's reversed one-hot rows along axis 0 are one at the quantised position counted from the end. -/
theorem or00 (hR : ∀ s d i, AB x5 s i d < cS s d) (i : Fin 256) (c : Fin 41) :
    k0_pay225 x0 x1 x2 x3 x4 x5 x6 (ix2 i c) = oh c.val (cS 0 0 - 1 - AB x5 0 i 0) := by
  have h : AB x5 0 i 0 < 41 := hR 0 0 i
  rw [show cS 0 0 = 41 from rfl]
  unfold AB at h ⊢
  rw [← qd00 x0 x1 x2 x3 x4 x5 x6 i] at h ⊢
  rw [show 41 - 1 - (k0_pay221 x0 x1 x2 x3 x4 x5 x6 (ix2 i 0)).toNat = (IntOp.subi 40#32 (k0_pay221 x0 x1 x2 x3 x4 x5 x6 (ix2 i 0))).toNat from
    (subi_toNat 40#32 _ (by have : (40#32 : BitVec 32).toNat = 40 := rfl; omega)).symm]
  refine Eq.trans ?_ (oh_eq c.val (by omega) _)
  pointwise [k0_pay225, k0_pay19]

/-- Strip 0's positions along axis 1 are the coordinates' quantised positions. -/
theorem qd01 (i : Fin 256) : k0_pay222 x0 x1 x2 x3 x4 x5 x6 (ix2 i 0) = QD (x5 (ix2 i 1)) (wS 0 1) := by
  pointwise [k0_pay222, k0_pay11, k0_pay8, k0_pay10, k0_pay3]
  rfl

/-- Strip 0's one-hot rows along axis 1 are one at the quantised position and zero elsewhere. -/
theorem oh01 (i : Fin 256) (c : Fin 41) : k0_pay226 x0 x1 x2 x3 x4 x5 x6 (ix2 i c) = oh c.val (AB x5 0 i 1) := by
  unfold AB
  rw [← qd01 x0 x1 x2 x3 x4 x5 x6 i]
  refine Eq.trans ?_ (oh_eq c.val (by omega) _)
  pointwise [k0_pay226, k0_pay20]

/-- Strip 0's reversed one-hot rows along axis 1 are one at the quantised position counted from the end. -/
theorem or01 (hR : ∀ s d i, AB x5 s i d < cS s d) (i : Fin 256) (c : Fin 41) :
    k0_pay227 x0 x1 x2 x3 x4 x5 x6 (ix2 i c) = oh c.val (cS 0 1 - 1 - AB x5 0 i 1) := by
  have h : AB x5 0 i 1 < 41 := hR 0 1 i
  rw [show cS 0 1 = 41 from rfl]
  unfold AB at h ⊢
  rw [← qd01 x0 x1 x2 x3 x4 x5 x6 i] at h ⊢
  rw [show 41 - 1 - (k0_pay222 x0 x1 x2 x3 x4 x5 x6 (ix2 i 0)).toNat = (IntOp.subi 40#32 (k0_pay222 x0 x1 x2 x3 x4 x5 x6 (ix2 i 0))).toNat from
    (subi_toNat 40#32 _ (by have : (40#32 : BitVec 32).toNat = 40 := rfl; omega)).symm]
  refine Eq.trans ?_ (oh_eq c.val (by omega) _)
  pointwise [k0_pay227, k0_pay21]

/-- Strip 0's positions along axis 2 are the coordinates' quantised positions. -/
theorem qd02 (i : Fin 256) : k0_pay223 x0 x1 x2 x3 x4 x5 x6 (ix2 i 0) = QD (x5 (ix2 i 2)) (wS 0 2) := by
  pointwise [k0_pay223, k0_pay14, k0_pay219, k0_pay12, k0_pay3]
  rfl

/-- Strip 0's one-hot rows along axis 2 are one at the quantised position and zero elsewhere. -/
theorem oh02 (i : Fin 256) (c : Fin 101) : k0_pay228 x0 x1 x2 x3 x4 x5 x6 (ix2 i c) = oh c.val (AB x5 0 i 2) := by
  unfold AB
  rw [← qd02 x0 x1 x2 x3 x4 x5 x6 i]
  refine Eq.trans ?_ (oh_eq c.val (by omega) _)
  pointwise [k0_pay228, k0_pay22]

/-- Strip 0's reversed one-hot rows along axis 2 are one at the quantised position counted from the end. -/
theorem or02 (hR : ∀ s d i, AB x5 s i d < cS s d) (i : Fin 256) (c : Fin 101) :
    k0_pay229 x0 x1 x2 x3 x4 x5 x6 (ix2 i c) = oh c.val (cS 0 2 - 1 - AB x5 0 i 2) := by
  have h : AB x5 0 i 2 < 101 := hR 0 2 i
  rw [show cS 0 2 = 101 from rfl]
  unfold AB at h ⊢
  rw [← qd02 x0 x1 x2 x3 x4 x5 x6 i] at h ⊢
  rw [show 101 - 1 - (k0_pay223 x0 x1 x2 x3 x4 x5 x6 (ix2 i 0)).toNat = (IntOp.subi 100#32 (k0_pay223 x0 x1 x2 x3 x4 x5 x6 (ix2 i 0))).toNat from
    (subi_toNat 100#32 _ (by have : (100#32 : BitVec 32).toNat = 100 := rfl; omega)).symm]
  refine Eq.trans ?_ (oh_eq c.val (by omega) _)
  pointwise [k0_pay229, k0_pay23]

/-- Head 0's queries, scaled, are its columns of the linear map. -/
theorem q0 (i : Fin 256) (c : Fin 64) : k0_pay230 x0 x1 x2 x3 x4 x5 x6 (ix2 i c) = qh (LB x0 x1 x2 i) 0 c := by
  unfold qh
  rw [← L218 x0 x1 x2 x3 x4 x5 x6]
  pointwise [k0_pay230, k0_pay24]

/-- Head 0's keys are its columns of the linear map. -/
theorem k0 (i : Fin 256) (c : Fin 64) : k0_pay231 x0 x1 x2 x3 x4 x5 x6 (ix2 i c) = kh (LB x0 x1 x2 i) 0 c := by
  unfold kh
  rw [← L218 x0 x1 x2 x3 x4 x5 x6]
  pointwise [k0_pay231, k0_pay25]

/-- Head 0's values are its columns of the linear map. -/
theorem v0 (i : Fin 256) (c : Fin 64) : k0_pay26 (k0_pay218 x0 x1 x2 x3 x4 x5 x6) (ix2 i c) = vh (LB x0 x1 x2 i) 0 c := by
  unfold vh
  rw [← L218 x0 x1 x2 x3 x4 x5 x6]
  pointwise [k0_pay26]

/-- Head 1's queries, scaled, are its columns of the linear map. -/
theorem q1 (i : Fin 256) (c : Fin 64) : k0_pay234 x0 x1 x2 x3 x4 x5 x6 (ix2 i c) = qh (LB x0 x1 x2 i) 1 c := by
  unfold qh
  rw [← L218 x0 x1 x2 x3 x4 x5 x6]
  pointwise [k0_pay234, k0_pay33]

/-- Head 1's keys are its columns of the linear map. -/
theorem k1 (i : Fin 256) (c : Fin 64) : k0_pay235 x0 x1 x2 x3 x4 x5 x6 (ix2 i c) = kh (LB x0 x1 x2 i) 1 c := by
  unfold kh
  rw [← L218 x0 x1 x2 x3 x4 x5 x6]
  pointwise [k0_pay235, k0_pay34]

/-- Head 1's values are its columns of the linear map. -/
theorem v1 (i : Fin 256) (c : Fin 64) : k0_pay35 (k0_pay218 x0 x1 x2 x3 x4 x5 x6) (ix2 i c) = vh (LB x0 x1 x2 i) 1 c := by
  unfold vh
  rw [← L218 x0 x1 x2 x3 x4 x5 x6]
  pointwise [k0_pay35]

/-- Strip 1's positions along axis 0 are the coordinates' quantised positions. -/
theorem qd10 (i : Fin 256) : k0_pay256 x0 x1 x2 x3 x4 x5 x6 (ix2 i 0) = QD (x5 (ix2 i 0)) (wS 1 0) := by
  pointwise [k0_pay256, k0_pay81, k0_pay219, k0_pay79, k0_pay3]
  rfl

/-- Strip 1's one-hot rows along axis 0 are one at the quantised position and zero elsewhere. -/
theorem oh10 (i : Fin 256) (c : Fin 41) : k0_pay259 x0 x1 x2 x3 x4 x5 x6 (ix2 i c) = oh c.val (AB x5 1 i 0) := by
  unfold AB
  rw [← qd10 x0 x1 x2 x3 x4 x5 x6 i]
  refine Eq.trans ?_ (oh_eq c.val (by omega) _)
  pointwise [k0_pay259, k0_pay91]

/-- Strip 1's reversed one-hot rows along axis 0 are one at the quantised position counted from the end. -/
theorem or10 (hR : ∀ s d i, AB x5 s i d < cS s d) (i : Fin 256) (c : Fin 41) :
    k0_pay260 x0 x1 x2 x3 x4 x5 x6 (ix2 i c) = oh c.val (cS 1 0 - 1 - AB x5 1 i 0) := by
  have h : AB x5 1 i 0 < 41 := hR 1 0 i
  rw [show cS 1 0 = 41 from rfl]
  unfold AB at h ⊢
  rw [← qd10 x0 x1 x2 x3 x4 x5 x6 i] at h ⊢
  rw [show 41 - 1 - (k0_pay256 x0 x1 x2 x3 x4 x5 x6 (ix2 i 0)).toNat = (IntOp.subi 40#32 (k0_pay256 x0 x1 x2 x3 x4 x5 x6 (ix2 i 0))).toNat from
    (subi_toNat 40#32 _ (by have : (40#32 : BitVec 32).toNat = 40 := rfl; omega)).symm]
  refine Eq.trans ?_ (oh_eq c.val (by omega) _)
  pointwise [k0_pay260, k0_pay92]

/-- Strip 1's positions along axis 1 are the coordinates' quantised positions. -/
theorem qd11 (i : Fin 256) : k0_pay257 x0 x1 x2 x3 x4 x5 x6 (ix2 i 0) = QD (x5 (ix2 i 1)) (wS 1 1) := by
  pointwise [k0_pay257, k0_pay85, k0_pay82, k0_pay219, k0_pay3]
  rfl

/-- Strip 1's one-hot rows along axis 1 are one at the quantised position and zero elsewhere. -/
theorem oh11 (i : Fin 256) (c : Fin 101) : k0_pay261 x0 x1 x2 x3 x4 x5 x6 (ix2 i c) = oh c.val (AB x5 1 i 1) := by
  unfold AB
  rw [← qd11 x0 x1 x2 x3 x4 x5 x6 i]
  refine Eq.trans ?_ (oh_eq c.val (by omega) _)
  pointwise [k0_pay261, k0_pay93]

/-- Strip 1's reversed one-hot rows along axis 1 are one at the quantised position counted from the end. -/
theorem or11 (hR : ∀ s d i, AB x5 s i d < cS s d) (i : Fin 256) (c : Fin 101) :
    k0_pay262 x0 x1 x2 x3 x4 x5 x6 (ix2 i c) = oh c.val (cS 1 1 - 1 - AB x5 1 i 1) := by
  have h : AB x5 1 i 1 < 101 := hR 1 1 i
  rw [show cS 1 1 = 101 from rfl]
  unfold AB at h ⊢
  rw [← qd11 x0 x1 x2 x3 x4 x5 x6 i] at h ⊢
  rw [show 101 - 1 - (k0_pay257 x0 x1 x2 x3 x4 x5 x6 (ix2 i 0)).toNat = (IntOp.subi 100#32 (k0_pay257 x0 x1 x2 x3 x4 x5 x6 (ix2 i 0))).toNat from
    (subi_toNat 100#32 _ (by have : (100#32 : BitVec 32).toNat = 100 := rfl; omega)).symm]
  refine Eq.trans ?_ (oh_eq c.val (by omega) _)
  pointwise [k0_pay262, k0_pay94]

/-- Strip 1's positions along axis 2 are the coordinates' quantised positions. -/
theorem qd12 (i : Fin 256) : k0_pay258 x0 x1 x2 x3 x4 x5 x6 (ix2 i 0) = QD (x5 (ix2 i 2)) (wS 1 2) := by
  pointwise [k0_pay258, k0_pay88, k0_pay219, k0_pay86, k0_pay3]
  rfl

/-- Strip 1's one-hot rows along axis 2 are one at the quantised position and zero elsewhere. -/
theorem oh12 (i : Fin 256) (c : Fin 41) : k0_pay263 x0 x1 x2 x3 x4 x5 x6 (ix2 i c) = oh c.val (AB x5 1 i 2) := by
  unfold AB
  rw [← qd12 x0 x1 x2 x3 x4 x5 x6 i]
  refine Eq.trans ?_ (oh_eq c.val (by omega) _)
  pointwise [k0_pay263, k0_pay95]

/-- Strip 1's reversed one-hot rows along axis 2 are one at the quantised position counted from the end. -/
theorem or12 (hR : ∀ s d i, AB x5 s i d < cS s d) (i : Fin 256) (c : Fin 41) :
    k0_pay264 x0 x1 x2 x3 x4 x5 x6 (ix2 i c) = oh c.val (cS 1 2 - 1 - AB x5 1 i 2) := by
  have h : AB x5 1 i 2 < 41 := hR 1 2 i
  rw [show cS 1 2 = 41 from rfl]
  unfold AB at h ⊢
  rw [← qd12 x0 x1 x2 x3 x4 x5 x6 i] at h ⊢
  rw [show 41 - 1 - (k0_pay258 x0 x1 x2 x3 x4 x5 x6 (ix2 i 0)).toNat = (IntOp.subi 40#32 (k0_pay258 x0 x1 x2 x3 x4 x5 x6 (ix2 i 0))).toNat from
    (subi_toNat 40#32 _ (by have : (40#32 : BitVec 32).toNat = 40 := rfl; omega)).symm]
  refine Eq.trans ?_ (oh_eq c.val (by omega) _)
  pointwise [k0_pay264, k0_pay96]

/-- Head 2's queries, scaled, are its columns of the linear map. -/
theorem q2 (i : Fin 256) (c : Fin 64) : k0_pay265 x0 x1 x2 x3 x4 x5 x6 (ix2 i c) = qh (LB x0 x1 x2 i) 2 c := by
  unfold qh
  rw [← L218 x0 x1 x2 x3 x4 x5 x6]
  pointwise [k0_pay265, k0_pay97]

/-- Head 2's keys are its columns of the linear map. -/
theorem k2 (i : Fin 256) (c : Fin 64) : k0_pay266 x0 x1 x2 x3 x4 x5 x6 (ix2 i c) = kh (LB x0 x1 x2 i) 2 c := by
  unfold kh
  rw [← L218 x0 x1 x2 x3 x4 x5 x6]
  pointwise [k0_pay266, k0_pay98]

/-- Head 2's values are its columns of the linear map. -/
theorem v2 (i : Fin 256) (c : Fin 64) : k0_pay99 (k0_pay218 x0 x1 x2 x3 x4 x5 x6) (ix2 i c) = vh (LB x0 x1 x2 i) 2 c := by
  unfold vh
  rw [← L218 x0 x1 x2 x3 x4 x5 x6]
  pointwise [k0_pay99]

/-- Head 3's queries, scaled, are its columns of the linear map. -/
theorem q3 (i : Fin 256) (c : Fin 64) : k0_pay267 x0 x1 x2 x3 x4 x5 x6 (ix2 i c) = qh (LB x0 x1 x2 i) 3 c := by
  unfold qh
  rw [← L218 x0 x1 x2 x3 x4 x5 x6]
  pointwise [k0_pay267, k0_pay107]

/-- Head 3's keys are its columns of the linear map. -/
theorem k3 (i : Fin 256) (c : Fin 64) : k0_pay268 x0 x1 x2 x3 x4 x5 x6 (ix2 i c) = kh (LB x0 x1 x2 i) 3 c := by
  unfold kh
  rw [← L218 x0 x1 x2 x3 x4 x5 x6]
  pointwise [k0_pay268, k0_pay108]

/-- Head 3's values are its columns of the linear map. -/
theorem v3 (i : Fin 256) (c : Fin 64) : k0_pay109 (k0_pay218 x0 x1 x2 x3 x4 x5 x6) (ix2 i c) = vh (LB x0 x1 x2 i) 3 c := by
  unfold vh
  rw [← L218 x0 x1 x2 x3 x4 x5 x6]
  pointwise [k0_pay109]

/-- Strip 2's positions along axis 0 are the coordinates' quantised positions. -/
theorem qd20 (i : Fin 256) : k0_pay273 x0 x1 x2 x3 x4 x5 x6 (ix2 i 0) = QD (x5 (ix2 i 0)) (wS 2 0) := by
  pointwise [k0_pay273, k0_pay149, k0_pay219, k0_pay147, k0_pay3]
  rfl

/-- Strip 2's one-hot rows along axis 0 are one at the quantised position and zero elsewhere. -/
theorem oh20 (i : Fin 256) (c : Fin 101) : k0_pay277 x0 x1 x2 x3 x4 x5 x6 (ix2 i c) = oh c.val (AB x5 2 i 0) := by
  unfold AB
  rw [← qd20 x0 x1 x2 x3 x4 x5 x6 i]
  refine Eq.trans ?_ (oh_eq c.val (by omega) _)
  pointwise [k0_pay277, k0_pay158]

/-- Strip 2's reversed one-hot rows along axis 0 are one at the quantised position counted from the end. -/
theorem or20 (hR : ∀ s d i, AB x5 s i d < cS s d) (i : Fin 256) (c : Fin 101) :
    k0_pay278 x0 x1 x2 x3 x4 x5 x6 (ix2 i c) = oh c.val (cS 2 0 - 1 - AB x5 2 i 0) := by
  have h : AB x5 2 i 0 < 101 := hR 2 0 i
  rw [show cS 2 0 = 101 from rfl]
  unfold AB at h ⊢
  rw [← qd20 x0 x1 x2 x3 x4 x5 x6 i] at h ⊢
  rw [show 101 - 1 - (k0_pay273 x0 x1 x2 x3 x4 x5 x6 (ix2 i 0)).toNat = (IntOp.subi 100#32 (k0_pay273 x0 x1 x2 x3 x4 x5 x6 (ix2 i 0))).toNat from
    (subi_toNat 100#32 _ (by have : (100#32 : BitVec 32).toNat = 100 := rfl; omega)).symm]
  refine Eq.trans ?_ (oh_eq c.val (by omega) _)
  pointwise [k0_pay278, k0_pay159]

/-- Strip 2's positions along axis 1 are the coordinates' quantised positions. -/
theorem qd21 (i : Fin 256) : k0_pay275 x0 x1 x2 x3 x4 x5 x6 (ix2 i 0) = QD (x5 (ix2 i 1)) (wS 2 1) := by
  pointwise [k0_pay275, k0_pay152, k0_pay274, k0_pay150, k0_pay219, k0_pay3]
  rfl

/-- Strip 2's one-hot rows along axis 1 are one at the quantised position and zero elsewhere. -/
theorem oh21 (i : Fin 256) (c : Fin 41) : k0_pay279 x0 x1 x2 x3 x4 x5 x6 (ix2 i c) = oh c.val (AB x5 2 i 1) := by
  unfold AB
  rw [← qd21 x0 x1 x2 x3 x4 x5 x6 i]
  refine Eq.trans ?_ (oh_eq c.val (by omega) _)
  pointwise [k0_pay279, k0_pay160]

/-- Strip 2's reversed one-hot rows along axis 1 are one at the quantised position counted from the end. -/
theorem or21 (hR : ∀ s d i, AB x5 s i d < cS s d) (i : Fin 256) (c : Fin 41) :
    k0_pay280 x0 x1 x2 x3 x4 x5 x6 (ix2 i c) = oh c.val (cS 2 1 - 1 - AB x5 2 i 1) := by
  have h : AB x5 2 i 1 < 41 := hR 2 1 i
  rw [show cS 2 1 = 41 from rfl]
  unfold AB at h ⊢
  rw [← qd21 x0 x1 x2 x3 x4 x5 x6 i] at h ⊢
  rw [show 41 - 1 - (k0_pay275 x0 x1 x2 x3 x4 x5 x6 (ix2 i 0)).toNat = (IntOp.subi 40#32 (k0_pay275 x0 x1 x2 x3 x4 x5 x6 (ix2 i 0))).toNat from
    (subi_toNat 40#32 _ (by have : (40#32 : BitVec 32).toNat = 40 := rfl; omega)).symm]
  refine Eq.trans ?_ (oh_eq c.val (by omega) _)
  pointwise [k0_pay280, k0_pay161]

/-- Strip 2's positions along axis 2 are the coordinates' quantised positions. -/
theorem qd22 (i : Fin 256) : k0_pay276 x0 x1 x2 x3 x4 x5 x6 (ix2 i 0) = QD (x5 (ix2 i 2)) (wS 2 2) := by
  pointwise [k0_pay276, k0_pay155, k0_pay219, k0_pay153, k0_pay3]
  rfl

/-- Strip 2's one-hot rows along axis 2 are one at the quantised position and zero elsewhere. -/
theorem oh22 (i : Fin 256) (c : Fin 41) : k0_pay281 x0 x1 x2 x3 x4 x5 x6 (ix2 i c) = oh c.val (AB x5 2 i 2) := by
  unfold AB
  rw [← qd22 x0 x1 x2 x3 x4 x5 x6 i]
  refine Eq.trans ?_ (oh_eq c.val (by omega) _)
  pointwise [k0_pay281, k0_pay162]

/-- Strip 2's reversed one-hot rows along axis 2 are one at the quantised position counted from the end. -/
theorem or22 (hR : ∀ s d i, AB x5 s i d < cS s d) (i : Fin 256) (c : Fin 41) :
    k0_pay282 x0 x1 x2 x3 x4 x5 x6 (ix2 i c) = oh c.val (cS 2 2 - 1 - AB x5 2 i 2) := by
  have h : AB x5 2 i 2 < 41 := hR 2 2 i
  rw [show cS 2 2 = 41 from rfl]
  unfold AB at h ⊢
  rw [← qd22 x0 x1 x2 x3 x4 x5 x6 i] at h ⊢
  rw [show 41 - 1 - (k0_pay276 x0 x1 x2 x3 x4 x5 x6 (ix2 i 0)).toNat = (IntOp.subi 40#32 (k0_pay276 x0 x1 x2 x3 x4 x5 x6 (ix2 i 0))).toNat from
    (subi_toNat 40#32 _ (by have : (40#32 : BitVec 32).toNat = 40 := rfl; omega)).symm]
  refine Eq.trans ?_ (oh_eq c.val (by omega) _)
  pointwise [k0_pay282, k0_pay163]

/-- Head 4's queries, scaled, are its columns of the linear map. -/
theorem q4 (i : Fin 256) (c : Fin 64) : k0_pay283 x0 x1 x2 x3 x4 x5 x6 (ix2 i c) = qh (LB x0 x1 x2 i) 4 c := by
  unfold qh
  rw [← L218 x0 x1 x2 x3 x4 x5 x6]
  pointwise [k0_pay283, k0_pay164]

/-- Head 4's keys are its columns of the linear map. -/
theorem k4 (i : Fin 256) (c : Fin 64) : k0_pay284 x0 x1 x2 x3 x4 x5 x6 (ix2 i c) = kh (LB x0 x1 x2 i) 4 c := by
  unfold kh
  rw [← L218 x0 x1 x2 x3 x4 x5 x6]
  pointwise [k0_pay284, k0_pay165]

/-- Head 4's values are its columns of the linear map. -/
theorem v4 (i : Fin 256) (c : Fin 64) : k0_pay166 (k0_pay218 x0 x1 x2 x3 x4 x5 x6) (ix2 i c) = vh (LB x0 x1 x2 i) 4 c := by
  unfold vh
  rw [← L218 x0 x1 x2 x3 x4 x5 x6]
  pointwise [k0_pay166]

/-- Head 5's queries, scaled, are its columns of the linear map. -/
theorem q5 (i : Fin 256) (c : Fin 64) : k0_pay286 x0 x1 x2 x3 x4 x5 x6 (ix2 i c) = qh (LB x0 x1 x2 i) 5 c := by
  unfold qh
  rw [← L218 x0 x1 x2 x3 x4 x5 x6]
  pointwise [k0_pay286, k0_pay173]

/-- Head 5's keys are its columns of the linear map. -/
theorem k5 (i : Fin 256) (c : Fin 64) : k0_pay287 x0 x1 x2 x3 x4 x5 x6 (ix2 i c) = kh (LB x0 x1 x2 i) 5 c := by
  unfold kh
  rw [← L218 x0 x1 x2 x3 x4 x5 x6]
  pointwise [k0_pay287, k0_pay174]

/-- Head 5's values are its columns of the linear map. -/
theorem v5 (i : Fin 256) (c : Fin 64) : k0_pay175 (k0_pay218 x0 x1 x2 x3 x4 x5 x6) (ix2 i c) = vh (LB x0 x1 x2 i) 5 c := by
  unfold vh
  rw [← L218 x0 x1 x2 x3 x4 x5 x6]
  pointwise [k0_pay175]

end Cert.KernelIdeal.Roll
end
-- ==== Proof.Aug0.lean ====
module

public import proofs.«01_k».proof.Proof.Gen.KernelIdeal.Frame
public import proofs.«01_k».proof.Proof.Slot
public import Idealize.ShloMosaic.Lib.Pipeline.ValueKit
public import proofs.«01_k».proof.Proof.Aug

@[expose] public section

set_option maxRecDepth 16384

noncomputable section

namespace Cert.KernelIdeal.Roll

open Idealize.ShloMosaic Cert.KernelIdeal Cert.KernelIdeal.Gen Cert.Spec

variable (x0 : Vec Ideal S256x384 .f32) (x1 : Vec Ideal S1152x384 .f32) (x2 : Vec Ideal S1x1152 .f32) (x3 : Vec Ideal S2x3x79x64 .f32)
  (x4 : Vec Ideal S2x3x79x64 .f32) (x5 : Vec Ideal S256x3 .f32) (x6 : Vec Ideal S256x1 .i32)

/-- Head 0's scaled queries' products with the query table of axis 0. -/
theorem tq00 (i : Fin 256) (l : Fin 79) : tb (k0_pay230 x0 x1 x2 x3 x4 x5 x6) (View.ld x3 r0_6) (ix2 i l)
    = tab (qh (LB x0 x1 x2 i) 0) (fun l y => x3 (ix4 0 0 l y)) l := by
  rw [tb_apply]
  unfold tab
  refine Finset.sum_congr rfl fun y _ => ?_
  refine congrArg₂ (· * ·) (q0 x0 x1 x2 x3 x4 x5 x6 i y) ?_
  pointwise []

/-- Head 0's scaled queries' products with the query table of axis 1. -/
theorem tq01 (i : Fin 256) (l : Fin 79) : tb (k0_pay230 x0 x1 x2 x3 x4 x5 x6) (View.ld x3 r0_7) (ix2 i l)
    = tab (qh (LB x0 x1 x2 i) 0) (fun l y => x3 (ix4 0 1 l y)) l := by
  rw [tb_apply]
  unfold tab
  refine Finset.sum_congr rfl fun y _ => ?_
  refine congrArg₂ (· * ·) (q0 x0 x1 x2 x3 x4 x5 x6 i y) ?_
  pointwise []

/-- Head 0's scaled queries' products with the query table of axis 2. -/
theorem tq02 (i : Fin 256) (l : Fin 79) : tb (k0_pay230 x0 x1 x2 x3 x4 x5 x6) (View.ld x3 r0_8) (ix2 i l)
    = tab (qh (LB x0 x1 x2 i) 0) (fun l y => x3 (ix4 0 2 l y)) l := by
  rw [tb_apply]
  unfold tab
  refine Finset.sum_congr rfl fun y _ => ?_
  refine congrArg₂ (· * ·) (q0 x0 x1 x2 x3 x4 x5 x6 i y) ?_
  pointwise []

/-- Head 0's keys' products with the key table of axis 0. -/
theorem tk00 (i : Fin 256) (l : Fin 79) : tb (k0_pay231 x0 x1 x2 x3 x4 x5 x6) (View.ld x4 r0_6) (ix2 i l)
    = tab (kh (LB x0 x1 x2 i) 0) (fun l y => x4 (ix4 0 0 l y)) l := by
  rw [tb_apply]
  unfold tab
  refine Finset.sum_congr rfl fun y _ => ?_
  refine congrArg₂ (· * ·) (k0 x0 x1 x2 x3 x4 x5 x6 i y) ?_
  pointwise []

/-- Head 0's keys' products with the key table of axis 1. -/
theorem tk01 (i : Fin 256) (l : Fin 79) : tb (k0_pay231 x0 x1 x2 x3 x4 x5 x6) (View.ld x4 r0_7) (ix2 i l)
    = tab (kh (LB x0 x1 x2 i) 0) (fun l y => x4 (ix4 0 1 l y)) l := by
  rw [tb_apply]
  unfold tab
  refine Finset.sum_congr rfl fun y _ => ?_
  refine congrArg₂ (· * ·) (k0 x0 x1 x2 x3 x4 x5 x6 i y) ?_
  pointwise []

/-- Head 0's keys' products with the key table of axis 2. -/
theorem tk02 (i : Fin 256) (l : Fin 79) : tb (k0_pay231 x0 x1 x2 x3 x4 x5 x6) (View.ld x4 r0_8) (ix2 i l)
    = tab (kh (LB x0 x1 x2 i) 0) (fun l y => x4 (ix4 0 2 l y)) l := by
  rw [tb_apply]
  unfold tab
  refine Finset.sum_congr rfl fun y _ => ?_
  refine congrArg₂ (· * ·) (k0 x0 x1 x2 x3 x4 x5 x6 i y) ?_
  pointwise []

/-- Head 1's scaled queries' products with the query table of axis 0. -/
theorem tq10 (i : Fin 256) (l : Fin 79) : tb (k0_pay234 x0 x1 x2 x3 x4 x5 x6) (View.ld x3 r0_9) (ix2 i l)
    = tab (qh (LB x0 x1 x2 i) 1) (fun l y => x3 (ix4 1 0 l y)) l := by
  rw [tb_apply]
  unfold tab
  refine Finset.sum_congr rfl fun y _ => ?_
  refine congrArg₂ (· * ·) (q1 x0 x1 x2 x3 x4 x5 x6 i y) ?_
  pointwise []

/-- Head 1's scaled queries' products with the query table of axis 1. -/
theorem tq11 (i : Fin 256) (l : Fin 79) : tb (k0_pay234 x0 x1 x2 x3 x4 x5 x6) (View.ld x3 r0_10) (ix2 i l)
    = tab (qh (LB x0 x1 x2 i) 1) (fun l y => x3 (ix4 1 1 l y)) l := by
  rw [tb_apply]
  unfold tab
  refine Finset.sum_congr rfl fun y _ => ?_
  refine congrArg₂ (· * ·) (q1 x0 x1 x2 x3 x4 x5 x6 i y) ?_
  pointwise []

/-- Head 1's scaled queries' products with the query table of axis 2. -/
theorem tq12 (i : Fin 256) (l : Fin 79) : tb (k0_pay234 x0 x1 x2 x3 x4 x5 x6) (View.ld x3 r0_11) (ix2 i l)
    = tab (qh (LB x0 x1 x2 i) 1) (fun l y => x3 (ix4 1 2 l y)) l := by
  rw [tb_apply]
  unfold tab
  refine Finset.sum_congr rfl fun y _ => ?_
  refine congrArg₂ (· * ·) (q1 x0 x1 x2 x3 x4 x5 x6 i y) ?_
  pointwise []

/-- Head 1's keys' products with the key table of axis 0. -/
theorem tk10 (i : Fin 256) (l : Fin 79) : tb (k0_pay235 x0 x1 x2 x3 x4 x5 x6) (View.ld x4 r0_9) (ix2 i l)
    = tab (kh (LB x0 x1 x2 i) 1) (fun l y => x4 (ix4 1 0 l y)) l := by
  rw [tb_apply]
  unfold tab
  refine Finset.sum_congr rfl fun y _ => ?_
  refine congrArg₂ (· * ·) (k1 x0 x1 x2 x3 x4 x5 x6 i y) ?_
  pointwise []

/-- Head 1's keys' products with the key table of axis 1. -/
theorem tk11 (i : Fin 256) (l : Fin 79) : tb (k0_pay235 x0 x1 x2 x3 x4 x5 x6) (View.ld x4 r0_10) (ix2 i l)
    = tab (kh (LB x0 x1 x2 i) 1) (fun l y => x4 (ix4 1 1 l y)) l := by
  rw [tb_apply]
  unfold tab
  refine Finset.sum_congr rfl fun y _ => ?_
  refine congrArg₂ (· * ·) (k1 x0 x1 x2 x3 x4 x5 x6 i y) ?_
  pointwise []

/-- Head 1's keys' products with the key table of axis 2. -/
theorem tk12 (i : Fin 256) (l : Fin 79) : tb (k0_pay235 x0 x1 x2 x3 x4 x5 x6) (View.ld x4 r0_11) (ix2 i l)
    = tab (kh (LB x0 x1 x2 i) 1) (fun l y => x4 (ix4 1 2 l y)) l := by
  rw [tb_apply]
  unfold tab
  refine Finset.sum_congr rfl fun y _ => ?_
  refine congrArg₂ (· * ·) (k1 x0 x1 x2 x3 x4 x5 x6 i y) ?_
  pointwise []

/-- Strip 0's rotated rows along its two narrow axes, from the tables' products. -/
theorem gn0 : (k0_pay248 x0 x1 x2 x3 x4 x5 x6) = grp8 (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) := rfl

/-- Strip 0's rotated rows along its wide axis, from the tables' products. -/
theorem gw0 : (k0_pay69 (k0_pay250 x0 x1 x2 x3 x4 x5 x6) (k0_pay253 x0 x1 x2 x3 x4 x5 x6) (k0_pay254 x0 x1 x2 x3 x4 x5 x6) (k0_pay255 x0 x1 x2 x3 x4 x5 x6)) = grp4 (k0_pay223 x0 x1 x2 x3 x4 x5 x6) (tb (k0_pay230 x0 x1 x2 x3 x4 x5 x6) (View.ld x3 r0_8)) (tb (k0_pay234 x0 x1 x2 x3 x4 x5 x6) (View.ld x3 r0_11)) (tb (k0_pay231 x0 x1 x2 x3 x4 x5 x6) (View.ld x4 r0_8)) (tb (k0_pay235 x0 x1 x2 x3 x4 x5 x6) (View.ld x4 r0_11)) := rfl

/-- Head 0's augmented query row. -/
theorem augQ0 (hR : ∀ s d i, AB x5 s i d < cS s d) (i : Fin 256) (x : Fin 430) :
    k0_pay72 (k0_pay224 x0 x1 x2 x3 x4 x5 x6) (k0_pay226 x0 x1 x2 x3 x4 x5 x6) (k0_pay228 x0 x1 x2 x3 x4 x5 x6) (k0_pay230 x0 x1 x2 x3 x4 x5 x6) (k0_pay53 (k0_pay244 x0 x1 x2 x3 x4 x5 x6) (k0_pay245 x0 x1 x2 x3 x4 x5 x6) (k0_pay246 x0 x1 x2 x3 x4 x5 x6) (k0_pay247 x0 x1 x2 x3 x4 x5 x6)) (k0_pay58 (k0_pay248 x0 x1 x2 x3 x4 x5 x6)) (k0_pay250 x0 x1 x2 x3 x4 x5 x6) (k0_pay253 x0 x1 x2 x3 x4 x5 x6) (k0_pay254 x0 x1 x2 x3 x4 x5 x6) (k0_pay255 x0 x1 x2 x3 x4 x5 x6) (ix3 0 i x)
      = augQ 0 (qh (LB x0 x1 x2 i) 0) (fun d l y => x3 (ix4 0 d l y)) (AB x5 0 i) x.val := by
  refine cat0_apply _ _ _ _ _ _ _ i _ _ _ ?_ ?_ ?_ ?_ ?_ ?_ ?_ x
  · exact fun c => q0 x0 x1 x2 x3 x4 x5 x6 i c
  · intro c
    refine (slot8_0 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd00]; exact hR 0 0 i) c).trans ?_
    exact sh_congr (fun l => tq00 x0 x1 x2 x3 x4 x5 x6 i l) (by rw [qd00]; rfl) c.val
  · intro c
    refine (slot8_4 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd01]; exact hR 0 1 i) c).trans ?_
    exact sh_congr (fun l => tq01 x0 x1 x2 x3 x4 x5 x6 i l) (by rw [qd01]; rfl) c.val
  · intro c
    refine (slot4_0 (k0_pay69 (k0_pay250 x0 x1 x2 x3 x4 x5 x6) (k0_pay253 x0 x1 x2 x3 x4 x5 x6) (k0_pay254 x0 x1 x2 x3 x4 x5 x6) (k0_pay255 x0 x1 x2 x3 x4 x5 x6)) (k0_pay223 x0 x1 x2 x3 x4 x5 x6) (tb (k0_pay230 x0 x1 x2 x3 x4 x5 x6) (View.ld x3 r0_8)) (tb (k0_pay234 x0 x1 x2 x3 x4 x5 x6) (View.ld x3 r0_11)) (tb (k0_pay231 x0 x1 x2 x3 x4 x5 x6) (View.ld x4 r0_8)) (tb (k0_pay235 x0 x1 x2 x3 x4 x5 x6) (View.ld x4 r0_11)) (gw0 x0 x1 x2 x3 x4 x5 x6) i (by rw [qd02]; exact hR 0 2 i) c).trans ?_
    exact sh_congr (fun l => tq02 x0 x1 x2 x3 x4 x5 x6 i l) (by rw [qd02]; rfl) c.val
  · exact fun c => oh00 x0 x1 x2 x3 x4 x5 x6 i c
  · exact fun c => oh01 x0 x1 x2 x3 x4 x5 x6 i c
  · exact fun c => oh02 x0 x1 x2 x3 x4 x5 x6 i c

/-- Head 0's augmented key row. -/
theorem augK0 (hR : ∀ s d i, AB x5 s i d < cS s d) (i : Fin 256) (x : Fin 430) :
    k0_pay73 (k0_pay225 x0 x1 x2 x3 x4 x5 x6) (k0_pay227 x0 x1 x2 x3 x4 x5 x6) (k0_pay229 x0 x1 x2 x3 x4 x5 x6) (k0_pay231 x0 x1 x2 x3 x4 x5 x6) (k0_pay55 (k0_pay54 (k0_pay244 x0 x1 x2 x3 x4 x5 x6) (k0_pay245 x0 x1 x2 x3 x4 x5 x6) (k0_pay246 x0 x1 x2 x3 x4 x5 x6) (k0_pay247 x0 x1 x2 x3 x4 x5 x6))) (k0_pay59 (k0_pay248 x0 x1 x2 x3 x4 x5 x6)) (k0_pay250 x0 x1 x2 x3 x4 x5 x6) (k0_pay253 x0 x1 x2 x3 x4 x5 x6) (k0_pay254 x0 x1 x2 x3 x4 x5 x6) (k0_pay255 x0 x1 x2 x3 x4 x5 x6) (ix3 0 i x)
      = augK 0 (kh (LB x0 x1 x2 i) 0) (fun d l y => x4 (ix4 0 d l y)) (AB x5 0 i) x.val := by
  refine cat0_apply _ _ _ _ _ _ _ i _ _ _ ?_ ?_ ?_ ?_ ?_ ?_ ?_ x
  · exact fun c => k0 x0 x1 x2 x3 x4 x5 x6 i c
  · exact fun c => or00 x0 x1 x2 x3 x4 x5 x6 hR i c
  · exact fun c => or01 x0 x1 x2 x3 x4 x5 x6 hR i c
  · exact fun c => or02 x0 x1 x2 x3 x4 x5 x6 hR i c
  · intro c
    refine (slot8_2 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd00]; exact hR 0 0 i) c).trans ?_
    exact sh_congr (fun l => tk00 x0 x1 x2 x3 x4 x5 x6 i l) (by rw [qd00]; rfl) c.val
  · intro c
    refine (slot8_6 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd01]; exact hR 0 1 i) c).trans ?_
    exact sh_congr (fun l => tk01 x0 x1 x2 x3 x4 x5 x6 i l) (by rw [qd01]; rfl) c.val
  · intro c
    refine (slot4_2 (k0_pay69 (k0_pay250 x0 x1 x2 x3 x4 x5 x6) (k0_pay253 x0 x1 x2 x3 x4 x5 x6) (k0_pay254 x0 x1 x2 x3 x4 x5 x6) (k0_pay255 x0 x1 x2 x3 x4 x5 x6)) (k0_pay223 x0 x1 x2 x3 x4 x5 x6) (tb (k0_pay230 x0 x1 x2 x3 x4 x5 x6) (View.ld x3 r0_8)) (tb (k0_pay234 x0 x1 x2 x3 x4 x5 x6) (View.ld x3 r0_11)) (tb (k0_pay231 x0 x1 x2 x3 x4 x5 x6) (View.ld x4 r0_8)) (tb (k0_pay235 x0 x1 x2 x3 x4 x5 x6) (View.ld x4 r0_11)) (gw0 x0 x1 x2 x3 x4 x5 x6) i (by rw [qd02]; exact hR 0 2 i) c).trans ?_
    exact sh_congr (fun l => tk02 x0 x1 x2 x3 x4 x5 x6 i l) (by rw [qd02]; rfl) c.val

/-- Head 0's augmented value row. -/
theorem augV0 (i : Fin 256) (x : Fin 247) :
    k0_pay75 (k0_pay74 (k0_pay224 x0 x1 x2 x3 x4 x5 x6) (k0_pay226 x0 x1 x2 x3 x4 x5 x6) (k0_pay228 x0 x1 x2 x3 x4 x5 x6) (k0_pay26 (k0_pay218 x0 x1 x2 x3 x4 x5 x6))) (ix3 0 i x) = augV 0 (vh (LB x0 x1 x2 i) 0) (AB x5 0 i) x.val := by
  refine vat0_apply _ _ _ _ i _ _ ?_ ?_ ?_ ?_ x
  · exact fun c => v0 x0 x1 x2 x3 x4 x5 x6 i c
  · exact fun c => oh00 x0 x1 x2 x3 x4 x5 x6 i c
  · exact fun c => oh01 x0 x1 x2 x3 x4 x5 x6 i c
  · exact fun c => oh02 x0 x1 x2 x3 x4 x5 x6 i c

/-- Head 1's augmented query row. -/
theorem augQ1 (hR : ∀ s d i, AB x5 s i d < cS s d) (i : Fin 256) (x : Fin 430) :
    k0_pay76 (k0_pay224 x0 x1 x2 x3 x4 x5 x6) (k0_pay226 x0 x1 x2 x3 x4 x5 x6) (k0_pay228 x0 x1 x2 x3 x4 x5 x6) (k0_pay234 x0 x1 x2 x3 x4 x5 x6) (k0_pay56 (k0_pay248 x0 x1 x2 x3 x4 x5 x6)) (k0_pay60 (k0_pay248 x0 x1 x2 x3 x4 x5 x6)) (k0_pay70 (k0_pay250 x0 x1 x2 x3 x4 x5 x6) (k0_pay253 x0 x1 x2 x3 x4 x5 x6) (k0_pay254 x0 x1 x2 x3 x4 x5 x6) (k0_pay255 x0 x1 x2 x3 x4 x5 x6)) (ix3 0 i x)
      = augQ 0 (qh (LB x0 x1 x2 i) 1) (fun d l y => x3 (ix4 1 d l y)) (AB x5 0 i) x.val := by
  refine cat0_apply _ _ _ _ _ _ _ i _ _ _ ?_ ?_ ?_ ?_ ?_ ?_ ?_ x
  · exact fun c => q1 x0 x1 x2 x3 x4 x5 x6 i c
  · intro c
    refine (slot8_1 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd00]; exact hR 0 0 i) c).trans ?_
    exact sh_congr (fun l => tq10 x0 x1 x2 x3 x4 x5 x6 i l) (by rw [qd00]; rfl) c.val
  · intro c
    refine (slot8_5 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd01]; exact hR 0 1 i) c).trans ?_
    exact sh_congr (fun l => tq11 x0 x1 x2 x3 x4 x5 x6 i l) (by rw [qd01]; rfl) c.val
  · intro c
    refine (slot4_1 (k0_pay69 (k0_pay250 x0 x1 x2 x3 x4 x5 x6) (k0_pay253 x0 x1 x2 x3 x4 x5 x6) (k0_pay254 x0 x1 x2 x3 x4 x5 x6) (k0_pay255 x0 x1 x2 x3 x4 x5 x6)) (k0_pay223 x0 x1 x2 x3 x4 x5 x6) (tb (k0_pay230 x0 x1 x2 x3 x4 x5 x6) (View.ld x3 r0_8)) (tb (k0_pay234 x0 x1 x2 x3 x4 x5 x6) (View.ld x3 r0_11)) (tb (k0_pay231 x0 x1 x2 x3 x4 x5 x6) (View.ld x4 r0_8)) (tb (k0_pay235 x0 x1 x2 x3 x4 x5 x6) (View.ld x4 r0_11)) (gw0 x0 x1 x2 x3 x4 x5 x6) i (by rw [qd02]; exact hR 0 2 i) c).trans ?_
    exact sh_congr (fun l => tq12 x0 x1 x2 x3 x4 x5 x6 i l) (by rw [qd02]; rfl) c.val
  · exact fun c => oh00 x0 x1 x2 x3 x4 x5 x6 i c
  · exact fun c => oh01 x0 x1 x2 x3 x4 x5 x6 i c
  · exact fun c => oh02 x0 x1 x2 x3 x4 x5 x6 i c

/-- Head 1's augmented key row. -/
theorem augK1 (hR : ∀ s d i, AB x5 s i d < cS s d) (i : Fin 256) (x : Fin 430) :
    k0_pay77 (k0_pay225 x0 x1 x2 x3 x4 x5 x6) (k0_pay227 x0 x1 x2 x3 x4 x5 x6) (k0_pay229 x0 x1 x2 x3 x4 x5 x6) (k0_pay235 x0 x1 x2 x3 x4 x5 x6) (k0_pay57 (k0_pay248 x0 x1 x2 x3 x4 x5 x6)) (k0_pay61 (k0_pay248 x0 x1 x2 x3 x4 x5 x6)) (k0_pay71 (k0_pay250 x0 x1 x2 x3 x4 x5 x6) (k0_pay253 x0 x1 x2 x3 x4 x5 x6) (k0_pay254 x0 x1 x2 x3 x4 x5 x6) (k0_pay255 x0 x1 x2 x3 x4 x5 x6)) (ix3 0 i x)
      = augK 0 (kh (LB x0 x1 x2 i) 1) (fun d l y => x4 (ix4 1 d l y)) (AB x5 0 i) x.val := by
  refine cat0_apply _ _ _ _ _ _ _ i _ _ _ ?_ ?_ ?_ ?_ ?_ ?_ ?_ x
  · exact fun c => k1 x0 x1 x2 x3 x4 x5 x6 i c
  · exact fun c => or00 x0 x1 x2 x3 x4 x5 x6 hR i c
  · exact fun c => or01 x0 x1 x2 x3 x4 x5 x6 hR i c
  · exact fun c => or02 x0 x1 x2 x3 x4 x5 x6 hR i c
  · intro c
    refine (slot8_3 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd00]; exact hR 0 0 i) c).trans ?_
    exact sh_congr (fun l => tk10 x0 x1 x2 x3 x4 x5 x6 i l) (by rw [qd00]; rfl) c.val
  · intro c
    refine (slot8_7 (k0_pay248 x0 x1 x2 x3 x4 x5 x6) (k0_pay221 x0 x1 x2 x3 x4 x5 x6) (k0_pay222 x0 x1 x2 x3 x4 x5 x6) (tb (k0_pay230 x0 x1 x2 x3 x4 x5 x6) (View.ld x3 r0_6)) (tb (k0_pay234 x0 x1 x2 x3 x4 x5 x6) (View.ld x3 r0_9)) (tb (k0_pay231 x0 x1 x2 x3 x4 x5 x6) (View.ld x4 r0_6)) (tb (k0_pay235 x0 x1 x2 x3 x4 x5 x6) (View.ld x4 r0_9)) (tb (k0_pay230 x0 x1 x2 x3 x4 x5 x6) (View.ld x3 r0_7)) (tb (k0_pay234 x0 x1 x2 x3 x4 x5 x6) (View.ld x3 r0_10)) (tb (k0_pay231 x0 x1 x2 x3 x4 x5 x6) (View.ld x4 r0_7)) (tb (k0_pay235 x0 x1 x2 x3 x4 x5 x6) (View.ld x4 r0_10)) (gn0 x0 x1 x2 x3 x4 x5 x6) i (by rw [qd01]; exact hR 0 1 i) c).trans ?_
    exact sh_congr (fun l => tk11 x0 x1 x2 x3 x4 x5 x6 i l) (by rw [qd01]; rfl) c.val
  · intro c
    refine (slot4_3 (k0_pay69 (k0_pay250 x0 x1 x2 x3 x4 x5 x6) (k0_pay253 x0 x1 x2 x3 x4 x5 x6) (k0_pay254 x0 x1 x2 x3 x4 x5 x6) (k0_pay255 x0 x1 x2 x3 x4 x5 x6)) (k0_pay223 x0 x1 x2 x3 x4 x5 x6) (tb (k0_pay230 x0 x1 x2 x3 x4 x5 x6) (View.ld x3 r0_8)) (tb (k0_pay234 x0 x1 x2 x3 x4 x5 x6) (View.ld x3 r0_11)) (tb (k0_pay231 x0 x1 x2 x3 x4 x5 x6) (View.ld x4 r0_8)) (tb (k0_pay235 x0 x1 x2 x3 x4 x5 x6) (View.ld x4 r0_11)) (gw0 x0 x1 x2 x3 x4 x5 x6) i (by rw [qd02]; exact hR 0 2 i) c).trans ?_
    exact sh_congr (fun l => tk12 x0 x1 x2 x3 x4 x5 x6 i l) (by rw [qd02]; rfl) c.val

/-- Head 1's augmented value row. -/
theorem augV1 (i : Fin 256) (x : Fin 247) :
    k0_pay78 (k0_pay224 x0 x1 x2 x3 x4 x5 x6) (k0_pay226 x0 x1 x2 x3 x4 x5 x6) (k0_pay228 x0 x1 x2 x3 x4 x5 x6) (k0_pay35 (k0_pay218 x0 x1 x2 x3 x4 x5 x6)) (ix3 0 i x) = augV 0 (vh (LB x0 x1 x2 i) 1) (AB x5 0 i) x.val := by
  refine vat0_apply _ _ _ _ i _ _ ?_ ?_ ?_ ?_ x
  · exact fun c => v1 x0 x1 x2 x3 x4 x5 x6 i c
  · exact fun c => oh00 x0 x1 x2 x3 x4 x5 x6 i c
  · exact fun c => oh01 x0 x1 x2 x3 x4 x5 x6 i c
  · exact fun c => oh02 x0 x1 x2 x3 x4 x5 x6 i c

/-- Strip 0's window number. -/
theorem wid0 (i : Fin 256) : k0_pay17 (k0_pay13 (k0_pay219 x0 x1 x2 x3 x4 x5 x6)) (k0_pay15 (k0_pay220 x0 x1 x2 x3 x4 x5 x6) (k0_pay6 (View.ld x5 r0_3)) (k0_pay9 (View.ld x5 r0_3))) k0_pay16 (ix3 0 i 0) = WID (x6 (ix2 i 0)) (fun d => x5 (ix2 i d)) 0 := by
  pointwise [k0_pay17, k0_pay13, k0_pay219, k0_pay15, k0_pay220, k0_pay6, k0_pay9, k0_pay16, k0_pay12, k0_pay3, k0_pay4, k0_pay5, k0_pay8]
  rfl

end Cert.KernelIdeal.Roll
end
-- ==== Proof.Aug1.lean ====
module

public import proofs.«01_k».proof.Proof.Gen.KernelIdeal.Frame
public import proofs.«01_k».proof.Proof.Slot
public import Idealize.ShloMosaic.Lib.Pipeline.ValueKit
public import proofs.«01_k».proof.Proof.Aug

@[expose] public section

set_option maxRecDepth 16384

noncomputable section

namespace Cert.KernelIdeal.Roll

open Idealize.ShloMosaic Cert.KernelIdeal Cert.KernelIdeal.Gen Cert.Spec

variable (x0 : Vec Ideal S256x384 .f32) (x1 : Vec Ideal S1152x384 .f32) (x2 : Vec Ideal S1x1152 .f32) (x3 : Vec Ideal S2x3x79x64 .f32)
  (x4 : Vec Ideal S2x3x79x64 .f32) (x5 : Vec Ideal S256x3 .f32) (x6 : Vec Ideal S256x1 .i32)

/-- Head 2's scaled queries' products with the query table of axis 0. -/
theorem tq20 (i : Fin 256) (l : Fin 79) : tb (k0_pay265 x0 x1 x2 x3 x4 x5 x6) (View.ld x3 r0_6) (ix2 i l)
    = tab (qh (LB x0 x1 x2 i) 2) (fun l y => x3 (ix4 0 0 l y)) l := by
  rw [tb_apply]
  unfold tab
  refine Finset.sum_congr rfl fun y _ => ?_
  refine congrArg₂ (· * ·) (q2 x0 x1 x2 x3 x4 x5 x6 i y) ?_
  pointwise []

/-- Head 2's scaled queries' products with the query table of axis 1. -/
theorem tq21 (i : Fin 256) (l : Fin 79) : tb (k0_pay265 x0 x1 x2 x3 x4 x5 x6) (View.ld x3 r0_7) (ix2 i l)
    = tab (qh (LB x0 x1 x2 i) 2) (fun l y => x3 (ix4 0 1 l y)) l := by
  rw [tb_apply]
  unfold tab
  refine Finset.sum_congr rfl fun y _ => ?_
  refine congrArg₂ (· * ·) (q2 x0 x1 x2 x3 x4 x5 x6 i y) ?_
  pointwise []

/-- Head 2's scaled queries' products with the query table of axis 2. -/
theorem tq22 (i : Fin 256) (l : Fin 79) : tb (k0_pay265 x0 x1 x2 x3 x4 x5 x6) (View.ld x3 r0_8) (ix2 i l)
    = tab (qh (LB x0 x1 x2 i) 2) (fun l y => x3 (ix4 0 2 l y)) l := by
  rw [tb_apply]
  unfold tab
  refine Finset.sum_congr rfl fun y _ => ?_
  refine congrArg₂ (· * ·) (q2 x0 x1 x2 x3 x4 x5 x6 i y) ?_
  pointwise []

/-- Head 2's keys' products with the key table of axis 0. -/
theorem tk20 (i : Fin 256) (l : Fin 79) : tb (k0_pay266 x0 x1 x2 x3 x4 x5 x6) (View.ld x4 r0_6) (ix2 i l)
    = tab (kh (LB x0 x1 x2 i) 2) (fun l y => x4 (ix4 0 0 l y)) l := by
  rw [tb_apply]
  unfold tab
  refine Finset.sum_congr rfl fun y _ => ?_
  refine congrArg₂ (· * ·) (k2 x0 x1 x2 x3 x4 x5 x6 i y) ?_
  pointwise []

/-- Head 2's keys' products with the key table of axis 1. -/
theorem tk21 (i : Fin 256) (l : Fin 79) : tb (k0_pay266 x0 x1 x2 x3 x4 x5 x6) (View.ld x4 r0_7) (ix2 i l)
    = tab (kh (LB x0 x1 x2 i) 2) (fun l y => x4 (ix4 0 1 l y)) l := by
  rw [tb_apply]
  unfold tab
  refine Finset.sum_congr rfl fun y _ => ?_
  refine congrArg₂ (· * ·) (k2 x0 x1 x2 x3 x4 x5 x6 i y) ?_
  pointwise []

/-- Head 2's keys' products with the key table of axis 2. -/
theorem tk22 (i : Fin 256) (l : Fin 79) : tb (k0_pay266 x0 x1 x2 x3 x4 x5 x6) (View.ld x4 r0_8) (ix2 i l)
    = tab (kh (LB x0 x1 x2 i) 2) (fun l y => x4 (ix4 0 2 l y)) l := by
  rw [tb_apply]
  unfold tab
  refine Finset.sum_congr rfl fun y _ => ?_
  refine congrArg₂ (· * ·) (k2 x0 x1 x2 x3 x4 x5 x6 i y) ?_
  pointwise []

/-- Head 3's scaled queries' products with the query table of axis 0. -/
theorem tq30 (i : Fin 256) (l : Fin 79) : tb (k0_pay267 x0 x1 x2 x3 x4 x5 x6) (View.ld x3 r0_9) (ix2 i l)
    = tab (qh (LB x0 x1 x2 i) 3) (fun l y => x3 (ix4 1 0 l y)) l := by
  rw [tb_apply]
  unfold tab
  refine Finset.sum_congr rfl fun y _ => ?_
  refine congrArg₂ (· * ·) (q3 x0 x1 x2 x3 x4 x5 x6 i y) ?_
  pointwise []

/-- Head 3's scaled queries' products with the query table of axis 1. -/
theorem tq31 (i : Fin 256) (l : Fin 79) : tb (k0_pay267 x0 x1 x2 x3 x4 x5 x6) (View.ld x3 r0_10) (ix2 i l)
    = tab (qh (LB x0 x1 x2 i) 3) (fun l y => x3 (ix4 1 1 l y)) l := by
  rw [tb_apply]
  unfold tab
  refine Finset.sum_congr rfl fun y _ => ?_
  refine congrArg₂ (· * ·) (q3 x0 x1 x2 x3 x4 x5 x6 i y) ?_
  pointwise []

/-- Head 3's scaled queries' products with the query table of axis 2. -/
theorem tq32 (i : Fin 256) (l : Fin 79) : tb (k0_pay267 x0 x1 x2 x3 x4 x5 x6) (View.ld x3 r0_11) (ix2 i l)
    = tab (qh (LB x0 x1 x2 i) 3) (fun l y => x3 (ix4 1 2 l y)) l := by
  rw [tb_apply]
  unfold tab
  refine Finset.sum_congr rfl fun y _ => ?_
  refine congrArg₂ (· * ·) (q3 x0 x1 x2 x3 x4 x5 x6 i y) ?_
  pointwise []

/-- Head 3's keys' products with the key table of axis 0. -/
theorem tk30 (i : Fin 256) (l : Fin 79) : tb (k0_pay268 x0 x1 x2 x3 x4 x5 x6) (View.ld x4 r0_9) (ix2 i l)
    = tab (kh (LB x0 x1 x2 i) 3) (fun l y => x4 (ix4 1 0 l y)) l := by
  rw [tb_apply]
  unfold tab
  refine Finset.sum_congr rfl fun y _ => ?_
  refine congrArg₂ (· * ·) (k3 x0 x1 x2 x3 x4 x5 x6 i y) ?_
  pointwise []

/-- Head 3's keys' products with the key table of axis 1. -/
theorem tk31 (i : Fin 256) (l : Fin 79) : tb (k0_pay268 x0 x1 x2 x3 x4 x5 x6) (View.ld x4 r0_10) (ix2 i l)
    = tab (kh (LB x0 x1 x2 i) 3) (fun l y => x4 (ix4 1 1 l y)) l := by
  rw [tb_apply]
  unfold tab
  refine Finset.sum_congr rfl fun y _ => ?_
  refine congrArg₂ (· * ·) (k3 x0 x1 x2 x3 x4 x5 x6 i y) ?_
  pointwise []

/-- Head 3's keys' products with the key table of axis 2. -/
theorem tk32 (i : Fin 256) (l : Fin 79) : tb (k0_pay268 x0 x1 x2 x3 x4 x5 x6) (View.ld x4 r0_11) (ix2 i l)
    = tab (kh (LB x0 x1 x2 i) 3) (fun l y => x4 (ix4 1 2 l y)) l := by
  rw [tb_apply]
  unfold tab
  refine Finset.sum_congr rfl fun y _ => ?_
  refine congrArg₂ (· * ·) (k3 x0 x1 x2 x3 x4 x5 x6 i y) ?_
  pointwise []

/-- Strip 1's rotated rows along its two narrow axes, from the tables' products. -/
theorem gn1 : (k0_pay269 x0 x1 x2 x3 x4 x5 x6) = grp8 (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) := rfl

/-- Strip 1's rotated rows along its wide axis, from the tables' products. -/
theorem gw1 : (k0_pay137 (k0_pay270 x0 x1 x2 x3 x4 x5 x6) (k0_pay271 x0 x1 x2 x3 x4 x5 x6) (k0_pay272 x0 x1 x2 x3 x4 x5 x6)) = grp4 (k0_pay257 x0 x1 x2 x3 x4 x5 x6) (tb (k0_pay265 x0 x1 x2 x3 x4 x5 x6) (View.ld x3 r0_7)) (tb (k0_pay267 x0 x1 x2 x3 x4 x5 x6) (View.ld x3 r0_10)) (tb (k0_pay266 x0 x1 x2 x3 x4 x5 x6) (View.ld x4 r0_7)) (tb (k0_pay268 x0 x1 x2 x3 x4 x5 x6) (View.ld x4 r0_10)) := rfl

/-- Head 2's augmented query row. -/
theorem augQ2 (hR : ∀ s d i, AB x5 s i d < cS s d) (i : Fin 256) (x : Fin 430) :
    k0_pay140 (k0_pay259 x0 x1 x2 x3 x4 x5 x6) (k0_pay261 x0 x1 x2 x3 x4 x5 x6) (k0_pay263 x0 x1 x2 x3 x4 x5 x6) (k0_pay265 x0 x1 x2 x3 x4 x5 x6) (k0_pay123 (k0_pay269 x0 x1 x2 x3 x4 x5 x6)) (k0_pay127 (k0_pay269 x0 x1 x2 x3 x4 x5 x6)) (k0_pay270 x0 x1 x2 x3 x4 x5 x6) (k0_pay271 x0 x1 x2 x3 x4 x5 x6) (k0_pay272 x0 x1 x2 x3 x4 x5 x6) (ix3 0 i x)
      = augQ 1 (qh (LB x0 x1 x2 i) 2) (fun d l y => x3 (ix4 0 d l y)) (AB x5 1 i) x.val := by
  refine cat1_apply _ _ _ _ _ _ _ i _ _ _ ?_ ?_ ?_ ?_ ?_ ?_ ?_ x
  · exact fun c => q2 x0 x1 x2 x3 x4 x5 x6 i c
  · intro c
    refine (slot8_0 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd10]; exact hR 1 0 i) c).trans ?_
    exact sh_congr (fun l => tq20 x0 x1 x2 x3 x4 x5 x6 i l) (by rw [qd10]; rfl) c.val
  · intro c
    refine (slot4_0 (k0_pay137 (k0_pay270 x0 x1 x2 x3 x4 x5 x6) (k0_pay271 x0 x1 x2 x3 x4 x5 x6) (k0_pay272 x0 x1 x2 x3 x4 x5 x6)) (k0_pay257 x0 x1 x2 x3 x4 x5 x6) (tb (k0_pay265 x0 x1 x2 x3 x4 x5 x6) (View.ld x3 r0_7)) (tb (k0_pay267 x0 x1 x2 x3 x4 x5 x6) (View.ld x3 r0_10)) (tb (k0_pay266 x0 x1 x2 x3 x4 x5 x6) (View.ld x4 r0_7)) (tb (k0_pay268 x0 x1 x2 x3 x4 x5 x6) (View.ld x4 r0_10)) (gw1 x0 x1 x2 x3 x4 x5 x6) i (by rw [qd11]; exact hR 1 1 i) c).trans ?_
    exact sh_congr (fun l => tq21 x0 x1 x2 x3 x4 x5 x6 i l) (by rw [qd11]; rfl) c.val
  · intro c
    refine (slot8_4 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd12]; exact hR 1 2 i) c).trans ?_
    exact sh_congr (fun l => tq22 x0 x1 x2 x3 x4 x5 x6 i l) (by rw [qd12]; rfl) c.val
  · exact fun c => oh10 x0 x1 x2 x3 x4 x5 x6 i c
  · exact fun c => oh11 x0 x1 x2 x3 x4 x5 x6 i c
  · exact fun c => oh12 x0 x1 x2 x3 x4 x5 x6 i c

/-- Head 2's augmented key row. -/
theorem augK2 (hR : ∀ s d i, AB x5 s i d < cS s d) (i : Fin 256) (x : Fin 430) :
    k0_pay141 (k0_pay260 x0 x1 x2 x3 x4 x5 x6) (k0_pay262 x0 x1 x2 x3 x4 x5 x6) (k0_pay264 x0 x1 x2 x3 x4 x5 x6) (k0_pay266 x0 x1 x2 x3 x4 x5 x6) (k0_pay124 (k0_pay269 x0 x1 x2 x3 x4 x5 x6)) (k0_pay128 (k0_pay269 x0 x1 x2 x3 x4 x5 x6)) (k0_pay270 x0 x1 x2 x3 x4 x5 x6) (k0_pay271 x0 x1 x2 x3 x4 x5 x6) (k0_pay272 x0 x1 x2 x3 x4 x5 x6) (ix3 0 i x)
      = augK 1 (kh (LB x0 x1 x2 i) 2) (fun d l y => x4 (ix4 0 d l y)) (AB x5 1 i) x.val := by
  refine cat1_apply _ _ _ _ _ _ _ i _ _ _ ?_ ?_ ?_ ?_ ?_ ?_ ?_ x
  · exact fun c => k2 x0 x1 x2 x3 x4 x5 x6 i c
  · exact fun c => or10 x0 x1 x2 x3 x4 x5 x6 hR i c
  · exact fun c => or11 x0 x1 x2 x3 x4 x5 x6 hR i c
  · exact fun c => or12 x0 x1 x2 x3 x4 x5 x6 hR i c
  · intro c
    refine (slot8_2 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd10]; exact hR 1 0 i) c).trans ?_
    exact sh_congr (fun l => tk20 x0 x1 x2 x3 x4 x5 x6 i l) (by rw [qd10]; rfl) c.val
  · intro c
    refine (slot4_2 (k0_pay137 (k0_pay270 x0 x1 x2 x3 x4 x5 x6) (k0_pay271 x0 x1 x2 x3 x4 x5 x6) (k0_pay272 x0 x1 x2 x3 x4 x5 x6)) (k0_pay257 x0 x1 x2 x3 x4 x5 x6) (tb (k0_pay265 x0 x1 x2 x3 x4 x5 x6) (View.ld x3 r0_7)) (tb (k0_pay267 x0 x1 x2 x3 x4 x5 x6) (View.ld x3 r0_10)) (tb (k0_pay266 x0 x1 x2 x3 x4 x5 x6) (View.ld x4 r0_7)) (tb (k0_pay268 x0 x1 x2 x3 x4 x5 x6) (View.ld x4 r0_10)) (gw1 x0 x1 x2 x3 x4 x5 x6) i (by rw [qd11]; exact hR 1 1 i) c).trans ?_
    exact sh_congr (fun l => tk21 x0 x1 x2 x3 x4 x5 x6 i l) (by rw [qd11]; rfl) c.val
  · intro c
    refine (slot8_6 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd12]; exact hR 1 2 i) c).trans ?_
    exact sh_congr (fun l => tk22 x0 x1 x2 x3 x4 x5 x6 i l) (by rw [qd12]; rfl) c.val

/-- Head 2's augmented value row. -/
theorem augV2 (i : Fin 256) (x : Fin 247) :
    k0_pay143 (k0_pay142 (k0_pay259 x0 x1 x2 x3 x4 x5 x6) (k0_pay261 x0 x1 x2 x3 x4 x5 x6) (k0_pay263 x0 x1 x2 x3 x4 x5 x6) (k0_pay99 (k0_pay218 x0 x1 x2 x3 x4 x5 x6))) (ix3 0 i x) = augV 1 (vh (LB x0 x1 x2 i) 2) (AB x5 1 i) x.val := by
  refine vat1_apply _ _ _ _ i _ _ ?_ ?_ ?_ ?_ x
  · exact fun c => v2 x0 x1 x2 x3 x4 x5 x6 i c
  · exact fun c => oh10 x0 x1 x2 x3 x4 x5 x6 i c
  · exact fun c => oh11 x0 x1 x2 x3 x4 x5 x6 i c
  · exact fun c => oh12 x0 x1 x2 x3 x4 x5 x6 i c

/-- Head 3's augmented query row. -/
theorem augQ3 (hR : ∀ s d i, AB x5 s i d < cS s d) (i : Fin 256) (x : Fin 430) :
    k0_pay144 (k0_pay259 x0 x1 x2 x3 x4 x5 x6) (k0_pay261 x0 x1 x2 x3 x4 x5 x6) (k0_pay263 x0 x1 x2 x3 x4 x5 x6) (k0_pay267 x0 x1 x2 x3 x4 x5 x6) (k0_pay125 (k0_pay269 x0 x1 x2 x3 x4 x5 x6)) (k0_pay129 (k0_pay269 x0 x1 x2 x3 x4 x5 x6)) (k0_pay138 (k0_pay270 x0 x1 x2 x3 x4 x5 x6) (k0_pay271 x0 x1 x2 x3 x4 x5 x6) (k0_pay272 x0 x1 x2 x3 x4 x5 x6)) (ix3 0 i x)
      = augQ 1 (qh (LB x0 x1 x2 i) 3) (fun d l y => x3 (ix4 1 d l y)) (AB x5 1 i) x.val := by
  refine cat1_apply _ _ _ _ _ _ _ i _ _ _ ?_ ?_ ?_ ?_ ?_ ?_ ?_ x
  · exact fun c => q3 x0 x1 x2 x3 x4 x5 x6 i c
  · intro c
    refine (slot8_1 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd10]; exact hR 1 0 i) c).trans ?_
    exact sh_congr (fun l => tq30 x0 x1 x2 x3 x4 x5 x6 i l) (by rw [qd10]; rfl) c.val
  · intro c
    refine (slot4_1 (k0_pay137 (k0_pay270 x0 x1 x2 x3 x4 x5 x6) (k0_pay271 x0 x1 x2 x3 x4 x5 x6) (k0_pay272 x0 x1 x2 x3 x4 x5 x6)) (k0_pay257 x0 x1 x2 x3 x4 x5 x6) (tb (k0_pay265 x0 x1 x2 x3 x4 x5 x6) (View.ld x3 r0_7)) (tb (k0_pay267 x0 x1 x2 x3 x4 x5 x6) (View.ld x3 r0_10)) (tb (k0_pay266 x0 x1 x2 x3 x4 x5 x6) (View.ld x4 r0_7)) (tb (k0_pay268 x0 x1 x2 x3 x4 x5 x6) (View.ld x4 r0_10)) (gw1 x0 x1 x2 x3 x4 x5 x6) i (by rw [qd11]; exact hR 1 1 i) c).trans ?_
    exact sh_congr (fun l => tq31 x0 x1 x2 x3 x4 x5 x6 i l) (by rw [qd11]; rfl) c.val
  · intro c
    refine (slot8_5 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd12]; exact hR 1 2 i) c).trans ?_
    exact sh_congr (fun l => tq32 x0 x1 x2 x3 x4 x5 x6 i l) (by rw [qd12]; rfl) c.val
  · exact fun c => oh10 x0 x1 x2 x3 x4 x5 x6 i c
  · exact fun c => oh11 x0 x1 x2 x3 x4 x5 x6 i c
  · exact fun c => oh12 x0 x1 x2 x3 x4 x5 x6 i c

/-- Head 3's augmented key row. -/
theorem augK3 (hR : ∀ s d i, AB x5 s i d < cS s d) (i : Fin 256) (x : Fin 430) :
    k0_pay145 (k0_pay260 x0 x1 x2 x3 x4 x5 x6) (k0_pay262 x0 x1 x2 x3 x4 x5 x6) (k0_pay264 x0 x1 x2 x3 x4 x5 x6) (k0_pay268 x0 x1 x2 x3 x4 x5 x6) (k0_pay126 (k0_pay269 x0 x1 x2 x3 x4 x5 x6)) (k0_pay130 (k0_pay269 x0 x1 x2 x3 x4 x5 x6)) (k0_pay139 (k0_pay270 x0 x1 x2 x3 x4 x5 x6) (k0_pay271 x0 x1 x2 x3 x4 x5 x6) (k0_pay272 x0 x1 x2 x3 x4 x5 x6)) (ix3 0 i x)
      = augK 1 (kh (LB x0 x1 x2 i) 3) (fun d l y => x4 (ix4 1 d l y)) (AB x5 1 i) x.val := by
  refine cat1_apply _ _ _ _ _ _ _ i _ _ _ ?_ ?_ ?_ ?_ ?_ ?_ ?_ x
  · exact fun c => k3 x0 x1 x2 x3 x4 x5 x6 i c
  · exact fun c => or10 x0 x1 x2 x3 x4 x5 x6 hR i c
  · exact fun c => or11 x0 x1 x2 x3 x4 x5 x6 hR i c
  · exact fun c => or12 x0 x1 x2 x3 x4 x5 x6 hR i c
  · intro c
    refine (slot8_3 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd10]; exact hR 1 0 i) c).trans ?_
    exact sh_congr (fun l => tk30 x0 x1 x2 x3 x4 x5 x6 i l) (by rw [qd10]; rfl) c.val
  · intro c
    refine (slot4_3 (k0_pay137 (k0_pay270 x0 x1 x2 x3 x4 x5 x6) (k0_pay271 x0 x1 x2 x3 x4 x5 x6) (k0_pay272 x0 x1 x2 x3 x4 x5 x6)) (k0_pay257 x0 x1 x2 x3 x4 x5 x6) (tb (k0_pay265 x0 x1 x2 x3 x4 x5 x6) (View.ld x3 r0_7)) (tb (k0_pay267 x0 x1 x2 x3 x4 x5 x6) (View.ld x3 r0_10)) (tb (k0_pay266 x0 x1 x2 x3 x4 x5 x6) (View.ld x4 r0_7)) (tb (k0_pay268 x0 x1 x2 x3 x4 x5 x6) (View.ld x4 r0_10)) (gw1 x0 x1 x2 x3 x4 x5 x6) i (by rw [qd11]; exact hR 1 1 i) c).trans ?_
    exact sh_congr (fun l => tk31 x0 x1 x2 x3 x4 x5 x6 i l) (by rw [qd11]; rfl) c.val
  · intro c
    refine (slot8_7 (k0_pay269 x0 x1 x2 x3 x4 x5 x6) (k0_pay256 x0 x1 x2 x3 x4 x5 x6) (k0_pay258 x0 x1 x2 x3 x4 x5 x6) (tb (k0_pay265 x0 x1 x2 x3 x4 x5 x6) (View.ld x3 r0_6)) (tb (k0_pay267 x0 x1 x2 x3 x4 x5 x6) (View.ld x3 r0_9)) (tb (k0_pay266 x0 x1 x2 x3 x4 x5 x6) (View.ld x4 r0_6)) (tb (k0_pay268 x0 x1 x2 x3 x4 x5 x6) (View.ld x4 r0_9)) (tb (k0_pay265 x0 x1 x2 x3 x4 x5 x6) (View.ld x3 r0_8)) (tb (k0_pay267 x0 x1 x2 x3 x4 x5 x6) (View.ld x3 r0_11)) (tb (k0_pay266 x0 x1 x2 x3 x4 x5 x6) (View.ld x4 r0_8)) (tb (k0_pay268 x0 x1 x2 x3 x4 x5 x6) (View.ld x4 r0_11)) (gn1 x0 x1 x2 x3 x4 x5 x6) i (by rw [qd12]; exact hR 1 2 i) c).trans ?_
    exact sh_congr (fun l => tk32 x0 x1 x2 x3 x4 x5 x6 i l) (by rw [qd12]; rfl) c.val

/-- Head 3's augmented value row. -/
theorem augV3 (i : Fin 256) (x : Fin 247) :
    k0_pay146 (k0_pay259 x0 x1 x2 x3 x4 x5 x6) (k0_pay261 x0 x1 x2 x3 x4 x5 x6) (k0_pay263 x0 x1 x2 x3 x4 x5 x6) (k0_pay109 (k0_pay218 x0 x1 x2 x3 x4 x5 x6)) (ix3 0 i x) = augV 1 (vh (LB x0 x1 x2 i) 3) (AB x5 1 i) x.val := by
  refine vat1_apply _ _ _ _ i _ _ ?_ ?_ ?_ ?_ x
  · exact fun c => v3 x0 x1 x2 x3 x4 x5 x6 i c
  · exact fun c => oh10 x0 x1 x2 x3 x4 x5 x6 i c
  · exact fun c => oh11 x0 x1 x2 x3 x4 x5 x6 i c
  · exact fun c => oh12 x0 x1 x2 x3 x4 x5 x6 i c

/-- Strip 1's window number. -/
theorem wid1 (i : Fin 256) : k0_pay90 (k0_pay84 (k0_pay83 (k0_pay219 x0 x1 x2 x3 x4 x5 x6))) (k0_pay87 (k0_pay219 x0 x1 x2 x3 x4 x5 x6)) (k0_pay89 (k0_pay220 x0 x1 x2 x3 x4 x5 x6) (k0_pay80 (k0_pay219 x0 x1 x2 x3 x4 x5 x6))) (ix3 0 i 0) = WID (x6 (ix2 i 0)) (fun d => x5 (ix2 i d)) 1 := by
  pointwise [k0_pay90, k0_pay84, k0_pay83, k0_pay219, k0_pay87, k0_pay89, k0_pay220, k0_pay80, k0_pay82, k0_pay3, k0_pay86, k0_pay4, k0_pay79]
  rfl

end Cert.KernelIdeal.Roll
end
-- ==== Proof.Aug2.lean ====
module

public import proofs.«01_k».proof.Proof.Gen.KernelIdeal.Frame
public import proofs.«01_k».proof.Proof.Slot
public import Idealize.ShloMosaic.Lib.Pipeline.ValueKit
public import proofs.«01_k».proof.Proof.Aug

@[expose] public section

set_option maxRecDepth 16384

noncomputable section

namespace Cert.KernelIdeal.Roll

open Idealize.ShloMosaic Cert.KernelIdeal Cert.KernelIdeal.Gen Cert.Spec

variable (x0 : Vec Ideal S256x384 .f32) (x1 : Vec Ideal S1152x384 .f32) (x2 : Vec Ideal S1x1152 .f32) (x3 : Vec Ideal S2x3x79x64 .f32)
  (x4 : Vec Ideal S2x3x79x64 .f32) (x5 : Vec Ideal S256x3 .f32) (x6 : Vec Ideal S256x1 .i32)

/-- Head 4's scaled queries' products with the query table of axis 0. -/
theorem tq40 (i : Fin 256) (l : Fin 79) : tb (k0_pay283 x0 x1 x2 x3 x4 x5 x6) (View.ld x3 r0_6) (ix2 i l)
    = tab (qh (LB x0 x1 x2 i) 4) (fun l y => x3 (ix4 0 0 l y)) l := by
  rw [tb_apply]
  unfold tab
  refine Finset.sum_congr rfl fun y _ => ?_
  refine congrArg₂ (· * ·) (q4 x0 x1 x2 x3 x4 x5 x6 i y) ?_
  pointwise []

/-- Head 4's scaled queries' products with the query table of axis 1. -/
theorem tq41 (i : Fin 256) (l : Fin 79) : tb (k0_pay283 x0 x1 x2 x3 x4 x5 x6) (View.ld x3 r0_7) (ix2 i l)
    = tab (qh (LB x0 x1 x2 i) 4) (fun l y => x3 (ix4 0 1 l y)) l := by
  rw [tb_apply]
  unfold tab
  refine Finset.sum_congr rfl fun y _ => ?_
  refine congrArg₂ (· * ·) (q4 x0 x1 x2 x3 x4 x5 x6 i y) ?_
  pointwise []

/-- Head 4's scaled queries' products with the query table of axis 2. -/
theorem tq42 (i : Fin 256) (l : Fin 79) : tb (k0_pay283 x0 x1 x2 x3 x4 x5 x6) (View.ld x3 r0_8) (ix2 i l)
    = tab (qh (LB x0 x1 x2 i) 4) (fun l y => x3 (ix4 0 2 l y)) l := by
  rw [tb_apply]
  unfold tab
  refine Finset.sum_congr rfl fun y _ => ?_
  refine congrArg₂ (· * ·) (q4 x0 x1 x2 x3 x4 x5 x6 i y) ?_
  pointwise []

/-- Head 4's keys' products with the key table of axis 0. -/
theorem tk40 (i : Fin 256) (l : Fin 79) : tb (k0_pay284 x0 x1 x2 x3 x4 x5 x6) (View.ld x4 r0_6) (ix2 i l)
    = tab (kh (LB x0 x1 x2 i) 4) (fun l y => x4 (ix4 0 0 l y)) l := by
  rw [tb_apply]
  unfold tab
  refine Finset.sum_congr rfl fun y _ => ?_
  refine congrArg₂ (· * ·) (k4 x0 x1 x2 x3 x4 x5 x6 i y) ?_
  pointwise []

/-- Head 4's keys' products with the key table of axis 1. -/
theorem tk41 (i : Fin 256) (l : Fin 79) : tb (k0_pay284 x0 x1 x2 x3 x4 x5 x6) (View.ld x4 r0_7) (ix2 i l)
    = tab (kh (LB x0 x1 x2 i) 4) (fun l y => x4 (ix4 0 1 l y)) l := by
  rw [tb_apply]
  unfold tab
  refine Finset.sum_congr rfl fun y _ => ?_
  refine congrArg₂ (· * ·) (k4 x0 x1 x2 x3 x4 x5 x6 i y) ?_
  pointwise []

/-- Head 4's keys' products with the key table of axis 2. -/
theorem tk42 (i : Fin 256) (l : Fin 79) : tb (k0_pay284 x0 x1 x2 x3 x4 x5 x6) (View.ld x4 r0_8) (ix2 i l)
    = tab (kh (LB x0 x1 x2 i) 4) (fun l y => x4 (ix4 0 2 l y)) l := by
  rw [tb_apply]
  unfold tab
  refine Finset.sum_congr rfl fun y _ => ?_
  refine congrArg₂ (· * ·) (k4 x0 x1 x2 x3 x4 x5 x6 i y) ?_
  pointwise []

/-- Head 5's scaled queries' products with the query table of axis 0. -/
theorem tq50 (i : Fin 256) (l : Fin 79) : tb (k0_pay286 x0 x1 x2 x3 x4 x5 x6) (View.ld x3 r0_9) (ix2 i l)
    = tab (qh (LB x0 x1 x2 i) 5) (fun l y => x3 (ix4 1 0 l y)) l := by
  rw [tb_apply]
  unfold tab
  refine Finset.sum_congr rfl fun y _ => ?_
  refine congrArg₂ (· * ·) (q5 x0 x1 x2 x3 x4 x5 x6 i y) ?_
  pointwise []

/-- Head 5's scaled queries' products with the query table of axis 1. -/
theorem tq51 (i : Fin 256) (l : Fin 79) : tb (k0_pay286 x0 x1 x2 x3 x4 x5 x6) (View.ld x3 r0_10) (ix2 i l)
    = tab (qh (LB x0 x1 x2 i) 5) (fun l y => x3 (ix4 1 1 l y)) l := by
  rw [tb_apply]
  unfold tab
  refine Finset.sum_congr rfl fun y _ => ?_
  refine congrArg₂ (· * ·) (q5 x0 x1 x2 x3 x4 x5 x6 i y) ?_
  pointwise []

/-- Head 5's scaled queries' products with the query table of axis 2. -/
theorem tq52 (i : Fin 256) (l : Fin 79) : tb (k0_pay286 x0 x1 x2 x3 x4 x5 x6) (View.ld x3 r0_11) (ix2 i l)
    = tab (qh (LB x0 x1 x2 i) 5) (fun l y => x3 (ix4 1 2 l y)) l := by
  rw [tb_apply]
  unfold tab
  refine Finset.sum_congr rfl fun y _ => ?_
  refine congrArg₂ (· * ·) (q5 x0 x1 x2 x3 x4 x5 x6 i y) ?_
  pointwise []

/-- Head 5's keys' products with the key table of axis 0. -/
theorem tk50 (i : Fin 256) (l : Fin 79) : tb (k0_pay287 x0 x1 x2 x3 x4 x5 x6) (View.ld x4 r0_9) (ix2 i l)
    = tab (kh (LB x0 x1 x2 i) 5) (fun l y => x4 (ix4 1 0 l y)) l := by
  rw [tb_apply]
  unfold tab
  refine Finset.sum_congr rfl fun y _ => ?_
  refine congrArg₂ (· * ·) (k5 x0 x1 x2 x3 x4 x5 x6 i y) ?_
  pointwise []

/-- Head 5's keys' products with the key table of axis 1. -/
theorem tk51 (i : Fin 256) (l : Fin 79) : tb (k0_pay287 x0 x1 x2 x3 x4 x5 x6) (View.ld x4 r0_10) (ix2 i l)
    = tab (kh (LB x0 x1 x2 i) 5) (fun l y => x4 (ix4 1 1 l y)) l := by
  rw [tb_apply]
  unfold tab
  refine Finset.sum_congr rfl fun y _ => ?_
  refine congrArg₂ (· * ·) (k5 x0 x1 x2 x3 x4 x5 x6 i y) ?_
  pointwise []

/-- Head 5's keys' products with the key table of axis 2. -/
theorem tk52 (i : Fin 256) (l : Fin 79) : tb (k0_pay287 x0 x1 x2 x3 x4 x5 x6) (View.ld x4 r0_11) (ix2 i l)
    = tab (kh (LB x0 x1 x2 i) 5) (fun l y => x4 (ix4 1 2 l y)) l := by
  rw [tb_apply]
  unfold tab
  refine Finset.sum_congr rfl fun y _ => ?_
  refine congrArg₂ (· * ·) (k5 x0 x1 x2 x3 x4 x5 x6 i y) ?_
  pointwise []

/-- Strip 2's rotated rows along its two narrow axes, from the tables' products. -/
theorem gn2 : (k0_pay207 (k0_pay295 x0 x1 x2 x3 x4 x5 x6) (k0_pay296 x0 x1 x2 x3 x4 x5 x6)) = grp8 (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) := rfl

/-- Strip 2's rotated rows along its wide axis, from the tables' products. -/
theorem gw2 : (k0_pay290 x0 x1 x2 x3 x4 x5 x6) = grp4 (k0_pay273 x0 x1 x2 x3 x4 x5 x6) (tb (k0_pay283 x0 x1 x2 x3 x4 x5 x6) (View.ld x3 r0_6)) (tb (k0_pay286 x0 x1 x2 x3 x4 x5 x6) (View.ld x3 r0_9)) (tb (k0_pay284 x0 x1 x2 x3 x4 x5 x6) (View.ld x4 r0_6)) (tb (k0_pay287 x0 x1 x2 x3 x4 x5 x6) (View.ld x4 r0_9)) := rfl

/-- Head 4's augmented query row. -/
theorem augQ4 (hR : ∀ s d i, AB x5 s i d < cS s d) (i : Fin 256) (x : Fin 430) :
    k0_pay212 (k0_pay277 x0 x1 x2 x3 x4 x5 x6) (k0_pay279 x0 x1 x2 x3 x4 x5 x6) (k0_pay281 x0 x1 x2 x3 x4 x5 x6) (k0_pay283 x0 x1 x2 x3 x4 x5 x6) (k0_pay189 (k0_pay288 x0 x1 x2 x3 x4 x5 x6) (k0_pay289 x0 x1 x2 x3 x4 x5 x6)) (k0_pay295 x0 x1 x2 x3 x4 x5 x6) (k0_pay296 x0 x1 x2 x3 x4 x5 x6) (ix3 0 i x)
      = augQ 2 (qh (LB x0 x1 x2 i) 4) (fun d l y => x3 (ix4 0 d l y)) (AB x5 2 i) x.val := by
  refine cat2_apply _ _ _ _ _ _ _ i _ _ _ ?_ ?_ ?_ ?_ ?_ ?_ ?_ x
  · exact fun c => q4 x0 x1 x2 x3 x4 x5 x6 i c
  · intro c
    refine (slot4_0 (k0_pay290 x0 x1 x2 x3 x4 x5 x6) (k0_pay273 x0 x1 x2 x3 x4 x5 x6) (tb (k0_pay283 x0 x1 x2 x3 x4 x5 x6) (View.ld x3 r0_6)) (tb (k0_pay286 x0 x1 x2 x3 x4 x5 x6) (View.ld x3 r0_9)) (tb (k0_pay284 x0 x1 x2 x3 x4 x5 x6) (View.ld x4 r0_6)) (tb (k0_pay287 x0 x1 x2 x3 x4 x5 x6) (View.ld x4 r0_9)) (gw2 x0 x1 x2 x3 x4 x5 x6) i (by rw [qd20]; exact hR 2 0 i) c).trans ?_
    exact sh_congr (fun l => tq40 x0 x1 x2 x3 x4 x5 x6 i l) (by rw [qd20]; rfl) c.val
  · intro c
    refine (slot8_0 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd21]; exact hR 2 1 i) c).trans ?_
    exact sh_congr (fun l => tq41 x0 x1 x2 x3 x4 x5 x6 i l) (by rw [qd21]; rfl) c.val
  · intro c
    refine (slot8_4 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd22]; exact hR 2 2 i) c).trans ?_
    exact sh_congr (fun l => tq42 x0 x1 x2 x3 x4 x5 x6 i l) (by rw [qd22]; rfl) c.val
  · exact fun c => oh20 x0 x1 x2 x3 x4 x5 x6 i c
  · exact fun c => oh21 x0 x1 x2 x3 x4 x5 x6 i c
  · exact fun c => oh22 x0 x1 x2 x3 x4 x5 x6 i c

/-- Head 4's augmented key row. -/
theorem augK4 (hR : ∀ s d i, AB x5 s i d < cS s d) (i : Fin 256) (x : Fin 430) :
    k0_pay213 (k0_pay278 x0 x1 x2 x3 x4 x5 x6) (k0_pay280 x0 x1 x2 x3 x4 x5 x6) (k0_pay282 x0 x1 x2 x3 x4 x5 x6) (k0_pay284 x0 x1 x2 x3 x4 x5 x6) (k0_pay190 (k0_pay288 x0 x1 x2 x3 x4 x5 x6) (k0_pay289 x0 x1 x2 x3 x4 x5 x6)) (k0_pay295 x0 x1 x2 x3 x4 x5 x6) (k0_pay296 x0 x1 x2 x3 x4 x5 x6) (ix3 0 i x)
      = augK 2 (kh (LB x0 x1 x2 i) 4) (fun d l y => x4 (ix4 0 d l y)) (AB x5 2 i) x.val := by
  refine cat2_apply _ _ _ _ _ _ _ i _ _ _ ?_ ?_ ?_ ?_ ?_ ?_ ?_ x
  · exact fun c => k4 x0 x1 x2 x3 x4 x5 x6 i c
  · exact fun c => or20 x0 x1 x2 x3 x4 x5 x6 hR i c
  · exact fun c => or21 x0 x1 x2 x3 x4 x5 x6 hR i c
  · exact fun c => or22 x0 x1 x2 x3 x4 x5 x6 hR i c
  · intro c
    refine (slot4_2 (k0_pay290 x0 x1 x2 x3 x4 x5 x6) (k0_pay273 x0 x1 x2 x3 x4 x5 x6) (tb (k0_pay283 x0 x1 x2 x3 x4 x5 x6) (View.ld x3 r0_6)) (tb (k0_pay286 x0 x1 x2 x3 x4 x5 x6) (View.ld x3 r0_9)) (tb (k0_pay284 x0 x1 x2 x3 x4 x5 x6) (View.ld x4 r0_6)) (tb (k0_pay287 x0 x1 x2 x3 x4 x5 x6) (View.ld x4 r0_9)) (gw2 x0 x1 x2 x3 x4 x5 x6) i (by rw [qd20]; exact hR 2 0 i) c).trans ?_
    exact sh_congr (fun l => tk40 x0 x1 x2 x3 x4 x5 x6 i l) (by rw [qd20]; rfl) c.val
  · intro c
    refine (slot8_2 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd21]; exact hR 2 1 i) c).trans ?_
    exact sh_congr (fun l => tk41 x0 x1 x2 x3 x4 x5 x6 i l) (by rw [qd21]; rfl) c.val
  · intro c
    refine (slot8_6 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd22]; exact hR 2 2 i) c).trans ?_
    exact sh_congr (fun l => tk42 x0 x1 x2 x3 x4 x5 x6 i l) (by rw [qd22]; rfl) c.val

/-- Head 4's augmented value row. -/
theorem augV4 (i : Fin 256) (x : Fin 247) :
    k0_pay214 (k0_pay277 x0 x1 x2 x3 x4 x5 x6) (k0_pay279 x0 x1 x2 x3 x4 x5 x6) (k0_pay281 x0 x1 x2 x3 x4 x5 x6) (k0_pay166 (k0_pay218 x0 x1 x2 x3 x4 x5 x6)) (ix3 0 i x) = augV 2 (vh (LB x0 x1 x2 i) 4) (AB x5 2 i) x.val := by
  refine vat2_apply _ _ _ _ i _ _ ?_ ?_ ?_ ?_ x
  · exact fun c => v4 x0 x1 x2 x3 x4 x5 x6 i c
  · exact fun c => oh20 x0 x1 x2 x3 x4 x5 x6 i c
  · exact fun c => oh21 x0 x1 x2 x3 x4 x5 x6 i c
  · exact fun c => oh22 x0 x1 x2 x3 x4 x5 x6 i c

/-- Head 5's augmented query row. -/
theorem augQ5 (hR : ∀ s d i, AB x5 s i d < cS s d) (i : Fin 256) (x : Fin 430) :
    k0_pay215 (k0_pay277 x0 x1 x2 x3 x4 x5 x6) (k0_pay279 x0 x1 x2 x3 x4 x5 x6) (k0_pay281 x0 x1 x2 x3 x4 x5 x6) (k0_pay286 x0 x1 x2 x3 x4 x5 x6) (k0_pay191 (k0_pay290 x0 x1 x2 x3 x4 x5 x6)) (k0_pay208 (k0_pay295 x0 x1 x2 x3 x4 x5 x6) (k0_pay296 x0 x1 x2 x3 x4 x5 x6)) (k0_pay210 (k0_pay295 x0 x1 x2 x3 x4 x5 x6) (k0_pay296 x0 x1 x2 x3 x4 x5 x6)) (ix3 0 i x)
      = augQ 2 (qh (LB x0 x1 x2 i) 5) (fun d l y => x3 (ix4 1 d l y)) (AB x5 2 i) x.val := by
  refine cat2_apply _ _ _ _ _ _ _ i _ _ _ ?_ ?_ ?_ ?_ ?_ ?_ ?_ x
  · exact fun c => q5 x0 x1 x2 x3 x4 x5 x6 i c
  · intro c
    refine (slot4_1 (k0_pay290 x0 x1 x2 x3 x4 x5 x6) (k0_pay273 x0 x1 x2 x3 x4 x5 x6) (tb (k0_pay283 x0 x1 x2 x3 x4 x5 x6) (View.ld x3 r0_6)) (tb (k0_pay286 x0 x1 x2 x3 x4 x5 x6) (View.ld x3 r0_9)) (tb (k0_pay284 x0 x1 x2 x3 x4 x5 x6) (View.ld x4 r0_6)) (tb (k0_pay287 x0 x1 x2 x3 x4 x5 x6) (View.ld x4 r0_9)) (gw2 x0 x1 x2 x3 x4 x5 x6) i (by rw [qd20]; exact hR 2 0 i) c).trans ?_
    exact sh_congr (fun l => tq50 x0 x1 x2 x3 x4 x5 x6 i l) (by rw [qd20]; rfl) c.val
  · intro c
    refine (slot8_1 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd21]; exact hR 2 1 i) c).trans ?_
    exact sh_congr (fun l => tq51 x0 x1 x2 x3 x4 x5 x6 i l) (by rw [qd21]; rfl) c.val
  · intro c
    refine (slot8_5 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd22]; exact hR 2 2 i) c).trans ?_
    exact sh_congr (fun l => tq52 x0 x1 x2 x3 x4 x5 x6 i l) (by rw [qd22]; rfl) c.val
  · exact fun c => oh20 x0 x1 x2 x3 x4 x5 x6 i c
  · exact fun c => oh21 x0 x1 x2 x3 x4 x5 x6 i c
  · exact fun c => oh22 x0 x1 x2 x3 x4 x5 x6 i c

/-- Head 5's augmented key row. -/
theorem augK5 (hR : ∀ s d i, AB x5 s i d < cS s d) (i : Fin 256) (x : Fin 430) :
    k0_pay216 (k0_pay278 x0 x1 x2 x3 x4 x5 x6) (k0_pay280 x0 x1 x2 x3 x4 x5 x6) (k0_pay282 x0 x1 x2 x3 x4 x5 x6) (k0_pay287 x0 x1 x2 x3 x4 x5 x6) (k0_pay192 (k0_pay290 x0 x1 x2 x3 x4 x5 x6)) (k0_pay209 (k0_pay295 x0 x1 x2 x3 x4 x5 x6) (k0_pay296 x0 x1 x2 x3 x4 x5 x6)) (k0_pay211 (k0_pay295 x0 x1 x2 x3 x4 x5 x6) (k0_pay296 x0 x1 x2 x3 x4 x5 x6)) (ix3 0 i x)
      = augK 2 (kh (LB x0 x1 x2 i) 5) (fun d l y => x4 (ix4 1 d l y)) (AB x5 2 i) x.val := by
  refine cat2_apply _ _ _ _ _ _ _ i _ _ _ ?_ ?_ ?_ ?_ ?_ ?_ ?_ x
  · exact fun c => k5 x0 x1 x2 x3 x4 x5 x6 i c
  · exact fun c => or20 x0 x1 x2 x3 x4 x5 x6 hR i c
  · exact fun c => or21 x0 x1 x2 x3 x4 x5 x6 hR i c
  · exact fun c => or22 x0 x1 x2 x3 x4 x5 x6 hR i c
  · intro c
    refine (slot4_3 (k0_pay290 x0 x1 x2 x3 x4 x5 x6) (k0_pay273 x0 x1 x2 x3 x4 x5 x6) (tb (k0_pay283 x0 x1 x2 x3 x4 x5 x6) (View.ld x3 r0_6)) (tb (k0_pay286 x0 x1 x2 x3 x4 x5 x6) (View.ld x3 r0_9)) (tb (k0_pay284 x0 x1 x2 x3 x4 x5 x6) (View.ld x4 r0_6)) (tb (k0_pay287 x0 x1 x2 x3 x4 x5 x6) (View.ld x4 r0_9)) (gw2 x0 x1 x2 x3 x4 x5 x6) i (by rw [qd20]; exact hR 2 0 i) c).trans ?_
    exact sh_congr (fun l => tk50 x0 x1 x2 x3 x4 x5 x6 i l) (by rw [qd20]; rfl) c.val
  · intro c
    refine (slot8_3 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd21]; exact hR 2 1 i) c).trans ?_
    exact sh_congr (fun l => tk51 x0 x1 x2 x3 x4 x5 x6 i l) (by rw [qd21]; rfl) c.val
  · intro c
    refine (slot8_7 (k0_pay207 (k0_pay295 x0 x1 x2 x3 x4 x5 x6) (k0_pay296 x0 x1 x2 x3 x4 x5 x6)) (k0_pay275 x0 x1 x2 x3 x4 x5 x6) (k0_pay276 x0 x1 x2 x3 x4 x5 x6) (tb (k0_pay283 x0 x1 x2 x3 x4 x5 x6) (View.ld x3 r0_7)) (tb (k0_pay286 x0 x1 x2 x3 x4 x5 x6) (View.ld x3 r0_10)) (tb (k0_pay284 x0 x1 x2 x3 x4 x5 x6) (View.ld x4 r0_7)) (tb (k0_pay287 x0 x1 x2 x3 x4 x5 x6) (View.ld x4 r0_10)) (tb (k0_pay283 x0 x1 x2 x3 x4 x5 x6) (View.ld x3 r0_8)) (tb (k0_pay286 x0 x1 x2 x3 x4 x5 x6) (View.ld x3 r0_11)) (tb (k0_pay284 x0 x1 x2 x3 x4 x5 x6) (View.ld x4 r0_8)) (tb (k0_pay287 x0 x1 x2 x3 x4 x5 x6) (View.ld x4 r0_11)) (gn2 x0 x1 x2 x3 x4 x5 x6) i (by rw [qd22]; exact hR 2 2 i) c).trans ?_
    exact sh_congr (fun l => tk52 x0 x1 x2 x3 x4 x5 x6 i l) (by rw [qd22]; rfl) c.val

/-- Head 5's augmented value row. -/
theorem augV5 (i : Fin 256) (x : Fin 247) :
    k0_pay1 (k0_pay217 (k0_pay277 x0 x1 x2 x3 x4 x5 x6) (k0_pay279 x0 x1 x2 x3 x4 x5 x6) (k0_pay281 x0 x1 x2 x3 x4 x5 x6) (k0_pay175 (k0_pay218 x0 x1 x2 x3 x4 x5 x6))) (ix3 0 i x) = augV 2 (vh (LB x0 x1 x2 i) 5) (AB x5 2 i) x.val := by
  refine vat2_apply _ _ _ _ i _ _ ?_ ?_ ?_ ?_ x
  · exact fun c => v5 x0 x1 x2 x3 x4 x5 x6 i c
  · exact fun c => oh20 x0 x1 x2 x3 x4 x5 x6 i c
  · exact fun c => oh21 x0 x1 x2 x3 x4 x5 x6 i c
  · exact fun c => oh22 x0 x1 x2 x3 x4 x5 x6 i c

/-- Strip 2's window number. -/
theorem wid2 (i : Fin 256) : k0_pay157 (k0_pay151 (k0_pay274 x0 x1 x2 x3 x4 x5 x6) (Scalar.ofBits .f32 0x3ECCCCCD#32)) (k0_pay154 (k0_pay219 x0 x1 x2 x3 x4 x5 x6)) (k0_pay156 (k0_pay220 x0 x1 x2 x3 x4 x5 x6) (k0_pay148 (k0_pay219 x0 x1 x2 x3 x4 x5 x6))) (ix3 0 i 0) = WID (x6 (ix2 i 0)) (fun d => x5 (ix2 i d)) 2 := by
  pointwise [k0_pay157, k0_pay151, k0_pay274, k0_pay154, k0_pay219, k0_pay156, k0_pay220, k0_pay148, k0_pay150, k0_pay153, k0_pay3, k0_pay4, k0_pay147]
  rfl

end Cert.KernelIdeal.Roll
end
-- ==== Proof.AugOut.lean ====
module

public import proofs.«01_k».proof.Proof.Aug0
public import proofs.«01_k».proof.Proof.Aug1
public import proofs.«01_k».proof.Proof.Aug2

@[expose] public section

set_option maxRecDepth 16384

noncomputable section

namespace Cert.KernelIdeal.Roll

open Idealize.ShloMosaic Cert.KernelIdeal Cert.KernelIdeal.Gen Cert.Spec

variable (x0 : Vec Ideal S256x384 .f32) (x1 : Vec Ideal S1152x384 .f32) (x2 : Vec Ideal S1x1152 .f32) (x3 : Vec Ideal S2x3x79x64 .f32)
  (x4 : Vec Ideal S2x3x79x64 .f32) (x5 : Vec Ideal S256x3 .f32) (x6 : Vec Ideal S256x1 .i32)

/-- The block's augmented query rows of head 0. -/
theorem outQ0 (hR : ∀ s d i, AB x5 s i d < cS s d) (i : Fin 256) (x : Fin 430) : out0_7 x0 x1 x2 x3 x4 x5 x6 (ix3 0 i x)
    = augQ 0 (qh (LB x0 x1 x2 i) 0) (fun d l y => x3 (ix4 0 d l y)) (AB x5 0 i) x.val := by
  canon_tiles y hy
  · exact absurd (show 0 = 5 + (y 0).val from hy0) (by omega)
  · exact absurd (show 0 = 4 + (y 0).val from hy0) (by omega)
  · exact absurd (show 0 = 3 + (y 0).val from hy0) (by omega)
  · exact absurd (show 0 = 2 + (y 0).val from hy0) (by omega)
  · exact absurd (show 0 = 1 + (y 0).val from hy0) (by omega)
  · have e : y = ix3 0 i x := by
      blk_ext []
      all_goals first | exact hy1.symm | exact hy2.symm
    rw [e]
    exact augQ0 x0 x1 x2 x3 x4 x5 x6 hR i x

/-- The block's augmented query rows of head 1. -/
theorem outQ1 (hR : ∀ s d i, AB x5 s i d < cS s d) (i : Fin 256) (x : Fin 430) : out0_7 x0 x1 x2 x3 x4 x5 x6 (ix3 1 i x)
    = augQ 0 (qh (LB x0 x1 x2 i) 1) (fun d l y => x3 (ix4 1 d l y)) (AB x5 0 i) x.val := by
  canon_tiles y hy
  · exact absurd (show 1 = 5 + (y 0).val from hy0) (by omega)
  · exact absurd (show 1 = 4 + (y 0).val from hy0) (by omega)
  · exact absurd (show 1 = 3 + (y 0).val from hy0) (by omega)
  · exact absurd (show 1 = 2 + (y 0).val from hy0) (by omega)
  · have e : y = ix3 0 i x := by
      blk_ext []
      all_goals first | exact hy1.symm | exact hy2.symm
    rw [e]
    exact augQ1 x0 x1 x2 x3 x4 x5 x6 hR i x
  · exact absurd (show 1 = (y 0).val from hy0) (by omega)

/-- The block's augmented query rows of head 2. -/
theorem outQ2 (hR : ∀ s d i, AB x5 s i d < cS s d) (i : Fin 256) (x : Fin 430) : out0_7 x0 x1 x2 x3 x4 x5 x6 (ix3 2 i x)
    = augQ 1 (qh (LB x0 x1 x2 i) 2) (fun d l y => x3 (ix4 0 d l y)) (AB x5 1 i) x.val := by
  canon_tiles y hy
  · exact absurd (show 2 = 5 + (y 0).val from hy0) (by omega)
  · exact absurd (show 2 = 4 + (y 0).val from hy0) (by omega)
  · exact absurd (show 2 = 3 + (y 0).val from hy0) (by omega)
  · have e : y = ix3 0 i x := by
      blk_ext []
      all_goals first | exact hy1.symm | exact hy2.symm
    rw [e]
    exact augQ2 x0 x1 x2 x3 x4 x5 x6 hR i x
  · exact absurd (show 2 = 1 + (y 0).val from hy0) (by omega)
  · exact absurd (show 2 = (y 0).val from hy0) (by omega)

/-- The block's augmented query rows of head 3. -/
theorem outQ3 (hR : ∀ s d i, AB x5 s i d < cS s d) (i : Fin 256) (x : Fin 430) : out0_7 x0 x1 x2 x3 x4 x5 x6 (ix3 3 i x)
    = augQ 1 (qh (LB x0 x1 x2 i) 3) (fun d l y => x3 (ix4 1 d l y)) (AB x5 1 i) x.val := by
  canon_tiles y hy
  · exact absurd (show 3 = 5 + (y 0).val from hy0) (by omega)
  · exact absurd (show 3 = 4 + (y 0).val from hy0) (by omega)
  · have e : y = ix3 0 i x := by
      blk_ext []
      all_goals first | exact hy1.symm | exact hy2.symm
    rw [e]
    exact augQ3 x0 x1 x2 x3 x4 x5 x6 hR i x
  · exact absurd (show 3 = 2 + (y 0).val from hy0) (by omega)
  · exact absurd (show 3 = 1 + (y 0).val from hy0) (by omega)
  · exact absurd (show 3 = (y 0).val from hy0) (by omega)

/-- The block's augmented query rows of head 4. -/
theorem outQ4 (hR : ∀ s d i, AB x5 s i d < cS s d) (i : Fin 256) (x : Fin 430) : out0_7 x0 x1 x2 x3 x4 x5 x6 (ix3 4 i x)
    = augQ 2 (qh (LB x0 x1 x2 i) 4) (fun d l y => x3 (ix4 0 d l y)) (AB x5 2 i) x.val := by
  canon_tiles y hy
  · exact absurd (show 4 = 5 + (y 0).val from hy0) (by omega)
  · have e : y = ix3 0 i x := by
      blk_ext []
      all_goals first | exact hy1.symm | exact hy2.symm
    rw [e]
    exact augQ4 x0 x1 x2 x3 x4 x5 x6 hR i x
  · exact absurd (show 4 = 3 + (y 0).val from hy0) (by omega)
  · exact absurd (show 4 = 2 + (y 0).val from hy0) (by omega)
  · exact absurd (show 4 = 1 + (y 0).val from hy0) (by omega)
  · exact absurd (show 4 = (y 0).val from hy0) (by omega)

/-- The block's augmented query rows of head 5. -/
theorem outQ5 (hR : ∀ s d i, AB x5 s i d < cS s d) (i : Fin 256) (x : Fin 430) : out0_7 x0 x1 x2 x3 x4 x5 x6 (ix3 5 i x)
    = augQ 2 (qh (LB x0 x1 x2 i) 5) (fun d l y => x3 (ix4 1 d l y)) (AB x5 2 i) x.val := by
  canon_tiles y hy
  · have e : y = ix3 0 i x := by
      blk_ext []
      all_goals first | exact hy1.symm | exact hy2.symm
    rw [e]
    exact augQ5 x0 x1 x2 x3 x4 x5 x6 hR i x
  · exact absurd (show 5 = 4 + (y 0).val from hy0) (by omega)
  · exact absurd (show 5 = 3 + (y 0).val from hy0) (by omega)
  · exact absurd (show 5 = 2 + (y 0).val from hy0) (by omega)
  · exact absurd (show 5 = 1 + (y 0).val from hy0) (by omega)
  · exact absurd (show 5 = (y 0).val from hy0) (by omega)

/-- Region 0's queries, augmented, of one block. -/
theorem outQ (hR : ∀ s d i, AB x5 s i d < cS s d) (s : Fin 3) (hh : Fin 2) (i : Fin 256) (x : Fin 430) : out0_7 x0 x1 x2 x3 x4 x5 x6 (ix3 (hd s hh) i x)
    = augQ s (qh (LB x0 x1 x2 i) (hd s hh)) (fun d l y => x3 (ix4 hh d l y)) (AB x5 s i) x.val :=
  match s, hh with
  | 0, 0 => outQ0 x0 x1 x2 x3 x4 x5 x6 hR i x
  | 0, 1 => outQ1 x0 x1 x2 x3 x4 x5 x6 hR i x
  | 1, 0 => outQ2 x0 x1 x2 x3 x4 x5 x6 hR i x
  | 1, 1 => outQ3 x0 x1 x2 x3 x4 x5 x6 hR i x
  | 2, 0 => outQ4 x0 x1 x2 x3 x4 x5 x6 hR i x
  | 2, 1 => outQ5 x0 x1 x2 x3 x4 x5 x6 hR i x

/-- The block's augmented key rows of head 0. -/
theorem outK0 (hR : ∀ s d i, AB x5 s i d < cS s d) (i : Fin 256) (x : Fin 430) : out0_8 x0 x1 x2 x3 x4 x5 x6 (ix3 0 i x)
    = augK 0 (kh (LB x0 x1 x2 i) 0) (fun d l y => x4 (ix4 0 d l y)) (AB x5 0 i) x.val := by
  canon_tiles y hy
  · exact absurd (show 0 = 5 + (y 0).val from hy0) (by omega)
  · exact absurd (show 0 = 4 + (y 0).val from hy0) (by omega)
  · exact absurd (show 0 = 3 + (y 0).val from hy0) (by omega)
  · exact absurd (show 0 = 2 + (y 0).val from hy0) (by omega)
  · exact absurd (show 0 = 1 + (y 0).val from hy0) (by omega)
  · have e : y = ix3 0 i x := by
      blk_ext []
      all_goals first | exact hy1.symm | exact hy2.symm
    rw [e]
    exact augK0 x0 x1 x2 x3 x4 x5 x6 hR i x

/-- The block's augmented key rows of head 1. -/
theorem outK1 (hR : ∀ s d i, AB x5 s i d < cS s d) (i : Fin 256) (x : Fin 430) : out0_8 x0 x1 x2 x3 x4 x5 x6 (ix3 1 i x)
    = augK 0 (kh (LB x0 x1 x2 i) 1) (fun d l y => x4 (ix4 1 d l y)) (AB x5 0 i) x.val := by
  canon_tiles y hy
  · exact absurd (show 1 = 5 + (y 0).val from hy0) (by omega)
  · exact absurd (show 1 = 4 + (y 0).val from hy0) (by omega)
  · exact absurd (show 1 = 3 + (y 0).val from hy0) (by omega)
  · exact absurd (show 1 = 2 + (y 0).val from hy0) (by omega)
  · have e : y = ix3 0 i x := by
      blk_ext []
      all_goals first | exact hy1.symm | exact hy2.symm
    rw [e]
    exact augK1 x0 x1 x2 x3 x4 x5 x6 hR i x
  · exact absurd (show 1 = (y 0).val from hy0) (by omega)

/-- The block's augmented key rows of head 2. -/
theorem outK2 (hR : ∀ s d i, AB x5 s i d < cS s d) (i : Fin 256) (x : Fin 430) : out0_8 x0 x1 x2 x3 x4 x5 x6 (ix3 2 i x)
    = augK 1 (kh (LB x0 x1 x2 i) 2) (fun d l y => x4 (ix4 0 d l y)) (AB x5 1 i) x.val := by
  canon_tiles y hy
  · exact absurd (show 2 = 5 + (y 0).val from hy0) (by omega)
  · exact absurd (show 2 = 4 + (y 0).val from hy0) (by omega)
  · exact absurd (show 2 = 3 + (y 0).val from hy0) (by omega)
  · have e : y = ix3 0 i x := by
      blk_ext []
      all_goals first | exact hy1.symm | exact hy2.symm
    rw [e]
    exact augK2 x0 x1 x2 x3 x4 x5 x6 hR i x
  · exact absurd (show 2 = 1 + (y 0).val from hy0) (by omega)
  · exact absurd (show 2 = (y 0).val from hy0) (by omega)

/-- The block's augmented key rows of head 3. -/
theorem outK3 (hR : ∀ s d i, AB x5 s i d < cS s d) (i : Fin 256) (x : Fin 430) : out0_8 x0 x1 x2 x3 x4 x5 x6 (ix3 3 i x)
    = augK 1 (kh (LB x0 x1 x2 i) 3) (fun d l y => x4 (ix4 1 d l y)) (AB x5 1 i) x.val := by
  canon_tiles y hy
  · exact absurd (show 3 = 5 + (y 0).val from hy0) (by omega)
  · exact absurd (show 3 = 4 + (y 0).val from hy0) (by omega)
  · have e : y = ix3 0 i x := by
      blk_ext []
      all_goals first | exact hy1.symm | exact hy2.symm
    rw [e]
    exact augK3 x0 x1 x2 x3 x4 x5 x6 hR i x
  · exact absurd (show 3 = 2 + (y 0).val from hy0) (by omega)
  · exact absurd (show 3 = 1 + (y 0).val from hy0) (by omega)
  · exact absurd (show 3 = (y 0).val from hy0) (by omega)

/-- The block's augmented key rows of head 4. -/
theorem outK4 (hR : ∀ s d i, AB x5 s i d < cS s d) (i : Fin 256) (x : Fin 430) : out0_8 x0 x1 x2 x3 x4 x5 x6 (ix3 4 i x)
    = augK 2 (kh (LB x0 x1 x2 i) 4) (fun d l y => x4 (ix4 0 d l y)) (AB x5 2 i) x.val := by
  canon_tiles y hy
  · exact absurd (show 4 = 5 + (y 0).val from hy0) (by omega)
  · have e : y = ix3 0 i x := by
      blk_ext []
      all_goals first | exact hy1.symm | exact hy2.symm
    rw [e]
    exact augK4 x0 x1 x2 x3 x4 x5 x6 hR i x
  · exact absurd (show 4 = 3 + (y 0).val from hy0) (by omega)
  · exact absurd (show 4 = 2 + (y 0).val from hy0) (by omega)
  · exact absurd (show 4 = 1 + (y 0).val from hy0) (by omega)
  · exact absurd (show 4 = (y 0).val from hy0) (by omega)

/-- The block's augmented key rows of head 5. -/
theorem outK5 (hR : ∀ s d i, AB x5 s i d < cS s d) (i : Fin 256) (x : Fin 430) : out0_8 x0 x1 x2 x3 x4 x5 x6 (ix3 5 i x)
    = augK 2 (kh (LB x0 x1 x2 i) 5) (fun d l y => x4 (ix4 1 d l y)) (AB x5 2 i) x.val := by
  canon_tiles y hy
  · have e : y = ix3 0 i x := by
      blk_ext []
      all_goals first | exact hy1.symm | exact hy2.symm
    rw [e]
    exact augK5 x0 x1 x2 x3 x4 x5 x6 hR i x
  · exact absurd (show 5 = 4 + (y 0).val from hy0) (by omega)
  · exact absurd (show 5 = 3 + (y 0).val from hy0) (by omega)
  · exact absurd (show 5 = 2 + (y 0).val from hy0) (by omega)
  · exact absurd (show 5 = 1 + (y 0).val from hy0) (by omega)
  · exact absurd (show 5 = (y 0).val from hy0) (by omega)

/-- Region 0's keys, augmented, of one block. -/
theorem outK (hR : ∀ s d i, AB x5 s i d < cS s d) (s : Fin 3) (hh : Fin 2) (i : Fin 256) (x : Fin 430) : out0_8 x0 x1 x2 x3 x4 x5 x6 (ix3 (hd s hh) i x)
    = augK s (kh (LB x0 x1 x2 i) (hd s hh)) (fun d l y => x4 (ix4 hh d l y)) (AB x5 s i) x.val :=
  match s, hh with
  | 0, 0 => outK0 x0 x1 x2 x3 x4 x5 x6 hR i x
  | 0, 1 => outK1 x0 x1 x2 x3 x4 x5 x6 hR i x
  | 1, 0 => outK2 x0 x1 x2 x3 x4 x5 x6 hR i x
  | 1, 1 => outK3 x0 x1 x2 x3 x4 x5 x6 hR i x
  | 2, 0 => outK4 x0 x1 x2 x3 x4 x5 x6 hR i x
  | 2, 1 => outK5 x0 x1 x2 x3 x4 x5 x6 hR i x

/-- The block's augmented value rows of head 0. -/
theorem outV0 (i : Fin 256) (x : Fin 247) : out0_9 x0 x1 x2 x3 x4 x5 x6 (ix3 0 i x)
    = augV 0 (vh (LB x0 x1 x2 i) 0) (AB x5 0 i) x.val := by
  canon_tiles y hy
  · exact absurd (show 0 = 5 + (y 0).val from hy0) (by omega)
  · exact absurd (show 0 = 4 + (y 0).val from hy0) (by omega)
  · exact absurd (show 0 = 3 + (y 0).val from hy0) (by omega)
  · exact absurd (show 0 = 2 + (y 0).val from hy0) (by omega)
  · exact absurd (show 0 = 1 + (y 0).val from hy0) (by omega)
  · have e : y = ix3 0 i x := by
      blk_ext []
      all_goals first | exact hy1.symm | exact hy2.symm
    rw [e]
    exact augV0 x0 x1 x2 x3 x4 x5 x6 i x

/-- The block's augmented value rows of head 1. -/
theorem outV1 (i : Fin 256) (x : Fin 247) : out0_9 x0 x1 x2 x3 x4 x5 x6 (ix3 1 i x)
    = augV 0 (vh (LB x0 x1 x2 i) 1) (AB x5 0 i) x.val := by
  canon_tiles y hy
  · exact absurd (show 1 = 5 + (y 0).val from hy0) (by omega)
  · exact absurd (show 1 = 4 + (y 0).val from hy0) (by omega)
  · exact absurd (show 1 = 3 + (y 0).val from hy0) (by omega)
  · exact absurd (show 1 = 2 + (y 0).val from hy0) (by omega)
  · have e : y = ix3 0 i x := by
      blk_ext []
      all_goals first | exact hy1.symm | exact hy2.symm
    rw [e]
    exact augV1 x0 x1 x2 x3 x4 x5 x6 i x
  · exact absurd (show 1 = (y 0).val from hy0) (by omega)

/-- The block's augmented value rows of head 2. -/
theorem outV2 (i : Fin 256) (x : Fin 247) : out0_9 x0 x1 x2 x3 x4 x5 x6 (ix3 2 i x)
    = augV 1 (vh (LB x0 x1 x2 i) 2) (AB x5 1 i) x.val := by
  canon_tiles y hy
  · exact absurd (show 2 = 5 + (y 0).val from hy0) (by omega)
  · exact absurd (show 2 = 4 + (y 0).val from hy0) (by omega)
  · exact absurd (show 2 = 3 + (y 0).val from hy0) (by omega)
  · have e : y = ix3 0 i x := by
      blk_ext []
      all_goals first | exact hy1.symm | exact hy2.symm
    rw [e]
    exact augV2 x0 x1 x2 x3 x4 x5 x6 i x
  · exact absurd (show 2 = 1 + (y 0).val from hy0) (by omega)
  · exact absurd (show 2 = (y 0).val from hy0) (by omega)

/-- The block's augmented value rows of head 3. -/
theorem outV3 (i : Fin 256) (x : Fin 247) : out0_9 x0 x1 x2 x3 x4 x5 x6 (ix3 3 i x)
    = augV 1 (vh (LB x0 x1 x2 i) 3) (AB x5 1 i) x.val := by
  canon_tiles y hy
  · exact absurd (show 3 = 5 + (y 0).val from hy0) (by omega)
  · exact absurd (show 3 = 4 + (y 0).val from hy0) (by omega)
  · have e : y = ix3 0 i x := by
      blk_ext []
      all_goals first | exact hy1.symm | exact hy2.symm
    rw [e]
    exact augV3 x0 x1 x2 x3 x4 x5 x6 i x
  · exact absurd (show 3 = 2 + (y 0).val from hy0) (by omega)
  · exact absurd (show 3 = 1 + (y 0).val from hy0) (by omega)
  · exact absurd (show 3 = (y 0).val from hy0) (by omega)

/-- The block's augmented value rows of head 4. -/
theorem outV4 (i : Fin 256) (x : Fin 247) : out0_9 x0 x1 x2 x3 x4 x5 x6 (ix3 4 i x)
    = augV 2 (vh (LB x0 x1 x2 i) 4) (AB x5 2 i) x.val := by
  canon_tiles y hy
  · exact absurd (show 4 = 5 + (y 0).val from hy0) (by omega)
  · have e : y = ix3 0 i x := by
      blk_ext []
      all_goals first | exact hy1.symm | exact hy2.symm
    rw [e]
    exact augV4 x0 x1 x2 x3 x4 x5 x6 i x
  · exact absurd (show 4 = 3 + (y 0).val from hy0) (by omega)
  · exact absurd (show 4 = 2 + (y 0).val from hy0) (by omega)
  · exact absurd (show 4 = 1 + (y 0).val from hy0) (by omega)
  · exact absurd (show 4 = (y 0).val from hy0) (by omega)

/-- The block's augmented value rows of head 5. -/
theorem outV5 (i : Fin 256) (x : Fin 247) : out0_9 x0 x1 x2 x3 x4 x5 x6 (ix3 5 i x)
    = augV 2 (vh (LB x0 x1 x2 i) 5) (AB x5 2 i) x.val := by
  canon_tiles y hy
  · have e : y = ix3 0 i x := by
      blk_ext []
      all_goals first | exact hy1.symm | exact hy2.symm
    rw [e]
    exact augV5 x0 x1 x2 x3 x4 x5 x6 i x
  · exact absurd (show 5 = 4 + (y 0).val from hy0) (by omega)
  · exact absurd (show 5 = 3 + (y 0).val from hy0) (by omega)
  · exact absurd (show 5 = 2 + (y 0).val from hy0) (by omega)
  · exact absurd (show 5 = 1 + (y 0).val from hy0) (by omega)
  · exact absurd (show 5 = (y 0).val from hy0) (by omega)

/-- Region 0's values, augmented, of one block. -/
theorem outV (s : Fin 3) (hh : Fin 2) (i : Fin 256) (x : Fin 247) : out0_9 x0 x1 x2 x3 x4 x5 x6 (ix3 (hd s hh) i x)
    = augV s (vh (LB x0 x1 x2 i) (hd s hh)) (AB x5 s i) x.val :=
  match s, hh with
  | 0, 0 => outV0 x0 x1 x2 x3 x4 x5 x6 i x
  | 0, 1 => outV1 x0 x1 x2 x3 x4 x5 x6 i x
  | 1, 0 => outV2 x0 x1 x2 x3 x4 x5 x6 i x
  | 1, 1 => outV3 x0 x1 x2 x3 x4 x5 x6 i x
  | 2, 0 => outV4 x0 x1 x2 x3 x4 x5 x6 i x
  | 2, 1 => outV5 x0 x1 x2 x3 x4 x5 x6 i x

/-- The block's window numbers in strip 0. -/
theorem outW0 (i : Fin 256) : out0_10 x0 x1 x2 x3 x4 x5 x6 (ix3 0 i 0)
    = WID (x6 (ix2 i 0)) (fun d => x5 (ix2 i d)) 0 := by
  canon_tiles y hy
  · exact absurd (show 0 = 2 + (y 0).val from hy0) (by omega)
  · exact absurd (show 0 = 1 + (y 0).val from hy0) (by omega)
  · have e : y = ix3 0 i 0 := by
      blk_ext []
      all_goals first | exact hy1.symm | exact hy2.symm
    rw [e]
    exact wid0 x0 x1 x2 x3 x4 x5 x6 i

/-- The block's window numbers in strip 1. -/
theorem outW1 (i : Fin 256) : out0_10 x0 x1 x2 x3 x4 x5 x6 (ix3 1 i 0)
    = WID (x6 (ix2 i 0)) (fun d => x5 (ix2 i d)) 1 := by
  canon_tiles y hy
  · exact absurd (show 1 = 2 + (y 0).val from hy0) (by omega)
  · have e : y = ix3 0 i 0 := by
      blk_ext []
      all_goals first | exact hy1.symm | exact hy2.symm
    rw [e]
    exact wid1 x0 x1 x2 x3 x4 x5 x6 i
  · exact absurd (show 1 = (y 0).val from hy0) (by omega)

/-- The block's window numbers in strip 2. -/
theorem outW2 (i : Fin 256) : out0_10 x0 x1 x2 x3 x4 x5 x6 (ix3 2 i 0)
    = WID (x6 (ix2 i 0)) (fun d => x5 (ix2 i d)) 2 := by
  canon_tiles y hy
  · have e : y = ix3 0 i 0 := by
      blk_ext []
      all_goals first | exact hy1.symm | exact hy2.symm
    rw [e]
    exact wid2 x0 x1 x2 x3 x4 x5 x6 i
  · exact absurd (show 2 = 1 + (y 0).val from hy0) (by omega)
  · exact absurd (show 2 = (y 0).val from hy0) (by omega)

/-- Region 0's window numbers of one block. -/
theorem outW (s : Fin 3) (i : Fin 256) : out0_10 x0 x1 x2 x3 x4 x5 x6 (ix3 s i 0) = WID (x6 (ix2 i 0)) (fun d => x5 (ix2 i d)) s :=
  match s with
  | 0 => outW0 x0 x1 x2 x3 x4 x5 x6 i
  | 1 => outW1 x0 x1 x2 x3 x4 x5 x6 i
  | 2 => outW2 x0 x1 x2 x3 x4 x5 x6 i

end Cert.KernelIdeal.Roll
end
-- ==== Proof.Reg0.lean ====
module

public import proofs.«01_k».proof.Proof.Gen.KernelIdeal.Frame
public import proofs.«01_k».proof.Proof.SpecB
public import proofs.«01_k».proof.Proof.AugOut
public import Idealize.ShloMosaic.Lib.Pipeline.ValueKit

@[expose] public section

set_option maxRecDepth 16384

noncomputable section

namespace Cert.KernelIdeal.Roll

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- Where each window of the first launch lies at a grid step: the block of points, or the whole array. -/
theorem idx0 : ∀ t : Fin cfg0.N, win0_0.index t = ![(grid0.coords t 0).val, 0]
    ∧ win0_1.index t = ![0, 0] ∧ win0_2.index t = ![0, 0]
    ∧ win0_3.index t = ![0, 0, 0, 0] ∧ win0_4.index t = ![0, 0, 0, 0]
    ∧ win0_5.index t = ![(grid0.coords t 0).val, 0] ∧ win0_6.index t = ![(grid0.coords t 0).val, 0]
    ∧ win0_7.index t = ![0, (grid0.coords t 0).val, 0] ∧ win0_8.index t = ![0, (grid0.coords t 0).val, 0]
    ∧ win0_9.index t = ![0, (grid0.coords t 0).val, 0] ∧ win0_10.index t = ![0, (grid0.coords t 0).val, 0] :=
  (by decide +kernel : ∀ t : Fin grid0.N, _)

/-- A point's linear map. -/
def rowL (c : Dev nD) (n : Fin 2048) : Fin 1152 → EReal :=
  lin (fun x => (V c main_arg0 : Vec Ideal S2048x384 .f32) (ix2 n x)) (fun j x => (V c main_arg3 : Vec Ideal S1152x384 .f32) (ix2 j x))
    (fun j => (V c main_v7 : Vec Ideal S1x1152 .f32) (ix2 0 j))

/-- A point's quantised positions. -/
def rowA (c : Dev nD) (s : Fin 3) (n : Fin 2048) (d : Fin 3) : Nat := (QD ((V c main_v3 : Vec Ideal S2048x3 .f32) (ix2 n d)) (wS s d)).toNat

/-- The head's place in its strip. -/
def hp (h : Fin 6) : Fin 2 := ⟨h.val % 2, by omega⟩

/-- A head's number is given by its strip and its place there. -/
theorem hd_st (h : Fin 6) : hd (st h) (hp h) = h := Fin.ext (by simp [hd, st, hp]; omega)

/-- The first operand's array. -/
def GQ (c : Dev nD) : Vec Ideal S6x2048x430 .f32 := fun y =>
  augQ (st (y 0)) (qh (rowL V c (y 1)) (y 0)) (fun d l e => (V c main_v5 : Vec Ideal S2x3x79x64 .f32) (ix4 (hp (y 0)) d l e))
    (rowA V c (st (y 0)) (y 1)) (y 2).val
/-- The second operand's array. -/
def GK (c : Dev nD) : Vec Ideal S6x2048x430 .f32 := fun y =>
  augK (st (y 0)) (kh (rowL V c (y 1)) (y 0)) (fun d l e => (V c main_v6 : Vec Ideal S2x3x79x64 .f32) (ix4 (hp (y 0)) d l e))
    (rowA V c (st (y 0)) (y 1)) (y 2).val
/-- The values' array. -/
def GV (c : Dev nD) : Vec Ideal S6x2048x247 .f32 := fun y =>
  augV (st (y 0)) (vh (rowL V c (y 1)) (y 0)) (rowA V c (st (y 0)) (y 1)) (y 2).val
/-- The windows' numbers. -/
def GW (c : Dev nD) : Vec Ideal S3x2048x1 .i32 := fun y =>
  WID ((V c main_v4 : Vec Ideal S2048x1 .i32) (ix2 (y 1) 0)) (fun d => (V c main_v3 : Vec Ideal S2048x3 .f32) (ix2 (y 1) d)) (y 0)

/-- A step's block of the features, entry by entry. -/
theorem b0_0 (c : Dev nD) (t : Fin cfg0.N) (i : Fin 256) (x : Fin 384) (n : Fin 2048) (hn : (grid0.coords t 0).val * 256 + i.val = n.val) :
    (iblk0 V c 0 t : Vec Ideal S256x384 .f32) (ix2 i x) = (V c main_arg0 : Vec Ideal S2048x384 .f32) (ix2 n x) := by
  have e := (idx0 t).1
  blk_ext [iblk0, e]
  all_goals exact hn

/-- A step's block of the linear map's weights, entry by entry. -/
theorem b0_1 (c : Dev nD) (t : Fin cfg0.N) (i : Fin 1152) (x : Fin 384) :
    (iblk0 V c 1 t : Vec Ideal S1152x384 .f32) (ix2 i x) = (V c main_arg3 : Vec Ideal S1152x384 .f32) (ix2 i x) := by
  have e := (idx0 t).2.1
  blk_ext [iblk0, e]

/-- A step's block of the linear map's constants, entry by entry. -/
theorem b0_2 (c : Dev nD) (t : Fin cfg0.N) (x : Fin 1152) :
    (iblk0 V c 2 t : Vec Ideal S1x1152 .f32) (ix2 0 x) = (V c main_v7 : Vec Ideal S1x1152 .f32) (ix2 0 x) := by
  have e := (idx0 t).2.2.1
  blk_ext [iblk0, e]

/-- A step's block of the query table, entry by entry. -/
theorem b0_3 (c : Dev nD) (t : Fin cfg0.N) (a : Fin 2) (d : Fin 3) (l : Fin 79) (x : Fin 64) :
    (iblk0 V c 3 t : Vec Ideal S2x3x79x64 .f32) (ix4 a d l x) = (V c main_v5 : Vec Ideal S2x3x79x64 .f32) (ix4 a d l x) := by
  have e := (idx0 t).2.2.2.1
  blk_ext [iblk0, e]

/-- A step's block of the key table, entry by entry. -/
theorem b0_4 (c : Dev nD) (t : Fin cfg0.N) (a : Fin 2) (d : Fin 3) (l : Fin 79) (x : Fin 64) :
    (iblk0 V c 4 t : Vec Ideal S2x3x79x64 .f32) (ix4 a d l x) = (V c main_v6 : Vec Ideal S2x3x79x64 .f32) (ix4 a d l x) := by
  have e := (idx0 t).2.2.2.2.1
  blk_ext [iblk0, e]

/-- A step's block of the relative coordinates, entry by entry. -/
theorem b0_5 (c : Dev nD) (t : Fin cfg0.N) (i : Fin 256) (x : Fin 3) (n : Fin 2048) (hn : (grid0.coords t 0).val * 256 + i.val = n.val) :
    (iblk0 V c 5 t : Vec Ideal S256x3 .f32) (ix2 i x) = (V c main_v3 : Vec Ideal S2048x3 .f32) (ix2 n x) := by
  have e := (idx0 t).2.2.2.2.2.1
  blk_ext [iblk0, e]
  all_goals exact hn

/-- A step's block of the batches, entry by entry. -/
theorem b0_6 (c : Dev nD) (t : Fin cfg0.N) (i : Fin 256) (n : Fin 2048) (hn : (grid0.coords t 0).val * 256 + i.val = n.val) :
    (iblk0 V c 6 t : Vec Ideal S256x1 .i32) (ix2 i 0) = (V c main_v4 : Vec Ideal S2048x1 .i32) (ix2 n 0) := by
  have e := (idx0 t).2.2.2.2.2.2.1
  blk_ext [iblk0, e]
  all_goals exact hn

/-- Where an entry of a step's block of query rows lies in its array. -/
theorem b0_7 (t : Fin cfg0.N) (h : Fin 6) (i : Fin 256) (x : Fin 430) :
    ((((cfg0.win 7).blk t).view.emb (ix3 h i x) 0).val = h.val)
    ∧ ((((cfg0.win 7).blk t).view.emb (ix3 h i x) 1).val = (grid0.coords t 0).val * 256 + i.val)
    ∧ ((((cfg0.win 7).blk t).view.emb (ix3 h i x) 2).val = x.val) := by
  have e := (idx0 t).2.2.2.2.2.2.2.1
  blk_simp [e]
  simp

/-- Where an entry of a step's block of key rows lies in its array. -/
theorem b0_8 (t : Fin cfg0.N) (h : Fin 6) (i : Fin 256) (x : Fin 430) :
    ((((cfg0.win 8).blk t).view.emb (ix3 h i x) 0).val = h.val)
    ∧ ((((cfg0.win 8).blk t).view.emb (ix3 h i x) 1).val = (grid0.coords t 0).val * 256 + i.val)
    ∧ ((((cfg0.win 8).blk t).view.emb (ix3 h i x) 2).val = x.val) := by
  have e := (idx0 t).2.2.2.2.2.2.2.2.1
  blk_simp [e]
  simp

/-- Where an entry of a step's block of value rows lies in its array. -/
theorem b0_9 (t : Fin cfg0.N) (h : Fin 6) (i : Fin 256) (x : Fin 247) :
    ((((cfg0.win 9).blk t).view.emb (ix3 h i x) 0).val = h.val)
    ∧ ((((cfg0.win 9).blk t).view.emb (ix3 h i x) 1).val = (grid0.coords t 0).val * 256 + i.val)
    ∧ ((((cfg0.win 9).blk t).view.emb (ix3 h i x) 2).val = x.val) := by
  have e := (idx0 t).2.2.2.2.2.2.2.2.2.1
  blk_simp [e]
  simp

/-- Where an entry of a step's block of window numbers lies in its array. -/
theorem b0_10 (t : Fin cfg0.N) (h : Fin 3) (i : Fin 256) :
    ((((cfg0.win 10).blk t).view.emb (ix3 h i 0) 0).val = h.val)
    ∧ ((((cfg0.win 10).blk t).view.emb (ix3 h i 0) 1).val = (grid0.coords t 0).val * 256 + i.val) := by
  have e := (idx0 t).2.2.2.2.2.2.2.2.2.2
  blk_simp [e]
  simp

/-- A block's linear map at a row is that of the row's point. -/
theorem LB_eq (c : Dev nD) (t : Fin cfg0.N) (i : Fin 256) (n : Fin 2048) (hn : (grid0.coords t 0).val * 256 + i.val = n.val) :
    LB (iblk0 V c 0 t) (iblk0 V c 1 t) (iblk0 V c 2 t) i = rowL V c n := by
  unfold LB rowL
  exact congr (congrArg₂ lin (funext fun x => b0_0 V c t i x n hn) (funext fun j => funext fun x => b0_1 V c t j x)) (funext fun j => b0_2 V c t j)

/-- A block's quantised positions at a row are those of the row's point. -/
theorem AB_eq (c : Dev nD) (t : Fin cfg0.N) (i : Fin 256) (n : Fin 2048) (hn : (grid0.coords t 0).val * 256 + i.val = n.val) (s : Fin 3) :
    AB (iblk0 V c 5 t) s i = rowA V c s n := by
  funext d
  unfold AB rowA
  rw [b0_5 V c t i d n hn]

/-- A block's quantised positions are in range where all points' are. -/
theorem AB_lt (c : Dev nD) (hR : ∀ s d n, rowA V c s n d < cS s d) (t : Fin cfg0.N) : ∀ s d i, AB (iblk0 V c 5 t) s i d < cS s d := by
  intro s d i
  have hc : (grid0.coords t 0).val < 8 := (grid0.coords t 0).isLt
  rw [AB_eq V c t i ⟨(grid0.coords t 0).val * 256 + i.val, by omega⟩ rfl s]
  exact hR s d _

/-- A step's block of query rows is the whole array's at the block's points. -/
theorem blkQ (c : Dev nD) (hR : ∀ s d n, rowA V c s n d < cS s d) (t : Fin cfg0.N) (h h' : Fin 6) (i : Fin 256) (n : Fin 2048) (x x' : Fin 430)
    (hh : h.val = h'.val) (hn : n.val = (grid0.coords t 0).val * 256 + i.val) (hx : x.val = x'.val) :
    out0_7 (iblk0 V c 0 t) (iblk0 V c 1 t) (iblk0 V c 2 t) (iblk0 V c 3 t) (iblk0 V c 4 t) (iblk0 V c 5 t) (iblk0 V c 6 t) (ix3 h' i x')
      = augQ (st h) (qh (rowL V c n) h) (fun d l e => (V c main_v5 : Vec Ideal S2x3x79x64 .f32) (ix4 (hp h) d l e)) (rowA V c (st h) n) x.val := by
  obtain rfl : h = h' := Fin.ext hh
  obtain rfl : x = x' := Fin.ext hx
  refine (congrArg (fun a : Fin 6 => out0_7 (iblk0 V c 0 t) (iblk0 V c 1 t) (iblk0 V c 2 t) (iblk0 V c 3 t) (iblk0 V c 4 t) (iblk0 V c 5 t) (iblk0 V c 6 t) (ix3 a i x)) (hd_st h).symm).trans ?_
  refine (outQ _ _ _ _ _ _ _ (AB_lt V c hR t) (st h) (hp h) i x).trans ?_
  rw [LB_eq V c t i n hn.symm, AB_eq V c t i n hn.symm, hd_st]
  refine congrFun (congrFun (congrArg (augQ _ _) ?_) _) _
  exact funext fun d => funext fun l => funext fun x => b0_3 V c t _ d l x

/-- After the first launch the array of query rows holds every head's and point's. -/
theorem arrQ (c : Dev nD) (hR : ∀ s d n, rowA V c s n d < cS s d) : (dat0 V c).arrAt 7 cfg0.N = GQ V c := by
  refine (dat0 V c).arrAt_eq_of_covers 7 _ (by decide +kernel) fun t _ y => ?_
  blk_simp
  rw [after0_7]
  have e : y = ix3 (y 0) (y 1) (y 2) := by
    blk_ext []
  rw [e]
  obtain ⟨h0, h1, h2⟩ := b0_7 t (y 0) (y 1) (y 2)
  exact blkQ V c hR t _ (y 0) (y 1) _ _ (y 2) h0 h1 h2

/-- A step's block of key rows is the whole array's at the block's points. -/
theorem blkK (c : Dev nD) (hR : ∀ s d n, rowA V c s n d < cS s d) (t : Fin cfg0.N) (h h' : Fin 6) (i : Fin 256) (n : Fin 2048) (x x' : Fin 430)
    (hh : h.val = h'.val) (hn : n.val = (grid0.coords t 0).val * 256 + i.val) (hx : x.val = x'.val) :
    out0_8 (iblk0 V c 0 t) (iblk0 V c 1 t) (iblk0 V c 2 t) (iblk0 V c 3 t) (iblk0 V c 4 t) (iblk0 V c 5 t) (iblk0 V c 6 t) (ix3 h' i x')
      = augK (st h) (kh (rowL V c n) h) (fun d l e => (V c main_v6 : Vec Ideal S2x3x79x64 .f32) (ix4 (hp h) d l e)) (rowA V c (st h) n) x.val := by
  obtain rfl : h = h' := Fin.ext hh
  obtain rfl : x = x' := Fin.ext hx
  refine (congrArg (fun a : Fin 6 => out0_8 (iblk0 V c 0 t) (iblk0 V c 1 t) (iblk0 V c 2 t) (iblk0 V c 3 t) (iblk0 V c 4 t) (iblk0 V c 5 t) (iblk0 V c 6 t) (ix3 a i x)) (hd_st h).symm).trans ?_
  refine (outK _ _ _ _ _ _ _ (AB_lt V c hR t) (st h) (hp h) i x).trans ?_
  rw [LB_eq V c t i n hn.symm, AB_eq V c t i n hn.symm, hd_st]
  refine congrFun (congrFun (congrArg (augK _ _) ?_) _) _
  exact funext fun d => funext fun l => funext fun x => b0_4 V c t _ d l x

/-- After the first launch the array of key rows holds every head's and point's. -/
theorem arrK (c : Dev nD) (hR : ∀ s d n, rowA V c s n d < cS s d) : (dat0 V c).arrAt 8 cfg0.N = GK V c := by
  refine (dat0 V c).arrAt_eq_of_covers 8 _ (by decide +kernel) fun t _ y => ?_
  blk_simp
  rw [after0_8]
  have e : y = ix3 (y 0) (y 1) (y 2) := by
    blk_ext []
  rw [e]
  obtain ⟨h0, h1, h2⟩ := b0_8 t (y 0) (y 1) (y 2)
  exact blkK V c hR t _ (y 0) (y 1) _ _ (y 2) h0 h1 h2

/-- A step's block of value rows is the whole array's at the block's points. -/
theorem blkV (c : Dev nD) (t : Fin cfg0.N) (h h' : Fin 6) (i : Fin 256) (n : Fin 2048) (x x' : Fin 247)
    (hh : h.val = h'.val) (hn : n.val = (grid0.coords t 0).val * 256 + i.val) (hx : x.val = x'.val) :
    out0_9 (iblk0 V c 0 t) (iblk0 V c 1 t) (iblk0 V c 2 t) (iblk0 V c 3 t) (iblk0 V c 4 t) (iblk0 V c 5 t) (iblk0 V c 6 t) (ix3 h' i x')
      = augV (st h) (vh (rowL V c n) h) (rowA V c (st h) n) x.val := by
  obtain rfl : h = h' := Fin.ext hh
  obtain rfl : x = x' := Fin.ext hx
  refine (congrArg (fun a : Fin 6 => out0_9 (iblk0 V c 0 t) (iblk0 V c 1 t) (iblk0 V c 2 t) (iblk0 V c 3 t) (iblk0 V c 4 t) (iblk0 V c 5 t) (iblk0 V c 6 t) (ix3 a i x)) (hd_st h).symm).trans ?_
  refine (outV _ _ _ _ _ _ _ (st h) (hp h) i x).trans ?_
  rw [LB_eq V c t i n hn.symm, AB_eq V c t i n hn.symm, hd_st]

/-- After the first launch the array of value rows holds every head's and point's. -/
theorem arrV (c : Dev nD) : (dat0 V c).arrAt 9 cfg0.N = GV V c := by
  refine (dat0 V c).arrAt_eq_of_covers 9 _ (by decide +kernel) fun t _ y => ?_
  blk_simp
  rw [after0_9]
  have e : y = ix3 (y 0) (y 1) (y 2) := by
    blk_ext []
  rw [e]
  obtain ⟨h0, h1, h2⟩ := b0_9 t (y 0) (y 1) (y 2)
  exact blkV V c t _ (y 0) (y 1) _ _ (y 2) h0 h1 h2

/-- After the first launch the array of window numbers holds every strip's and point's. -/
theorem arrW (c : Dev nD) : (dat0 V c).arrAt 10 cfg0.N = GW V c := by
  refine (dat0 V c).arrAt_eq_of_covers 10 _ (by decide +kernel) fun t _ y => ?_
  blk_simp
  rw [after0_10]
  have e : y = ix3 (y 0) (y 1) 0 := by
    blk_ext []
  rw [e]
  obtain ⟨h0, h1⟩ := b0_10 t (y 0) (y 1)
  unfold GW
  refine (outW _ _ _ _ _ _ _ (y 0) (y 1)).trans ?_
  refine congr (congrArg₂ WID (b0_6 V c t (y 1) _ h1.symm) (funext fun d => b0_5 V c t (y 1) d _ h1.symm)) (Fin.ext h0.symm)

end Cert.KernelIdeal.Roll
end
-- ==== Proof.Host.lean ====
module

public import proofs.«01_k».proof.Proof.Reg0
public import Idealize.ShloMosaic.Lib.Claim

@[expose] public section

set_option maxRecDepth 16384

noncomputable section

namespace Cert.KernelIdeal.Roll

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg)

/-- The coordinates relative to their least values. -/
def rel3 (x : FVec Ideal S2048x3 .f32) : FVec Ideal S2048x3 .f32 :=
  subf x (broadcastInDim S2048x3 ![0, 1] bcast_S1x3_S2048x3_0_1 (broadcastInDim S1x3 ![1] bcast_S3_S1x3_1
    (Host.reduce FloatOps.minimumf x (constant S_ .f32 0x7F800000#32 : FVec Ideal S_ .f32) reducesTo_S2048x3_S3_d0 h_S_)))

/-- The coordinates that the first launch reads are those relative to their least values. -/
theorem h0_v3 (c : Dev nD) : (V1 m ρ c main_v3 : Vec Ideal S2048x3 .f32) = rel3 (W0 m ρ c main_arg1) := by
  show StableHlo.after hostOps0 (W0 m ρ c) (main_v3) = _
  entry_read
  rfl

/-- The column of batches that the first launch reads. -/
theorem h0_v4 (c : Dev nD) (i : Fin 2048) : (V1 m ρ c main_v4 : Vec Ideal S2048x1 .i32) (ix2 i 0) = (W0 m ρ c main_arg2 : Vec Ideal S2048 .i32) (ix1 i) := by
  show StableHlo.after hostOps0 (W0 m ρ c) (main_v4) _ = _
  entry_read
  pointwise []

/-- The query table that the first launch reads, its axes exchanged. -/
theorem h0_v5 (c : Dev nD) (p : Fin 2) (d : Fin 3) (r : Fin 79) (e : Fin 64) :
    (V1 m ρ c main_v5 : Vec Ideal S2x3x79x64 .f32) (ix4 p d r e) = (W0 m ρ c main_arg7 : Vec Ideal S79x3x2x64 .f32) (ix4 r d p e) := by
  show StableHlo.after hostOps0 (W0 m ρ c) (main_v5) _ = _
  entry_read
  pointwise []

/-- The key table that the first launch reads, its axes exchanged. -/
theorem h0_v6 (c : Dev nD) (p : Fin 2) (d : Fin 3) (r : Fin 79) (e : Fin 64) :
    (V1 m ρ c main_v6 : Vec Ideal S2x3x79x64 .f32) (ix4 p d r e) = (W0 m ρ c main_arg8 : Vec Ideal S79x3x2x64 .f32) (ix4 r d p e) := by
  show StableHlo.after hostOps0 (W0 m ρ c) (main_v6) _ = _
  entry_read
  pointwise []

/-- The row of the first linear map's constants. -/
theorem h0_v7 (c : Dev nD) (j : Fin 1152) :
    (V1 m ρ c main_v7 : Vec Ideal S1x1152 .f32) (ix2 0 j) = (W0 m ρ c main_arg4 : Vec Ideal S1152 .f32) (ix1 j) := by
  show StableHlo.after hostOps0 (W0 m ρ c) (main_v7) _ = _
  entry_read
  pointwise []

/-- The windows' numbers along a row, from the windows, the batches and the coordinates. -/
def widrow (w : FVec Ideal S3 .f32) (b : IVec S2048 32) (r : FVec Ideal S2048x3 .f32) : IVec S1x1x2048 32 :=
  let q : IVec S2048x3 32 := fptosi 32 (Host.floor (Host.divf r (broadcastInDim S2048x3 ![0, 1] bcast_S1x3_S2048x3_0_1 (broadcastInDim S1x3 ![1] bcast_S3_S1x3_1 w))))
  let k : IVec S2048 32 := broadcastInDim S2048 ![] bcast_S_S2048 (constantI S_ 32 1024#32)
  let q0 : IVec S2048 32 := shapeCast S2048 (extractStridedSlice S2048x1 ![0, 0] q slices_S2048x3_S2048x1_0_0) shapeCasts_S2048x1_S2048
  let q1 : IVec S2048 32 := shapeCast S2048 (extractStridedSlice S2048x1 ![0, 1] q slices_S2048x3_S2048x1_0_1) shapeCasts_S2048x1_S2048
  let q2 : IVec S2048 32 := shapeCast S2048 (extractStridedSlice S2048x1 ![0, 2] q slices_S2048x3_S2048x1_0_2) shapeCasts_S2048x1_S2048
  broadcastInDim S1x1x2048 ![1, 2] bcast_S1x2048_S1x1x2048_1_2 (shapeCast S1x2048 (addi (muli (addi (muli (addi (muli b k) q0) k) q1) k) q2) shapeCasts_S2048_S1x2048)

/-- The row's entries: the batch and the three indices. -/
theorem widrow_apply (s : Fin 3) (w : FVec Ideal S3 .f32) (hw : ∀ d : Fin 3, w (ix1 d) = wS s d) (b : IVec S2048 32) (r : FVec Ideal S2048x3 .f32) (n : Fin 2048) :
    widrow w b r (ix3 0 0 n) = WID (b (ix1 n)) (fun d => r (ix2 n d)) s := by
  unfold WID WI
  rw [← hw 0, ← hw 1, ← hw 2]
  pointwise [widrow]

set_option maxHeartbeats 8000000 in
/-- The three strips' rows. -/
theorem h1_v75 (c : Dev nD) :
    (V3 m ρ c main_v75 : Vec Ideal S3x1x2048 .i32)
      = concatenate S3x1x2048 0 [⟨S1x1x2048, (widrow (W2 m ρ c main_cst) (W2 m ρ c main_arg2) (W2 m ρ c main_v3) : IVec S1x1x2048 32)⟩,
          ⟨S1x1x2048, (widrow (W2 m ρ c main_cst_0) (W2 m ρ c main_arg2) (W2 m ρ c main_v3) : IVec S1x1x2048 32)⟩,
          ⟨S1x1x2048, (widrow (W2 m ρ c main_cst_1) (W2 m ρ c main_arg2) (W2 m ρ c main_v3) : IVec S1x1x2048 32)⟩] concatenates_S1x1x2048_S1x1x2048_S1x1x2048_S3x1x2048_d0 := by
  show StableHlo.after hostOps1 (W2 m ρ c) (main_v75) = _
  simp only [StableHlo.after_cons, StableHlo.after_nil]
  after_results_simp
  dsimp only [Matrix.cons_val]
  rfl

/-- Three rows one under another. -/
theorem cat3 (A B C : IVec S1x1x2048 32) (s : Fin 3) (n : Fin 2048) :
    (concatenate S3x1x2048 0 [⟨S1x1x2048, A⟩, ⟨S1x1x2048, B⟩, ⟨S1x1x2048, C⟩] concatenates_S1x1x2048_S1x1x2048_S1x1x2048_S3x1x2048_d0 : IVec S3x1x2048 32) (ix3 s 0 n)
      = if s.val = 0 then A (ix3 0 0 n) else if s.val = 1 then B (ix3 0 0 n) else C (ix3 0 0 n) := by
  fin_cases s <;> pointwise []

/-- One head's value rows. -/
def vrow (o : Nat) (hs : S237x2x64.Slices ![0, o, 0] S237x1x64) (x : FVec Ideal S237x2x64 .f32) : FVec Ideal S1x237x64 .f32 :=
  broadcastInDim S1x237x64 ![1, 2] bcast_S237x64_S1x237x64_1_2 (shapeCast S237x64 (extractStridedSlice S237x1x64 ![0, o, 0] x hs) shapeCasts_S237x1x64_S237x64)

/-- The value table's rows in reverse, an axis after another. -/
def vcat (x : FVec Ideal S79x3x2x64 .f32) : FVec Ideal S237x2x64 .f32 :=
  shapeCast S237x2x64 (transpose S3x79x2x64 [1, 0, 2, 3] (Host.reverse [0] x) transposes_S79x3x2x64_S3x79x2x64_1_0_2_3) shapeCasts_S3x79x2x64_S237x2x64

/-- The reversed value table, entry by entry. -/
theorem vcat_apply (x : FVec Ideal S79x3x2x64 .f32) (y : Fin 237) (p : Fin 2) (e : Fin 64) :
    vcat x (ix3 y p e) = x (ix4 ⟨78 - y.val % 79, by omega⟩ ⟨y.val / 79, by omega⟩ p e) := by
  pointwise [vcat]
  have e : (Fin.rev (⟨y.val % 79, by omega⟩ : Fin 79)) = ⟨78 - y.val % 79, by omega⟩ := Fin.ext (by simp only [Fin.rev]; omega)
  simp [e]

/-- The value rows of the strip's first head, entry by entry. -/
theorem vrow_0 (x : FVec Ideal S237x2x64 .f32) (y : Fin 237) (e : Fin 64) :
    vrow 0 slices_S237x2x64_S237x1x64_0_0_0 x (ix3 0 y e) = x (ix3 y 0 e) := by
  pointwise [vrow]

/-- The value rows of the strip's second head, entry by entry. -/
theorem vrow_1 (x : FVec Ideal S237x2x64 .f32) (y : Fin 237) (e : Fin 64) :
    vrow 1 slices_S237x2x64_S237x1x64_0_1_0 x (ix3 0 y e) = x (ix3 y 1 e) := by
  pointwise [vrow]

set_option maxHeartbeats 8000000 in
/-- The six heads' value rows. -/
theorem h2_v98 (c : Dev nD) :
    (V5 m ρ c main_v98 : Vec Ideal S6x237x64 .f32)
      = concatenate S6x237x64 0 [⟨S1x237x64, vrow 0 slices_S237x2x64_S237x1x64_0_0_0 (vcat (W4 m ρ c main_arg9))⟩, ⟨S1x237x64, vrow 1 slices_S237x2x64_S237x1x64_0_1_0 (vcat (W4 m ρ c main_arg9))⟩,
          ⟨S1x237x64, vrow 0 slices_S237x2x64_S237x1x64_0_0_0 (vcat (W4 m ρ c main_arg9))⟩, ⟨S1x237x64, vrow 1 slices_S237x2x64_S237x1x64_0_1_0 (vcat (W4 m ρ c main_arg9))⟩,
          ⟨S1x237x64, vrow 0 slices_S237x2x64_S237x1x64_0_0_0 (vcat (W4 m ρ c main_arg9))⟩, ⟨S1x237x64, vrow 1 slices_S237x2x64_S237x1x64_0_1_0 (vcat (W4 m ρ c main_arg9))⟩]
          concatenates_S1x237x64_S1x237x64_S1x237x64_S1x237x64_S1x237x64_S1x237x64_S6x237x64_d0 := by
  show StableHlo.after hostOps2 (W4 m ρ c) (main_v98) = _
  simp only [StableHlo.after_cons, StableHlo.after_nil]
  after_results_simp
  dsimp only [Matrix.cons_val]
  rfl

/-- Six heads' rows one under another, taken in turn. -/
theorem cat6 (A B : FVec Ideal S1x237x64 .f32) (h : Fin 6) (y : Fin 237) (e : Fin 64) :
    (concatenate S6x237x64 0 [⟨S1x237x64, A⟩, ⟨S1x237x64, B⟩, ⟨S1x237x64, A⟩, ⟨S1x237x64, B⟩, ⟨S1x237x64, A⟩, ⟨S1x237x64, B⟩]
      concatenates_S1x237x64_S1x237x64_S1x237x64_S1x237x64_S1x237x64_S1x237x64_S6x237x64_d0 : FVec Ideal S6x237x64 .f32) (ix3 h y e)
      = if h.val % 2 = 0 then A (ix3 0 y e) else B (ix3 0 y e) := by
  fin_cases h <;> pointwise []

/-- The windows of strip 0. -/
theorem h0_cst (c : Dev nD) (d : Fin 3) : (V1 m ρ c main_cst : FVec Ideal S3 .f32) (ix1 d) = wS 0 d := by
  show StableHlo.after hostOps0 (W0 m ρ c) (main_cst) _ = _
  entry_read
  fin_cases d
  · exact (rfl : Ideal.ofBits .f32 1053609165#32 = _).trans (by simp [wS])
  · exact (rfl : Ideal.ofBits .f32 1053609165#32 = _).trans (by simp [wS])
  · exact Idealize.ShloMosaic.Ideal.ofBits_one_f32.trans (by simp [wS])

/-- The windows of strip 1. -/
theorem h0_cst_0 (c : Dev nD) (d : Fin 3) : (V1 m ρ c main_cst_0 : FVec Ideal S3 .f32) (ix1 d) = wS 1 d := by
  show StableHlo.after hostOps0 (W0 m ρ c) (main_cst_0) _ = _
  entry_read
  fin_cases d
  · exact (rfl : Ideal.ofBits .f32 1053609165#32 = _).trans (by simp [wS])
  · exact Idealize.ShloMosaic.Ideal.ofBits_one_f32.trans (by simp [wS])
  · exact (rfl : Ideal.ofBits .f32 1053609165#32 = _).trans (by simp [wS])

/-- The windows of strip 2. -/
theorem h0_cst_1 (c : Dev nD) (d : Fin 3) : (V1 m ρ c main_cst_1 : FVec Ideal S3 .f32) (ix1 d) = wS 2 d := by
  show StableHlo.after hostOps0 (W0 m ρ c) (main_cst_1) _ = _
  entry_read
  fin_cases d
  · exact Idealize.ShloMosaic.Ideal.ofBits_one_f32.trans (by simp [wS])
  · exact (rfl : Ideal.ofBits .f32 1053609165#32 = _).trans (by simp [wS])
  · exact (rfl : Ideal.ofBits .f32 1053609165#32 = _).trans (by simp [wS])

/-- The row of the last linear map's constants. -/
theorem h2_v99 (c : Dev nD) (j : Fin 384) :
    (V5 m ρ c main_v99 : Vec Ideal S1x384 .f32) (ix2 0 j) = (W4 m ρ c main_arg6 : Vec Ideal S384 .f32) (ix1 j) := by
  show StableHlo.after hostOps2 (W4 m ρ c) (main_v99) _ = _
  entry_read
  pointwise []

end Cert.KernelIdeal.Roll
end
-- ==== Proof.Attn.lean ====
module

public import proofs.«01_k».proof.Proof.Gen.KernelIdeal.Frame
public import proofs.«01_k».proof.Proof.SpecB
public import Idealize.ShloMosaic.Lib.Pipeline.ValueKit

@[expose] public section

set_option maxRecDepth 16384

noncomputable section

namespace Cert.KernelIdeal.Roll

open Idealize.ShloMosaic Idealize.ShloMosaic.TcCoe Idealize.SL.Sem
open Idealize.ShloMosaic.Pipeline (Dat)
open Cert.KernelIdeal Cert.KernelIdeal.Gen Cert.Spec

/-- A block of the attention at a row and a column. -/
theorem attn_pay (v0 : Vec Ideal S1x256x430 .f32) (v2 : Vec Ideal S1x2048x430 .f32) (v5 : Vec Ideal S1x256x1 .i32)
    (v7 : Vec Ideal S1x1x2048 .i32) (v23 : Vec Ideal S1x2048x247 .f32) (i : Fin 256) (e : Fin 247) :
    k1_pay1 v0 v2 v5 v7 v23 (ix3 0 i e)
      = ∑ m, smx (fun m => msk (v5 (ix3 0 i 0)) (v7 (ix3 0 0 m)) (∑ x, v0 (ix3 0 i x) * v2 (ix3 0 m x))) m * v23 (ix3 0 m e) := by
  unfold smx mx msk
  pointwise [k1_pay1]

variable (V : (c : Dev nD) → (b : Ref sig .tc) → Buf (Elt Ideal) ((c : Thread nD τ).loc b))

/-- Where each window of the attention's launch lies at a grid step: the strip or the head, and the block of query points. -/
theorem idx1 : ∀ t : Fin cfg1.N, win1_0.index t = ![(grid1.coords t 0).val / 2, (grid1.coords t 1).val, 0]
    ∧ win1_1.index t = ![(grid1.coords t 0).val / 2, 0, 0] ∧ win1_2.index t = ![(grid1.coords t 0).val, (grid1.coords t 1).val, 0]
    ∧ win1_3.index t = ![(grid1.coords t 0).val, 0, 0] ∧ win1_4.index t = ![(grid1.coords t 0).val, 0, 0]
    ∧ win1_5.index t = ![(grid1.coords t 0).val, (grid1.coords t 1).val, 0] := (by decide +kernel : ∀ t : Fin grid1.N, _)

/-- The attention's result array. -/
def G1 (c : Dev nD) : Vec Ideal S6x2048x247 .f32 := fun y =>
  att (fun s n => (V c main_v8_3 : Vec Ideal S3x2048x1 .i32) (ix3 s n 0)) (fun s n => (V c main_v75 : Vec Ideal S3x1x2048 .i32) (ix3 s 0 n))
    (fun h n x => (V c main_v8_0 : Vec Ideal S6x2048x430 .f32) (ix3 h n x)) (fun h n x => (V c main_v8_1 : Vec Ideal S6x2048x430 .f32) (ix3 h n x))
    (fun h n x => (V c main_v8_2 : Vec Ideal S6x2048x247 .f32) (ix3 h n x)) (y 0) (y 1) (y 2)

/-- A step's block of the query points' window numbers, entry by entry. -/
theorem b1_0 (c : Dev nD) (t : Fin cfg1.N) (i : Fin 256) (h : Fin 6) (n : Fin 2048) (hh : (grid1.coords t 0).val = h.val)
    (hn : (grid1.coords t 1).val * 256 + i.val = n.val) :
    (iblk1 V c 0 t : Vec Ideal S1x256x1 .i32) (ix3 0 i 0) = (V c main_v8_3 : Vec Ideal S3x2048x1 .i32) (ix3 (st h) n 0) := by
  have e := (idx1 t).1
  blk_ext [iblk1, e, hh, hn]
  all_goals first | exact hn | simp [st, hh]

/-- A step's block of the key points' window numbers, entry by entry. -/
theorem b1_1 (c : Dev nD) (t : Fin cfg1.N) (n : Fin 2048) (h : Fin 6) (hh : (grid1.coords t 0).val = h.val) :
    (iblk1 V c 1 t : Vec Ideal S1x1x2048 .i32) (ix3 0 0 n) = (V c main_v75 : Vec Ideal S3x1x2048 .i32) (ix3 (st h) 0 n) := by
  have e := (idx1 t).2.1
  blk_ext [iblk1, e]
  all_goals simp [st, hh]

/-- A step's block of the augmented query rows, entry by entry. -/
theorem b1_2 (c : Dev nD) (t : Fin cfg1.N) (i : Fin 256) (x : Fin 430) (h : Fin 6) (n : Fin 2048) (hh : (grid1.coords t 0).val = h.val)
    (hn : (grid1.coords t 1).val * 256 + i.val = n.val) :
    (iblk1 V c 2 t : Vec Ideal S1x256x430 .f32) (ix3 0 i x) = (V c main_v8_0 : Vec Ideal S6x2048x430 .f32) (ix3 h n x) := by
  have e := (idx1 t).2.2.1
  blk_ext [iblk1, e]
  all_goals first | exact hn | exact hh

/-- A step's block of the augmented key rows, entry by entry. -/
theorem b1_3 (c : Dev nD) (t : Fin cfg1.N) (n : Fin 2048) (x : Fin 430) (h : Fin 6) (hh : (grid1.coords t 0).val = h.val) :
    (iblk1 V c 3 t : Vec Ideal S1x2048x430 .f32) (ix3 0 n x) = (V c main_v8_1 : Vec Ideal S6x2048x430 .f32) (ix3 h n x) := by
  have e := (idx1 t).2.2.2.1
  blk_ext [iblk1, e]
  all_goals exact hh

/-- A step's block of the augmented value rows, entry by entry. -/
theorem b1_4 (c : Dev nD) (t : Fin cfg1.N) (n : Fin 2048) (x : Fin 247) (h : Fin 6) (hh : (grid1.coords t 0).val = h.val) :
    (iblk1 V c 4 t : Vec Ideal S1x2048x247 .f32) (ix3 0 n x) = (V c main_v8_2 : Vec Ideal S6x2048x247 .f32) (ix3 h n x) := by
  have e := (idx1 t).2.2.2.2.1
  blk_ext [iblk1, e]
  all_goals exact hh

/-- Where an entry of a step's result block lies in the attention's array. -/
theorem b1_5 (t : Fin cfg1.N) (i : Fin 256) (x : Fin 247) :
    ((((cfg1.win 5).blk t).view.emb (ix3 0 i x) 0).val = (grid1.coords t 0).val)
    ∧ ((((cfg1.win 5).blk t).view.emb (ix3 0 i x) 1).val = (grid1.coords t 1).val * 256 + i.val)
    ∧ ((((cfg1.win 5).blk t).view.emb (ix3 0 i x) 2).val = x.val) := by
  have e := (idx1 t).2.2.2.2.2
  blk_simp [e]
  simp

/-- After the attention's launch its result array holds the attention of every head and point. -/
theorem arr1 (c : Dev nD) : (dat1 V c).arrAt 5 cfg1.N = G1 V c := by
  refine (dat1 V c).arrAt_eq_of_covers 5 _ (by decide +kernel) fun t _ y => ?_
  blk_simp
  rw [after1_5]
  frame_out
  have e : y = ix3 0 (y 1) (y 2) := by
    blk_ext []
  rw [e]
  refine (attn_pay _ _ _ _ _ (y 1) (y 2)).trans ?_
  obtain ⟨h0, h1, h2⟩ := b1_5 t (y 1) (y 2)
  have h2' : (y 2 : Fin 247) = (((cfg1.win 5).blk t).view.emb (ix3 0 (y 1) (y 2)) 2 : Fin 247) := Fin.ext h2.symm
  unfold G1 att
  refine Finset.sum_congr rfl fun m _ => congrArg₂ (· * ·) (congrFun (congrArg smx (funext fun m => ?_)) m) ?_
  · exact congr (congrArg₂ msk (b1_0 V c t (y 1) _ _ h0.symm h1.symm) (b1_1 V c t m _ h0.symm))
      (Finset.sum_congr rfl fun x _ => congrArg₂ (· * ·) (b1_2 V c t (y 1) x _ _ h0.symm h1.symm) (b1_3 V c t m x _ h0.symm))
  · refine (b1_4 V c t m (y 2) _ h0.symm).trans ?_
    exact congrArg (fun e => (V c main_v8_2 : Vec Ideal S6x2048x247 .f32) (ix3 _ m e)) h2'

end Cert.KernelIdeal.Roll
end
-- ==== Proof.Comb.lean ====
module

public import proofs.«01_k».proof.Proof.Gen.KernelIdeal.Frame
public import proofs.«01_k».proof.Proof.Fold
public import proofs.«01_k».proof.Proof.Aug
public import Idealize.ShloMosaic.Lib.Pipeline.ValueKit

@[expose] public section

set_option maxRecDepth 16384

noncomputable section

namespace Cert.KernelIdeal.Roll

open Idealize.ShloMosaic Cert.KernelIdeal Cert.KernelIdeal.Gen Cert.Spec

/-- Three axes' rows of 79 side by side. -/
def wc (A B C : FVec Ideal S2x256x79 .f32) : FVec Ideal S2x256x237 .f32 :=
  concatenate S2x256x237 2 [⟨S2x256x79, A⟩, ⟨S2x256x79, B⟩, ⟨S2x256x79, C⟩] concatenates_S2x256x79_S2x256x79_S2x256x79_S2x256x237_d2

/-- The three axes' rows side by side, entry by entry, are the weights per table row laid end to end. -/
theorem wc_apply (A B C : FVec Ideal S2x256x79 .f32) (s : Fin 3) (a : Fin 3 → Nat) (O : Fin 3 → Nat → EReal) (h : Fin 2) (i : Fin 256)
    (hA : ∀ l : Fin 79, A (ix3 h i l) = wrev (cS s 0) (a 0) (O 0) l.val) (hB : ∀ l : Fin 79, B (ix3 h i l) = wrev (cS s 1) (a 1) (O 1) l.val)
    (hC : ∀ l : Fin 79, C (ix3 h i l) = wrev (cS s 2) (a 2) (O 2) l.val) (x : Fin 237) : wc A B C (ix3 h i x) = wcat s a O x.val := by
  pointwise [wc]
  unfold wcat
  have hx := x.isLt
  by_cases h1 : x.val < 79
  · exact (dif_pos h1).trans ((hA ⟨x.val, h1⟩).trans (if_pos h1).symm)
  · refine (dif_neg h1).trans (Eq.trans ?_ (if_neg h1).symm)
    by_cases h2 : x.val - 79 < 79
    · exact (dif_pos h2).trans ((hB ⟨x.val - 79, h2⟩).trans (if_pos h2).symm)
    · exact (dif_neg h2).trans ((hC ⟨x.val - 79 - 79, by omega⟩).trans (if_neg h2).symm)

/-- A head's result: its own 64 columns plus the weights' product with the head's table. -/
def yo (o : Nat) (hs : S2x256x237.Slices ![o, 0, 0] S1x256x237) (W : FVec Ideal S2x256x237 .f32) (T : FVec Ideal S1x237x64 .f32) (O : FVec Ideal S1x256x64 .f32) : FVec Ideal S256x64 .f32 :=
  addf (shapeCast S256x64 O shapeCasts_S1x256x64_S256x64)
    (matmul dot_S256x237_S237x64_S256x64_1_0_0_1_n_n none
      (shapeCast S256x237 (extractStridedSlice S1x256x237 ![o, 0, 0] W hs) shapeCasts_S1x256x237_S256x237)
      (shapeCast S237x64 T shapeCasts_S1x237x64_S237x64) (constant S256x64 .f32 0x00000000#32))

/-- A head's result, entry by entry: its own column plus the sum over the table's rows. -/
theorem yo_apply (o : Fin 2) (hs : S2x256x237.Slices ![o.val, 0, 0] S1x256x237) (W : FVec Ideal S2x256x237 .f32) (T : FVec Ideal S1x237x64 .f32) (O : FVec Ideal S1x256x64 .f32)
    (i : Fin 256) (c : Fin 64) : yo o.val hs W T O (ix2 i c) = O (ix3 0 i c) + ∑ x, W (ix3 o i x) * T (ix3 0 x c) := by
  pointwise [yo]

variable (x0 : Vec Ideal S6x256x247 .f32) (x1 : Vec Ideal S256x3 .f32) (x2 : Vec Ideal S256x1 .i32) (x3 : Vec Ideal S6x237x64 .f32)
  (x4 : Vec Ideal S384x384 .f32) (x5 : Vec Ideal S1x384 .f32)

/-- A head's weights of axis `d`'s positions. -/
def OA (h : Fin 6) (i : Fin 256) (s d : Fin 3) (c : Nat) : EReal :=
  if hc : off (cS s) d + c < 247 then x0 (ix3 h i ⟨off (cS s) d + c, hc⟩) else 0

/-- A head's result at a row and a column. -/
def YB (s : Fin 3) (h : Fin 6) (i : Fin 256) (c : Fin 64) : EReal :=
  x0 (ix3 h i ⟨c.val, by omega⟩) + ∑ x : Fin 237, wcat s (AB x1 s i) (OA x0 h i s) x.val * x3 (ix3 h x c)

/-- The last stage's positions in strip 0 along axis 0 are the coordinates' quantised positions. -/
theorem qe00 (i : Fin 256) : k2_pay84 x0 x1 x2 x3 x4 x5 (ix2 i 0) = QD (x1 (ix2 i 0)) (wS 0 0) := by
  pointwise [k2_pay84, k2_pay3, k2_pay2]
  rfl

/-- The columns of the attention's result that hold strip 0's weights per position along axis 0. -/
theorem oa00 (hh : Fin 2) (i : Fin 256) (c : Fin 41) : (View.ld x0 r2_1 : FVec Ideal S2x256x41 .f32) (ix3 hh i c) = OA x0 (hd 0 hh) i 0 0 c.val := by
  have hc := c.isLt
  have ho : off (cS 0) 0 = 64 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 0) 0 + c.val; rw [ho]))

/-- The last stage's positions in strip 0 along axis 1 are the coordinates' quantised positions. -/
theorem qe01 (i : Fin 256) : k2_pay85 x0 x1 x2 x3 x4 x5 (ix2 i 0) = QD (x1 (ix2 i 1)) (wS 0 1) := by
  pointwise [k2_pay85, k2_pay4, k2_pay2]
  rfl

/-- The columns of the attention's result that hold strip 0's weights per position along axis 1. -/
theorem oa01 (hh : Fin 2) (i : Fin 256) (c : Fin 41) : (View.ld x0 r2_2 : FVec Ideal S2x256x41 .f32) (ix3 hh i c) = OA x0 (hd 0 hh) i 0 1 c.val := by
  have hc := c.isLt
  have ho : off (cS 0) 1 = 105 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 0) 1 + c.val; rw [ho]))

/-- The last stage's positions in strip 0 along axis 2 are the coordinates' quantised positions. -/
theorem qe02 (i : Fin 256) : k2_pay86 x0 x1 x2 x3 x4 x5 (ix2 i 0) = QD (x1 (ix2 i 2)) (wS 0 2) := by
  pointwise [k2_pay86, k2_pay7, k2_pay5, k2_pay6, k2_pay2]
  rfl

/-- The columns of the attention's result that hold strip 0's weights per position along axis 2. -/
theorem oa02 (hh : Fin 2) (i : Fin 256) (c : Fin 101) : (View.ld x0 r2_3 : FVec Ideal S2x256x101 .f32) (ix3 hh i c) = OA x0 (hd 0 hh) i 0 2 c.val := by
  have hc := c.isLt
  have ho : off (cS 0) 2 = 146 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 0) 2 + c.val; rw [ho]))

/-- Strip 0's weights per table row, as the kernel forms them, are the three axes' rows side by side. -/
theorem wg0 : k2_pay25 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3)
    = wc (wr41 (k2_pay84 x0 x1 x2 x3 x4 x5) (View.ld x0 r2_1) (extractStridedSlice S2x256x79 ![0, 0, 0] (cmb4 (k2_pay84 x0 x1 x2 x3 x4 x5) (k2_pay85 x0 x1 x2 x3 x4 x5) (View.ld x0 r2_1) (View.ld x0 r2_2)) slices_S4x256x128_o0_0_0_S2x256x79))
      (wr41 (k2_pay85 x0 x1 x2 x3 x4 x5) (View.ld x0 r2_2) (extractStridedSlice S2x256x79 ![2, 0, 0] (cmb4 (k2_pay84 x0 x1 x2 x3 x4 x5) (k2_pay85 x0 x1 x2 x3 x4 x5) (View.ld x0 r2_1) (View.ld x0 r2_2)) slices_S4x256x128_o2_0_0_S2x256x79))
      (wr101 (k2_pay86 x0 x1 x2 x3 x4 x5) (View.ld x0 r2_3) (extractStridedSlice S2x256x79 ![0, 0, 0] (cmb2 (k2_pay86 x0 x1 x2 x3 x4 x5) (View.ld x0 r2_3)) slices_S2x256x256_o0_0_0_S2x256x79)) := rfl

/-- Strip 0's weights per table row, entry by entry. -/
theorem wv0 (hR : ∀ s d i, AB x1 s i d < cS s d) (hh : Fin 2) (i : Fin 256) (x : Fin 237) :
    k2_pay25 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3) (ix3 hh i x) = wcat 0 (AB x1 0 i) (OA x0 (hd 0 hh) i 0) x.val := by
  rw [wg0 x0 x1 x2 x3 x4 x5]
  have q0 : (k2_pay84 x0 x1 x2 x3 x4 x5 (ix2 i 0)).toNat = AB x1 0 i 0 := congrArg BitVec.toNat (qe00 x0 x1 x2 x3 x4 x5 i)
  have r0 : (k2_pay84 x0 x1 x2 x3 x4 x5 (ix2 i 0)).toNat < 41 := q0 ▸ hR 0 0 i
  have q1 : (k2_pay85 x0 x1 x2 x3 x4 x5 (ix2 i 0)).toNat = AB x1 0 i 1 := congrArg BitVec.toNat (qe01 x0 x1 x2 x3 x4 x5 i)
  have r1 : (k2_pay85 x0 x1 x2 x3 x4 x5 (ix2 i 0)).toNat < 41 := q1 ▸ hR 0 1 i
  have q2 : (k2_pay86 x0 x1 x2 x3 x4 x5 (ix2 i 0)).toNat = AB x1 0 i 2 := congrArg BitVec.toNat (qe02 x0 x1 x2 x3 x4 x5 i)
  have r2 : (k2_pay86 x0 x1 x2 x3 x4 x5 (ix2 i 0)).toNat < 101 := q2 ▸ hR 0 2 i
  refine wc_apply _ _ _ 0 (AB x1 0 i) (OA x0 (hd 0 hh) i 0) hh i (fun l => ?_) (fun l => ?_) (fun l => ?_) x
  · refine (wr41_apply _ _ _ (OA x0 (hd 0 hh) i 0 0) hh i r0 (oa00 x0 hh i) (cmb4_0 _ _ _ _ _ hh i r0 (oa00 x0 hh i)) l).trans ?_
    rw [q0]; rfl
  · refine (wr41_apply _ _ _ (OA x0 (hd 0 hh) i 0 1) hh i r1 (oa01 x0 hh i) (cmb4_1 _ _ _ _ _ hh i r1 (oa01 x0 hh i)) l).trans ?_
    rw [q1]; rfl
  · refine (wr101_apply _ _ _ (OA x0 (hd 0 hh) i 0 2) hh i r2 (oa02 x0 hh i) (cmb2_apply _ _ _ hh i r2 (oa02 x0 hh i)) l).trans ?_
    rw [q2]; rfl

/-- The last stage's result for head 0, before the last linear map. -/
theorem yb0 (hR : ∀ s d i, AB x1 s i d < cS s d) (i : Fin 256) (c : Fin 64) : k2_pay26 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3) (View.ld x3 r2_4) (View.ld x0 r2_5) (ix2 i c) = YB x0 x1 x3 0 0 i c := by
  refine Eq.trans (b := yo 0 slices_S2x256x237_o0_0_0_S1x256x237 (k2_pay25 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3)) (View.ld x3 r2_4) (View.ld x0 r2_5) (ix2 i c)) rfl ?_
  refine (yo_apply 0 _ _ _ _ i c).trans ?_
  unfold YB
  refine congrArg₂ (· + ·) ?_ (Finset.sum_congr rfl fun x _ => congrArg₂ (· * ·) (wv0 x0 x1 x2 x3 x4 x5 hR 0 i x) ?_)
  · pointwise []
  · pointwise []

/-- The last stage's result for head 1, before the last linear map. -/
theorem yb1 (hR : ∀ s d i, AB x1 s i d < cS s d) (i : Fin 256) (c : Fin 64) : k2_pay29 (k2_pay27 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3)) (k2_pay28 (View.ld x3 r2_6)) (constant S256x64 .f32 0x00000000#32) (View.ld x0 r2_7) (ix2 i c) = YB x0 x1 x3 0 1 i c := by
  refine Eq.trans (b := yo 1 slices_S2x256x237_o1_0_0_S1x256x237 (k2_pay25 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3)) (View.ld x3 r2_6) (View.ld x0 r2_7) (ix2 i c)) rfl ?_
  refine (yo_apply 1 _ _ _ _ i c).trans ?_
  unfold YB
  refine congrArg₂ (· + ·) ?_ (Finset.sum_congr rfl fun x _ => congrArg₂ (· * ·) (wv0 x0 x1 x2 x3 x4 x5 hR 1 i x) ?_)
  · pointwise []
  · pointwise []

/-- The last stage's positions in strip 1 along axis 0 are the coordinates' quantised positions. -/
theorem qe10 (i : Fin 256) : k2_pay96 x0 x1 x2 x3 x4 x5 (ix2 i 0) = QD (x1 (ix2 i 0)) (wS 1 0) := by
  pointwise [k2_pay96, k2_pay30, k2_pay83, k2_pay2]
  rfl

/-- The columns of the attention's result that hold strip 1's weights per position along axis 0. -/
theorem oa10 (hh : Fin 2) (i : Fin 256) (c : Fin 41) : (View.ld x0 r2_8 : FVec Ideal S2x256x41 .f32) (ix3 hh i c) = OA x0 (hd 1 hh) i 1 0 c.val := by
  have hc := c.isLt
  have ho : off (cS 1) 0 = 64 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 1) 0 + c.val; rw [ho]))

/-- The last stage's positions in strip 1 along axis 1 are the coordinates' quantised positions. -/
theorem qe11 (i : Fin 256) : k2_pay97 x0 x1 x2 x3 x4 x5 (ix2 i 0) = QD (x1 (ix2 i 1)) (wS 1 1) := by
  pointwise [k2_pay97, k2_pay31, k2_pay83, k2_pay2]
  rfl

/-- The columns of the attention's result that hold strip 1's weights per position along axis 1. -/
theorem oa11 (hh : Fin 2) (i : Fin 256) (c : Fin 101) : (View.ld x0 r2_10 : FVec Ideal S2x256x101 .f32) (ix3 hh i c) = OA x0 (hd 1 hh) i 1 1 c.val := by
  have hc := c.isLt
  have ho : off (cS 1) 1 = 105 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 1) 1 + c.val; rw [ho]))

/-- The last stage's positions in strip 1 along axis 2 are the coordinates' quantised positions. -/
theorem qe12 (i : Fin 256) : k2_pay99 x0 x1 x2 x3 x4 x5 (ix2 i 0) = QD (x1 (ix2 i 2)) (wS 1 2) := by
  pointwise [k2_pay99, k2_pay33, k2_pay98, k2_pay32, k2_pay83, k2_pay2]
  rfl

/-- The columns of the attention's result that hold strip 1's weights per position along axis 2. -/
theorem oa12 (hh : Fin 2) (i : Fin 256) (c : Fin 41) : (View.ld x0 r2_9 : FVec Ideal S2x256x41 .f32) (ix3 hh i c) = OA x0 (hd 1 hh) i 1 2 c.val := by
  have hc := c.isLt
  have ho : off (cS 1) 2 = 206 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 1) 2 + c.val; rw [ho]))

/-- Strip 1's weights per table row, as the kernel forms them, are the three axes' rows side by side. -/
theorem wg1 : k2_pay53 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10)
    = wc (wr41 (k2_pay96 x0 x1 x2 x3 x4 x5) (View.ld x0 r2_8) (extractStridedSlice S2x256x79 ![0, 0, 0] (cmb4 (k2_pay96 x0 x1 x2 x3 x4 x5) (k2_pay99 x0 x1 x2 x3 x4 x5) (View.ld x0 r2_8) (View.ld x0 r2_9)) slices_S4x256x128_o0_0_0_S2x256x79))
      (wr101 (k2_pay97 x0 x1 x2 x3 x4 x5) (View.ld x0 r2_10) (extractStridedSlice S2x256x79 ![0, 0, 0] (cmb2 (k2_pay97 x0 x1 x2 x3 x4 x5) (View.ld x0 r2_10)) slices_S2x256x256_o0_0_0_S2x256x79))
      (wr41 (k2_pay99 x0 x1 x2 x3 x4 x5) (View.ld x0 r2_9) (extractStridedSlice S2x256x79 ![2, 0, 0] (cmb4 (k2_pay96 x0 x1 x2 x3 x4 x5) (k2_pay99 x0 x1 x2 x3 x4 x5) (View.ld x0 r2_8) (View.ld x0 r2_9)) slices_S4x256x128_o2_0_0_S2x256x79)) := rfl

/-- Strip 1's weights per table row, entry by entry. -/
theorem wv1 (hR : ∀ s d i, AB x1 s i d < cS s d) (hh : Fin 2) (i : Fin 256) (x : Fin 237) :
    k2_pay53 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10) (ix3 hh i x) = wcat 1 (AB x1 1 i) (OA x0 (hd 1 hh) i 1) x.val := by
  rw [wg1 x0 x1 x2 x3 x4 x5]
  have q0 : (k2_pay96 x0 x1 x2 x3 x4 x5 (ix2 i 0)).toNat = AB x1 1 i 0 := congrArg BitVec.toNat (qe10 x0 x1 x2 x3 x4 x5 i)
  have r0 : (k2_pay96 x0 x1 x2 x3 x4 x5 (ix2 i 0)).toNat < 41 := q0 ▸ hR 1 0 i
  have q1 : (k2_pay97 x0 x1 x2 x3 x4 x5 (ix2 i 0)).toNat = AB x1 1 i 1 := congrArg BitVec.toNat (qe11 x0 x1 x2 x3 x4 x5 i)
  have r1 : (k2_pay97 x0 x1 x2 x3 x4 x5 (ix2 i 0)).toNat < 101 := q1 ▸ hR 1 1 i
  have q2 : (k2_pay99 x0 x1 x2 x3 x4 x5 (ix2 i 0)).toNat = AB x1 1 i 2 := congrArg BitVec.toNat (qe12 x0 x1 x2 x3 x4 x5 i)
  have r2 : (k2_pay99 x0 x1 x2 x3 x4 x5 (ix2 i 0)).toNat < 41 := q2 ▸ hR 1 2 i
  refine wc_apply _ _ _ 1 (AB x1 1 i) (OA x0 (hd 1 hh) i 1) hh i (fun l => ?_) (fun l => ?_) (fun l => ?_) x
  · refine (wr41_apply _ _ _ (OA x0 (hd 1 hh) i 1 0) hh i r0 (oa10 x0 hh i) (cmb4_0 _ _ _ _ _ hh i r0 (oa10 x0 hh i)) l).trans ?_
    rw [q0]; rfl
  · refine (wr101_apply _ _ _ (OA x0 (hd 1 hh) i 1 1) hh i r1 (oa11 x0 hh i) (cmb2_apply _ _ _ hh i r1 (oa11 x0 hh i)) l).trans ?_
    rw [q1]; rfl
  · refine (wr41_apply _ _ _ (OA x0 (hd 1 hh) i 1 2) hh i r2 (oa12 x0 hh i) (cmb4_1 _ _ _ _ _ hh i r2 (oa12 x0 hh i)) l).trans ?_
    rw [q2]; rfl

/-- The last stage's result for head 2, before the last linear map. -/
theorem yb2 (hR : ∀ s d i, AB x1 s i d < cS s d) (i : Fin 256) (c : Fin 64) : k2_pay54 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10) (View.ld x3 r2_11) (View.ld x0 r2_12) (ix2 i c) = YB x0 x1 x3 1 2 i c := by
  refine Eq.trans (b := yo 0 slices_S2x256x237_o0_0_0_S1x256x237 (k2_pay53 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10)) (View.ld x3 r2_11) (View.ld x0 r2_12) (ix2 i c)) rfl ?_
  refine (yo_apply 0 _ _ _ _ i c).trans ?_
  unfold YB
  refine congrArg₂ (· + ·) ?_ (Finset.sum_congr rfl fun x _ => congrArg₂ (· * ·) (wv1 x0 x1 x2 x3 x4 x5 hR 0 i x) ?_)
  · pointwise []
  · pointwise []

/-- The last stage's result for head 3, before the last linear map. -/
theorem yb3 (hR : ∀ s d i, AB x1 s i d < cS s d) (i : Fin 256) (c : Fin 64) : k2_pay56 (k2_pay55 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10)) (View.ld x3 r2_13) (View.ld x0 r2_14) (ix2 i c) = YB x0 x1 x3 1 3 i c := by
  refine Eq.trans (b := yo 1 slices_S2x256x237_o1_0_0_S1x256x237 (k2_pay53 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10)) (View.ld x3 r2_13) (View.ld x0 r2_14) (ix2 i c)) rfl ?_
  refine (yo_apply 1 _ _ _ _ i c).trans ?_
  unfold YB
  refine congrArg₂ (· + ·) ?_ (Finset.sum_congr rfl fun x _ => congrArg₂ (· * ·) (wv1 x0 x1 x2 x3 x4 x5 hR 1 i x) ?_)
  · pointwise []
  · pointwise []

/-- The last stage's positions in strip 2 along axis 0 are the coordinates' quantised positions. -/
theorem qe20 (i : Fin 256) : k2_pay109 x0 x1 x2 x3 x4 x5 (ix2 i 0) = QD (x1 (ix2 i 0)) (wS 2 0) := by
  pointwise [k2_pay109, k2_pay57, k2_pay83, k2_pay2]
  rfl

/-- The columns of the attention's result that hold strip 2's weights per position along axis 0. -/
theorem oa20 (hh : Fin 2) (i : Fin 256) (c : Fin 101) : (View.ld x0 r2_15 : FVec Ideal S2x256x101 .f32) (ix3 hh i c) = OA x0 (hd 2 hh) i 2 0 c.val := by
  have hc := c.isLt
  have ho : off (cS 2) 0 = 64 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 2) 0 + c.val; rw [ho]))

/-- The last stage's positions in strip 2 along axis 1 are the coordinates' quantised positions. -/
theorem qe21 (i : Fin 256) : k2_pay110 x0 x1 x2 x3 x4 x5 (ix2 i 0) = QD (x1 (ix2 i 1)) (wS 2 1) := by
  pointwise [k2_pay110, k2_pay58, k2_pay83, k2_pay2]
  rfl

/-- The columns of the attention's result that hold strip 2's weights per position along axis 1. -/
theorem oa21 (hh : Fin 2) (i : Fin 256) (c : Fin 41) : (View.ld x0 r2_16 : FVec Ideal S2x256x41 .f32) (ix3 hh i c) = OA x0 (hd 2 hh) i 2 1 c.val := by
  have hc := c.isLt
  have ho : off (cS 2) 1 = 165 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 2) 1 + c.val; rw [ho]))

/-- The last stage's positions in strip 2 along axis 2 are the coordinates' quantised positions. -/
theorem qe22 (i : Fin 256) : k2_pay111 x0 x1 x2 x3 x4 x5 (ix2 i 0) = QD (x1 (ix2 i 2)) (wS 2 2) := by
  pointwise [k2_pay111, k2_pay61, k2_pay59, k2_pay60, k2_pay83, k2_pay2]
  rfl

/-- The columns of the attention's result that hold strip 2's weights per position along axis 2. -/
theorem oa22 (hh : Fin 2) (i : Fin 256) (c : Fin 41) : (View.ld x0 r2_17 : FVec Ideal S2x256x41 .f32) (ix3 hh i c) = OA x0 (hd 2 hh) i 2 2 c.val := by
  have hc := c.isLt
  have ho : off (cS 2) 2 = 206 := rfl
  unfold OA
  refine Eq.trans ?_ (dif_pos (by rw [ho]; omega)).symm
  pointwise []
  exact congrArg₂ (fun (a : Fin 6) (b : Fin 247) => x0 (ix3 a i b)) (Fin.ext (by simp [hd])) (Fin.ext (by show _ = off (cS 2) 2 + c.val; rw [ho]))

/-- Strip 2's weights per table row, as the kernel forms them, are the three axes' rows side by side. -/
theorem wg2 : k2_pay80 (k2_pay111 x0 x1 x2 x3 x4 x5) (k2_pay113 x0 x1 x2 x3 x4 x5) (k2_pay118 x0 x1 x2 x3 x4 x5) (k2_pay119 x0 x1 x2 x3 x4 x5) (k2_pay120 x0 x1 x2 x3 x4 x5) (k2_pay121 x0 x1 x2 x3 x4 x5) (k2_pay122 x0 x1 x2 x3 x4 x5) (View.ld x0 r2_17)
    = wc (wr101 (k2_pay109 x0 x1 x2 x3 x4 x5) (View.ld x0 r2_15) (extractStridedSlice S2x256x79 ![0, 0, 0] (cmb2 (k2_pay109 x0 x1 x2 x3 x4 x5) (View.ld x0 r2_15)) slices_S2x256x256_o0_0_0_S2x256x79))
      (wr41 (k2_pay110 x0 x1 x2 x3 x4 x5) (View.ld x0 r2_16) (extractStridedSlice S2x256x79 ![0, 0, 0] (cmb4 (k2_pay110 x0 x1 x2 x3 x4 x5) (k2_pay111 x0 x1 x2 x3 x4 x5) (View.ld x0 r2_16) (View.ld x0 r2_17)) slices_S4x256x128_o0_0_0_S2x256x79))
      (wr41 (k2_pay111 x0 x1 x2 x3 x4 x5) (View.ld x0 r2_17) (extractStridedSlice S2x256x79 ![2, 0, 0] (cmb4 (k2_pay110 x0 x1 x2 x3 x4 x5) (k2_pay111 x0 x1 x2 x3 x4 x5) (View.ld x0 r2_16) (View.ld x0 r2_17)) slices_S4x256x128_o2_0_0_S2x256x79)) := rfl

/-- Strip 2's weights per table row, entry by entry. -/
theorem wv2 (hR : ∀ s d i, AB x1 s i d < cS s d) (hh : Fin 2) (i : Fin 256) (x : Fin 237) :
    k2_pay80 (k2_pay111 x0 x1 x2 x3 x4 x5) (k2_pay113 x0 x1 x2 x3 x4 x5) (k2_pay118 x0 x1 x2 x3 x4 x5) (k2_pay119 x0 x1 x2 x3 x4 x5) (k2_pay120 x0 x1 x2 x3 x4 x5) (k2_pay121 x0 x1 x2 x3 x4 x5) (k2_pay122 x0 x1 x2 x3 x4 x5) (View.ld x0 r2_17) (ix3 hh i x) = wcat 2 (AB x1 2 i) (OA x0 (hd 2 hh) i 2) x.val := by
  rw [wg2 x0 x1 x2 x3 x4 x5]
  have q0 : (k2_pay109 x0 x1 x2 x3 x4 x5 (ix2 i 0)).toNat = AB x1 2 i 0 := congrArg BitVec.toNat (qe20 x0 x1 x2 x3 x4 x5 i)
  have r0 : (k2_pay109 x0 x1 x2 x3 x4 x5 (ix2 i 0)).toNat < 101 := q0 ▸ hR 2 0 i
  have q1 : (k2_pay110 x0 x1 x2 x3 x4 x5 (ix2 i 0)).toNat = AB x1 2 i 1 := congrArg BitVec.toNat (qe21 x0 x1 x2 x3 x4 x5 i)
  have r1 : (k2_pay110 x0 x1 x2 x3 x4 x5 (ix2 i 0)).toNat < 41 := q1 ▸ hR 2 1 i
  have q2 : (k2_pay111 x0 x1 x2 x3 x4 x5 (ix2 i 0)).toNat = AB x1 2 i 2 := congrArg BitVec.toNat (qe22 x0 x1 x2 x3 x4 x5 i)
  have r2 : (k2_pay111 x0 x1 x2 x3 x4 x5 (ix2 i 0)).toNat < 41 := q2 ▸ hR 2 2 i
  refine wc_apply _ _ _ 2 (AB x1 2 i) (OA x0 (hd 2 hh) i 2) hh i (fun l => ?_) (fun l => ?_) (fun l => ?_) x
  · refine (wr101_apply _ _ _ (OA x0 (hd 2 hh) i 2 0) hh i r0 (oa20 x0 hh i) (cmb2_apply _ _ _ hh i r0 (oa20 x0 hh i)) l).trans ?_
    rw [q0]; rfl
  · refine (wr41_apply _ _ _ (OA x0 (hd 2 hh) i 2 1) hh i r1 (oa21 x0 hh i) (cmb4_0 _ _ _ _ _ hh i r1 (oa21 x0 hh i)) l).trans ?_
    rw [q1]; rfl
  · refine (wr41_apply _ _ _ (OA x0 (hd 2 hh) i 2 2) hh i r2 (oa22 x0 hh i) (cmb4_1 _ _ _ _ _ hh i r2 (oa22 x0 hh i)) l).trans ?_
    rw [q2]; rfl

/-- The last stage's result for head 4, before the last linear map. -/
theorem yb4 (hR : ∀ s d i, AB x1 s i d < cS s d) (i : Fin 256) (c : Fin 64) : k2_pay81 (k2_pay111 x0 x1 x2 x3 x4 x5) (k2_pay113 x0 x1 x2 x3 x4 x5) (k2_pay118 x0 x1 x2 x3 x4 x5) (k2_pay119 x0 x1 x2 x3 x4 x5) (k2_pay120 x0 x1 x2 x3 x4 x5) (k2_pay121 x0 x1 x2 x3 x4 x5) (k2_pay122 x0 x1 x2 x3 x4 x5) (View.ld x0 r2_17) (View.ld x3 r2_18) (View.ld x0 r2_19) (ix2 i c) = YB x0 x1 x3 2 4 i c := by
  refine Eq.trans (b := yo 0 slices_S2x256x237_o0_0_0_S1x256x237 (k2_pay80 (k2_pay111 x0 x1 x2 x3 x4 x5) (k2_pay113 x0 x1 x2 x3 x4 x5) (k2_pay118 x0 x1 x2 x3 x4 x5) (k2_pay119 x0 x1 x2 x3 x4 x5) (k2_pay120 x0 x1 x2 x3 x4 x5) (k2_pay121 x0 x1 x2 x3 x4 x5) (k2_pay122 x0 x1 x2 x3 x4 x5) (View.ld x0 r2_17)) (View.ld x3 r2_18) (View.ld x0 r2_19) (ix2 i c)) rfl ?_
  refine (yo_apply 0 _ _ _ _ i c).trans ?_
  unfold YB
  refine congrArg₂ (· + ·) ?_ (Finset.sum_congr rfl fun x _ => congrArg₂ (· * ·) (wv2 x0 x1 x2 x3 x4 x5 hR 0 i x) ?_)
  · pointwise []
  · pointwise []

/-- The last head's weights per table row, entry by entry. -/
theorem w82 (hR : ∀ s d i, AB x1 s i d < cS s d) (i : Fin 256) (x : Fin 237) : k2_pay82 (k2_pay111 x0 x1 x2 x3 x4 x5) (k2_pay113 x0 x1 x2 x3 x4 x5) (k2_pay118 x0 x1 x2 x3 x4 x5) (k2_pay119 x0 x1 x2 x3 x4 x5) (k2_pay120 x0 x1 x2 x3 x4 x5) (k2_pay121 x0 x1 x2 x3 x4 x5) (k2_pay122 x0 x1 x2 x3 x4 x5) (View.ld x0 r2_17) (ix2 i x) = wcat 2 (AB x1 2 i) (OA x0 5 i 2) x.val := by
  refine Eq.trans ?_ (wv2 x0 x1 x2 x3 x4 x5 hR 1 i x)
  pointwise [k2_pay82]

/-- A row's results, the heads' side by side. -/
def YR (i : Fin 256) (x : Fin 384) : EReal := YB x0 x1 x3 (st ⟨x.val / 64, by omega⟩) ⟨x.val / 64, by omega⟩ i ⟨x.val % 64, by omega⟩

/-- A column of the row of results belongs to the head whose 64 columns it lies in. -/
theorem YR_eq (i : Fin 256) (x : Fin 384) (s : Fin 3) (h : Fin 6) (c : Fin 64) (hs : s = st h) (hx : x.val = 64 * h.val + c.val) :
    YR x0 x1 x3 i x = YB x0 x1 x3 s h i c := by
  subst hs
  have e1 : (⟨x.val / 64, by omega⟩ : Fin 6) = h := Fin.ext (by show x.val / 64 = h.val; omega)
  have e2 : (⟨x.val % 64, by omega⟩ : Fin 64) = c := Fin.ext (by show x.val % 64 = c.val; omega)
  unfold YR
  rw [e1, e2]

/-- The block of the last stage: the linear map of the heads' results. -/
theorem outF (hR : ∀ s d i, AB x1 s i d < cS s d) (i : Fin 256) (j : Fin 384) :
    k2_pay1 (k2_pay26 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3) (View.ld x3 r2_4) (View.ld x0 r2_5)) (k2_pay29 (k2_pay27 (k2_pay86 x0 x1 x2 x3 x4 x5) (k2_pay91 x0 x1 x2 x3 x4 x5) (k2_pay92 x0 x1 x2 x3 x4 x5) (k2_pay94 x0 x1 x2 x3 x4 x5) (k2_pay95 x0 x1 x2 x3 x4 x5) 192#32 (View.ld x0 r2_3)) (k2_pay28 (View.ld x3 r2_6)) (constant S256x64 .f32 0x00000000#32) (View.ld x0 r2_7)) (k2_pay54 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10) (View.ld x3 r2_11) (View.ld x0 r2_12)) (k2_pay56 (k2_pay55 (k2_pay97 x0 x1 x2 x3 x4 x5) (k2_pay103 x0 x1 x2 x3 x4 x5) (k2_pay104 x0 x1 x2 x3 x4 x5) (k2_pay106 x0 x1 x2 x3 x4 x5) (k2_pay107 x0 x1 x2 x3 x4 x5) (k2_pay108 x0 x1 x2 x3 x4 x5) (View.ld x0 r2_10)) (View.ld x3 r2_13) (View.ld x0 r2_14)) (k2_pay81 (k2_pay111 x0 x1 x2 x3 x4 x5) (k2_pay113 x0 x1 x2 x3 x4 x5) (k2_pay118 x0 x1 x2 x3 x4 x5) (k2_pay119 x0 x1 x2 x3 x4 x5) (k2_pay120 x0 x1 x2 x3 x4 x5) (k2_pay121 x0 x1 x2 x3 x4 x5) (k2_pay122 x0 x1 x2 x3 x4 x5) (View.ld x0 r2_17) (View.ld x3 r2_18) (View.ld x0 r2_19)) (k2_pay82 (k2_pay111 x0 x1 x2 x3 x4 x5) (k2_pay113 x0 x1 x2 x3 x4 x5) (k2_pay118 x0 x1 x2 x3 x4 x5) (k2_pay119 x0 x1 x2 x3 x4 x5) (k2_pay120 x0 x1 x2 x3 x4 x5) (k2_pay121 x0 x1 x2 x3 x4 x5) (k2_pay122 x0 x1 x2 x3 x4 x5) (View.ld x0 r2_17)) (View.ld x3 r2_20) (View.ld x0 r2_21) (View.ld x4 r2_22) (View.ld x5 r2_23) (ix2 i j)
      = ∑ x, YR x0 x1 x3 i x * x4 (ix2 j x) + x5 (ix2 0 j) := by
  pointwise [k2_pay1]
  refine congrArg (· + x5 (ix2 0 j)) (Finset.sum_congr rfl fun x _ => congrArg (· * x4 (ix2 j x)) ?_)
  have hx := x.isLt
  by_cases h0 : x.val < 64
  · exact (dif_pos h0).trans ((yb0 x0 x1 x2 x3 x4 x5 hR i ⟨x.val, h0⟩).trans (YR_eq x0 x1 x3 i x 0 0 ⟨x.val, h0⟩ rfl (by show x.val = 64 * 0 + (x.val); omega)).symm)
  refine (dif_neg h0).trans ?_
  by_cases h1 : x.val - 64 < 64
  · exact (dif_pos h1).trans ((yb1 x0 x1 x2 x3 x4 x5 hR i ⟨x.val - 64, h1⟩).trans (YR_eq x0 x1 x3 i x 0 1 ⟨x.val - 64, h1⟩ rfl (by show x.val = 64 * 1 + (x.val - 64); omega)).symm)
  refine (dif_neg h1).trans ?_
  by_cases h2 : x.val - 64 - 64 < 64
  · exact (dif_pos h2).trans ((yb2 x0 x1 x2 x3 x4 x5 hR i ⟨x.val - 64 - 64, h2⟩).trans (YR_eq x0 x1 x3 i x 1 2 ⟨x.val - 64 - 64, h2⟩ rfl (by show x.val = 64 * 2 + (x.val - 64 - 64); omega)).symm)
  refine (dif_neg h2).trans ?_
  by_cases h3 : x.val - 64 - 64 - 64 < 64
  · exact (dif_pos h3).trans ((yb3 x0 x1 x2 x3 x4 x5 hR i ⟨x.val - 64 - 64 - 64, h3⟩).trans (YR_eq x0 x1 x3 i x 1 3 ⟨x.val - 64 - 64 - 64, h3⟩ rfl (by show x.val = 64 * 3 + (x.val - 64 - 64 - 64); omega)).symm)
  refine (dif_neg h3).trans ?_
  by_cases h4 : x.val - 64 - 64 - 64 - 64 < 64
  · exact (dif_pos h4).trans ((yb4 x0 x1 x2 x3 x4 x5 hR i ⟨x.val - 64 - 64 - 64 - 64, h4⟩).trans (YR_eq x0 x1 x3 i x 2 4 ⟨x.val - 64 - 64 - 64 - 64, h4⟩ rfl (by show x.val = 64 * 4 + (x.val - 64 - 64 - 64 - 64); omega)).symm)
  refine (dif_neg h4).trans ?_
  refine Eq.trans ?_ (YR_eq x0 x1 x3 i x 2 5 ⟨x.val - 64 - 64 - 64 - 64 - 64, by omega⟩ rfl (by show x.val = 64 * 5 + (x.val - 64 - 64 - 64 - 64 - 64); omega)).symm
  unfold YB
  exact congrArg₂ (· + ·) rfl (Finset.sum_congr rfl fun y _ => congrArg₂ (· * ·) (w82 x0 x1 x2 x3 x4 x5 hR i y) rfl)

end Cert.KernelIdeal.Roll
end
-- ==== Proof.Reg2.lean ====
module

public import proofs.«01_k».proof.Proof.Comb
public import proofs.«01_k».proof.Proof.Reg0

@[expose] public section

set_option maxRecDepth 16384

noncomputable section

namespace Cert.KernelIdeal.Roll

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- Where each window of the last launch lies at a grid step: the block of points, or the whole array. -/
theorem idx2 : ∀ t : Fin cfg2.N, win2_0.index t = ![0, (grid2.coords t 0).val, 0]
    ∧ win2_1.index t = ![(grid2.coords t 0).val, 0] ∧ win2_2.index t = ![(grid2.coords t 0).val, 0]
    ∧ win2_3.index t = ![0, 0, 0] ∧ win2_4.index t = ![0, 0] ∧ win2_5.index t = ![0, 0]
    ∧ win2_6.index t = ![(grid2.coords t 0).val, 0] := (by decide +kernel : ∀ t : Fin grid2.N, _)

/-- An entry of the attention's array. -/
def OC (c : Dev nD) (h : Fin 6) (n : Fin 2048) (e : Fin 247) : EReal :=
  (V c main_v76 : Vec Ideal S6x2048x247 .f32) (ix3 h n e)

/-- A point's weights of axis `d`'s positions. -/
def OG (c : Dev nD) (h : Fin 6) (n : Fin 2048) (s d : Fin 3) (e : Nat) : EReal :=
  if hc : off (cS s) d + e < 247 then OC V c h n ⟨off (cS s) d + e, hc⟩ else 0

/-- A point's result of a head at a column. -/
def YG (c : Dev nD) (h : Fin 6) (n : Fin 2048) (e : Fin 64) : EReal :=
  OC V c h n ⟨e.val, by omega⟩ + ∑ x : Fin 237, wcat (st h) (rowA V c (st h) n) (OG V c h n (st h)) x.val * (V c main_v98 : Vec Ideal S6x237x64 .f32) (ix3 h x e)

/-- The last stage's array. -/
def G2 (c : Dev nD) : Vec Ideal S2048x384 .f32 := fun y =>
  ∑ x : Fin 384, YG V c ⟨x.val / 64, by omega⟩ (y 0) ⟨x.val % 64, by omega⟩ * (V c main_arg5 : Vec Ideal S384x384 .f32) (ix2 (y 1) x)
    + (V c main_v99 : Vec Ideal S1x384 .f32) (ix2 0 (y 1))

/-- A step's block of the attention's result, entry by entry. -/
theorem b2_0 (c : Dev nD) (t : Fin cfg2.N) (h : Fin 6) (i : Fin 256) (x : Fin 247) (n : Fin 2048) (hn : (grid2.coords t 0).val * 256 + i.val = n.val) :
    (iblk2 V c 0 t : Vec Ideal S6x256x247 .f32) (ix3 h i x) = (V c main_v76 : Vec Ideal S6x2048x247 .f32) (ix3 h n x) := by
  have e := (idx2 t).1
  blk_ext [iblk2, e]
  all_goals exact hn

/-- A step's block of the relative coordinates, entry by entry. -/
theorem b2_1 (c : Dev nD) (t : Fin cfg2.N) (i : Fin 256) (x : Fin 3) (n : Fin 2048) (hn : (grid2.coords t 0).val * 256 + i.val = n.val) :
    (iblk2 V c 1 t : Vec Ideal S256x3 .f32) (ix2 i x) = (V c main_v3 : Vec Ideal S2048x3 .f32) (ix2 n x) := by
  have e := (idx2 t).2.1
  blk_ext [iblk2, e]
  all_goals exact hn

/-- A step's block of the heads' value tables, entry by entry. -/
theorem b2_3 (c : Dev nD) (t : Fin cfg2.N) (h : Fin 6) (i : Fin 237) (x : Fin 64) :
    (iblk2 V c 3 t : Vec Ideal S6x237x64 .f32) (ix3 h i x) = (V c main_v98 : Vec Ideal S6x237x64 .f32) (ix3 h i x) := by
  have e := (idx2 t).2.2.2.1
  blk_ext [iblk2, e]

/-- A step's block of the last linear map's weights, entry by entry. -/
theorem b2_4 (c : Dev nD) (t : Fin cfg2.N) (i : Fin 384) (x : Fin 384) :
    (iblk2 V c 4 t : Vec Ideal S384x384 .f32) (ix2 i x) = (V c main_arg5 : Vec Ideal S384x384 .f32) (ix2 i x) := by
  have e := (idx2 t).2.2.2.2.1
  blk_ext [iblk2, e]

/-- A step's block of the last linear map's constants, entry by entry. -/
theorem b2_5 (c : Dev nD) (t : Fin cfg2.N) (x : Fin 384) :
    (iblk2 V c 5 t : Vec Ideal S1x384 .f32) (ix2 0 x) = (V c main_v99 : Vec Ideal S1x384 .f32) (ix2 0 x) := by
  have e := (idx2 t).2.2.2.2.2.1
  blk_ext [iblk2, e]

/-- Where an entry of a step's result block lies in the result array. -/
theorem b2_6 (t : Fin cfg2.N) (i : Fin 256) (x : Fin 384) :
    ((((cfg2.win 6).blk t).view.emb (ix2 i x) 0).val = (grid2.coords t 0).val * 256 + i.val)
    ∧ ((((cfg2.win 6).blk t).view.emb (ix2 i x) 1).val = x.val) := by
  have e := (idx2 t).2.2.2.2.2.2
  blk_simp [e]
  simp

/-- A block's quantised positions at a row are those of the row's point. -/
theorem AB_eq2 (c : Dev nD) (t : Fin cfg2.N) (i : Fin 256) (n : Fin 2048) (hn : (grid2.coords t 0).val * 256 + i.val = n.val) (s : Fin 3) :
    AB (iblk2 V c 1 t) s i = rowA V c s n := by
  funext d
  unfold AB rowA
  rw [b2_1 V c t i d n hn]

/-- A block's quantised positions are in range where all points' are. -/
theorem AB_lt2 (c : Dev nD) (hR : ∀ s d n, rowA V c s n d < cS s d) (t : Fin cfg2.N) : ∀ s d i, AB (iblk2 V c 1 t) s i d < cS s d := by
  intro s d i
  have hc : (grid2.coords t 0).val < 8 := (grid2.coords t 0).isLt
  rw [AB_eq2 V c t i ⟨(grid2.coords t 0).val * 256 + i.val, by omega⟩ rfl s]
  exact hR s d _

/-- A block's weights per position at a row are those of the row's point. -/
theorem OA_eq2 (c : Dev nD) (t : Fin cfg2.N) (h : Fin 6) (i : Fin 256) (n : Fin 2048) (hn : (grid2.coords t 0).val * 256 + i.val = n.val) (s : Fin 3) :
    OA (iblk2 V c 0 t) h i s = OG V c h n s := by
  funext d e
  unfold OA OG
  split
  · exact b2_0 V c t h i _ n hn
  · rfl

/-- A block's row of head results is that of the row's point. -/
theorem YR_eq2 (c : Dev nD) (t : Fin cfg2.N) (i : Fin 256) (n : Fin 2048) (hn : (grid2.coords t 0).val * 256 + i.val = n.val) (x : Fin 384) :
    YR (iblk2 V c 0 t) (iblk2 V c 1 t) (iblk2 V c 3 t) i x = YG V c ⟨x.val / 64, by omega⟩ n ⟨x.val % 64, by omega⟩ := by
  unfold YR YB YG
  rw [AB_eq2 V c t i n hn, OA_eq2 V c t _ i n hn]
  exact congrArg₂ (· + ·) (b2_0 V c t _ i _ n hn) (Finset.sum_congr rfl fun y _ => congrArg₂ (· * ·) rfl (b2_3 V c t _ y _))

/-- A step's result block is the whole result's at the block's points. -/
theorem blk2 (c : Dev nD) (hR : ∀ s d n, rowA V c s n d < cS s d) (t : Fin cfg2.N) (i : Fin 256) (n : Fin 2048) (j j' : Fin 384)
    (hn : n.val = (grid2.coords t 0).val * 256 + i.val) (hj : j.val = j'.val) :
    out2_6 (iblk2 V c 0 t) (iblk2 V c 1 t) (iblk2 V c 2 t) (iblk2 V c 3 t) (iblk2 V c 4 t) (iblk2 V c 5 t) (ix2 i j') = G2 V c (ix2 n j) := by
  obtain rfl : j = j' := Fin.ext hj
  have key := outF (iblk2 V c 0 t) (iblk2 V c 1 t) (iblk2 V c 2 t) (iblk2 V c 3 t) (iblk2 V c 4 t) (iblk2 V c 5 t) (AB_lt2 V c hR t) i j
  refine Eq.trans ?_ (key.trans ?_)
  · canon_tiles y hy
    have e : y = ix2 i j := by
      blk_ext []
      all_goals first | exact hy0.symm | exact hy1.symm
    rw [e]
  · exact congrArg₂ (· + ·) (Finset.sum_congr rfl fun x _ => congrArg₂ (· * ·) (YR_eq2 V c t i n hn.symm x) (b2_4 V c t j x)) (b2_5 V c t j)

/-- After the last launch the result array holds every point's row. -/
theorem arr2 (c : Dev nD) (hR : ∀ s d n, rowA V c s n d < cS s d) : (dat2 V c).arrAt 6 cfg2.N = G2 V c := by
  refine (dat2 V c).arrAt_eq_of_covers 6 _ (by decide +kernel) fun t _ y => ?_
  blk_simp
  rw [after2_6]
  have e : y = ix2 (y 0) (y 1) := by
    blk_ext []
  rw [e]
  obtain ⟨h0, h1⟩ := b2_6 t (y 0) (y 1)
  refine (blk2 V c hR t (y 0) _ _ (y 1) h0 h1).trans ?_
  refine congrArg (G2 V c) ?_
  blk_ext []

end Cert.KernelIdeal.Roll
end
-- ==== Proof.KVal.lean ====
module

public import proofs.«01_k».proof.Proof.SpecC
public import proofs.«01_k».proof.Proof.Host
public import proofs.«01_k».proof.Proof.Attn
public import proofs.«01_k».proof.Proof.Reg2

@[expose] public section

set_option maxRecDepth 16384

noncomputable section

namespace Cert.KernelIdeal.Roll

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg)

/-! ## The arrays at each stage's entry -/

/-- The relative coordinates, unchanged at stage 2. -/
theorem v3_2 (c : Dev nD) : W2 m ρ c main_v3 = rel3 (m ((c : Thread nD τ).loc main_arg1)) :=
  (W2_of m ρ c main_v3 (by decide +kernel)).trans (h0_v3 m ρ c)
/-- The relative coordinates, unchanged at stage 3. -/
theorem v3_3 (c : Dev nD) : W3 m ρ c main_v3 = rel3 (m ((c : Thread nD τ).loc main_arg1)) :=
  (W3_of m ρ c main_v3 (by decide +kernel)).trans (v3_2 m ρ c)
/-- The relative coordinates, unchanged at stage 5. -/
theorem v3_5 (c : Dev nD) : W5 m ρ c main_v3 = rel3 (m ((c : Thread nD τ).loc main_arg1)) :=
  (W5_of m ρ c main_v3 (by decide +kernel)).trans ((W4_of m ρ c main_v3 (by decide +kernel)).trans (v3_3 m ρ c))

/-- Strip 0's windows are unchanged by the first launch. -/
theorem cst_2 (c : Dev nD) : W2 m ρ c main_cst = V1 m ρ c main_cst := W2_of m ρ c main_cst (by decide +kernel)
/-- Strip 1's windows are unchanged by the first launch. -/
theorem cst0_2 (c : Dev nD) : W2 m ρ c main_cst_0 = V1 m ρ c main_cst_0 := W2_of m ρ c main_cst_0 (by decide +kernel)
/-- Strip 2's windows are unchanged by the first launch. -/
theorem cst1_2 (c : Dev nD) : W2 m ρ c main_cst_1 = V1 m ρ c main_cst_1 := W2_of m ρ c main_cst_1 (by decide +kernel)

/-- The coordinates relative to their least values, entry by entry. -/
def rr (c : Dev nD) (n : Fin 2048) (d : Fin 3) : EReal := rel3 (m ((c : Thread nD τ).loc main_arg1)) (ix2 n d)
/-- The batches. -/
def bb (c : Dev nD) (n : Fin 2048) : BitVec 32 := (m ((c : Thread nD τ).loc main_arg2) : Vec Ideal S2048 .i32) (ix1 n)
/-- The first linear map's rows. -/
def LL (c : Dev nD) (n : Fin 2048) : Fin 1152 → EReal :=
  lin (fun x => (m ((c : Thread nD τ).loc main_arg0) : Vec Ideal S2048x384 .f32) (ix2 n x))
    (fun j x => (m ((c : Thread nD τ).loc main_arg3) : Vec Ideal S1152x384 .f32) (ix2 j x))
    (fun j => (m ((c : Thread nD τ).loc main_arg4) : Vec Ideal S1152 .f32) (ix1 j))
/-- The query table. -/
def tQ (c : Dev nD) (l : Fin 79) (d : Fin 3) (p : Fin 2) (e : Fin 64) : EReal := (m ((c : Thread nD τ).loc main_arg7) : Vec Ideal S79x3x2x64 .f32) (ix4 l d p e)
/-- The key table. -/
def tK (c : Dev nD) (l : Fin 79) (d : Fin 3) (p : Fin 2) (e : Fin 64) : EReal := (m ((c : Thread nD τ).loc main_arg8) : Vec Ideal S79x3x2x64 .f32) (ix4 l d p e)
/-- The value table. -/
def tV (c : Dev nD) (l : Fin 79) (d : Fin 3) (p : Fin 2) (e : Fin 64) : EReal := (m ((c : Thread nD τ).loc main_arg9) : Vec Ideal S79x3x2x64 .f32) (ix4 l d p e)
/-- The last linear map's weights. -/
def pW (c : Dev nD) (j x : Fin 384) : EReal := (m ((c : Thread nD τ).loc main_arg5) : Vec Ideal S384x384 .f32) (ix2 j x)
/-- The last linear map's constants. -/
def pB (c : Dev nD) (j : Fin 384) : EReal := (m ((c : Thread nD τ).loc main_arg6) : Vec Ideal S384 .f32) (ix1 j)

/-- The first launch's quantised positions are the points'. -/
theorem rowA1 (c : Dev nD) : rowA (V1 m ρ) c = pos (rr m c) := by
  funext s n d
  unfold rowA pos rr
  rw [h0_v3]
/-- The last launch's quantised positions are the points'. -/
theorem rowA5 (c : Dev nD) : rowA (V5 m ρ) c = pos (rr m c) := by
  funext s n d
  unfold rowA pos rr
  rw [show V5 m ρ c main_v3 = _ from v3_5 m ρ c]

/-- The first launch's linear map is that of the arguments. -/
theorem rowL1 (c : Dev nD) (n : Fin 2048) : rowL (V1 m ρ) c n = LL m c n := by
  unfold rowL LL
  rw [show V1 m ρ c main_arg0 = _ from W1_args m ρ c main_arg0 (by decide), show V1 m ρ c main_arg3 = _ from W1_args m ρ c main_arg3 (by decide)]
  congr 1
  funext j
  exact h0_v7 m ρ c j

/-- The attention reads the augmented query rows that the first launch left. -/
theorem qv3 (c : Dev nD) (hR : ∀ s d n, pos (rr m c) s n d < cS s d) : V3 m ρ c main_v8_0 = GQ (V1 m ρ) c :=
  (W3_of m ρ c main_v8_0 (by decide +kernel)).trans ((W2_arr m ρ c 7).trans (arrQ (V1 m ρ) c (by rw [rowA1]; exact hR)))
/-- The attention reads the augmented key rows that the first launch left. -/
theorem kv3 (c : Dev nD) (hR : ∀ s d n, pos (rr m c) s n d < cS s d) : V3 m ρ c main_v8_1 = GK (V1 m ρ) c :=
  (W3_of m ρ c main_v8_1 (by decide +kernel)).trans ((W2_arr m ρ c 8).trans (arrK (V1 m ρ) c (by rw [rowA1]; exact hR)))
/-- The attention reads the augmented value rows that the first launch left. -/
theorem vv3 (c : Dev nD) : V3 m ρ c main_v8_2 = GV (V1 m ρ) c :=
  (W3_of m ρ c main_v8_2 (by decide +kernel)).trans ((W2_arr m ρ c 9).trans (arrV (V1 m ρ) c))
/-- The attention reads the window numbers that the first launch left. -/
theorem w3 (c : Dev nD) : V3 m ρ c main_v8_3 = GW (V1 m ρ) c :=
  (W3_of m ρ c main_v8_3 (by decide +kernel)).trans ((W2_arr m ρ c 10).trans (arrW (V1 m ρ) c))
/-- The last launch reads the array that the attention left. -/
theorem o5 (c : Dev nD) : V5 m ρ c main_v76 = G1 (V3 m ρ) c :=
  (W5_of m ρ c main_v76 (by decide +kernel)).trans ((W4_arr m ρ c 5).trans (arr1 (V3 m ρ) c))

/-- The first operand's rows. -/
theorem eq3 (c : Dev nD) (hR : ∀ s d n, pos (rr m c) s n d < cS s d) (h : Fin 6) (n : Fin 2048) (x : Fin 430) :
    (V3 m ρ c main_v8_0 : Vec Ideal S6x2048x430 .f32) (ix3 h n x)
      = augQ (st h) (qh (LL m c n) h) (fun d l e => tQ m c l d (hq h) e) (pos (rr m c) (st h) n) x.val := by
  rw [qv3 m ρ c hR]
  show augQ (st h) (qh (rowL (V1 m ρ) c n) h) (fun d l e => (V1 m ρ c main_v5 : Vec Ideal S2x3x79x64 .f32) (ix4 (hp h) d l e)) (rowA (V1 m ρ) c (st h) n) x.val = _
  rw [rowL1, rowA1]
  have e : (fun (d : Fin 3) (l : Fin 79) (e : Fin 64) => (V1 m ρ c main_v5 : Vec Ideal S2x3x79x64 .f32) (ix4 (hp h) d l e)) = fun d l e => tQ m c l d (hq h) e := by
    funext d l e
    exact h0_v5 m ρ c (hp h) d l e
  rw [e]

/-- The second operand's rows. -/
theorem ek3 (c : Dev nD) (hR : ∀ s d n, pos (rr m c) s n d < cS s d) (h : Fin 6) (n : Fin 2048) (x : Fin 430) :
    (V3 m ρ c main_v8_1 : Vec Ideal S6x2048x430 .f32) (ix3 h n x)
      = augK (st h) (kh (LL m c n) h) (fun d l e => tK m c l d (hq h) e) (pos (rr m c) (st h) n) x.val := by
  rw [kv3 m ρ c hR]
  show augK (st h) (kh (rowL (V1 m ρ) c n) h) (fun d l e => (V1 m ρ c main_v6 : Vec Ideal S2x3x79x64 .f32) (ix4 (hp h) d l e)) (rowA (V1 m ρ) c (st h) n) x.val = _
  rw [rowL1, rowA1]
  have e : (fun (d : Fin 3) (l : Fin 79) (e : Fin 64) => (V1 m ρ c main_v6 : Vec Ideal S2x3x79x64 .f32) (ix4 (hp h) d l e)) = fun d l e => tK m c l d (hq h) e := by
    funext d l e
    exact h0_v6 m ρ c (hp h) d l e
  rw [e]

/-- The values' rows. -/
theorem ev3 (c : Dev nD) (h : Fin 6) (n : Fin 2048) (x : Fin 247) :
    (V3 m ρ c main_v8_2 : Vec Ideal S6x2048x247 .f32) (ix3 h n x) = augV (st h) (vh (LL m c n) h) (pos (rr m c) (st h) n) x.val := by
  rw [vv3]
  show augV (st h) (vh (rowL (V1 m ρ) c n) h) (rowA (V1 m ρ) c (st h) n) x.val = _
  rw [rowL1, rowA1]

/-- The windows' numbers down a column. -/
theorem ew3 (c : Dev nD) (s : Fin 3) (n : Fin 2048) :
    (V3 m ρ c main_v8_3 : Vec Ideal S3x2048x1 .i32) (ix3 s n 0) = WID (bb m c n) (rr m c n) s := by
  rw [w3]
  show WID ((V1 m ρ c main_v4 : Vec Ideal S2048x1 .i32) (ix2 n 0)) (fun d => (V1 m ρ c main_v3 : Vec Ideal S2048x3 .f32) (ix2 n d)) s = _
  rw [h0_v4, h0_v3]
  rfl

/-- The windows' numbers along a row. -/
theorem er3 (c : Dev nD) (s : Fin 3) (n : Fin 2048) :
    (V3 m ρ c main_v75 : Vec Ideal S3x1x2048 .i32) (ix3 s 0 n) = WID (bb m c n) (rr m c n) s := by
  have e : ∀ (s : Fin 3) (w : FVec Ideal S3 .f32), (∀ d : Fin 3, w (ix1 d) = wS s d) →
      widrow w (W2 m ρ c main_arg2) (W2 m ρ c main_v3) (ix3 0 0 n) = WID (bb m c n) (rr m c n) s := by
    intro s w hw
    rw [widrow_apply s w hw, v3_2, W2_args m ρ c main_arg2 (by decide)]
    rfl
  rw [h1_v75]
  refine (cat3 _ _ _ s n).trans ?_
  match s with
  | 0 => exact (if_pos rfl).trans (e 0 _ fun d => by rw [cst_2]; exact h0_cst m ρ c d)
  | 1 => exact (if_neg (by decide)).trans ((if_pos rfl).trans (e 1 _ fun d => by rw [cst0_2]; exact h0_cst_0 m ρ c d))
  | 2 => exact (if_neg (by decide)).trans ((if_neg (by decide)).trans (e 2 _ fun d => by rw [cst1_2]; exact h0_cst_1 m ρ c d))

/-! ## The attention's array -/

/-- The attention's result: the weights over the points by a column of the values' rows. -/
theorem oc5 (c : Dev nD) (hR : ∀ s d n, pos (rr m c) s n d < cS s d) (h : Fin 6) (n : Fin 2048) (x : Fin 247) :
    OC (V5 m ρ) c h n x = ∑ k, PP (rr m c) (bb m c) (LL m c) (tQ m c) (tK m c) h n k * augV (st h) (vh (LL m c k) h) (pos (rr m c) (st h) k) x.val := by
  unfold OC
  rw [o5]
  show att (fun s n => (V3 m ρ c main_v8_3 : Vec Ideal S3x2048x1 .i32) (ix3 s n 0)) (fun s n => (V3 m ρ c main_v75 : Vec Ideal S3x1x2048 .i32) (ix3 s 0 n))
    (fun h n x => (V3 m ρ c main_v8_0 : Vec Ideal S6x2048x430 .f32) (ix3 h n x)) (fun h n x => (V3 m ρ c main_v8_1 : Vec Ideal S6x2048x430 .f32) (ix3 h n x))
    (fun h n x => (V3 m ρ c main_v8_2 : Vec Ideal S6x2048x247 .f32) (ix3 h n x)) h n x = _
  unfold att PP
  refine Finset.sum_congr rfl fun k _ => congrArg₂ (· * ·) (congrFun (congrArg smx ?_) k) (ev3 m ρ c h k x)
  funext k
  refine (congrArg₂ (fun a b => msk a b _) (ew3 m ρ c (st h) n) (er3 m ρ c (st h) k)).trans ?_
  refine congrArg _ ?_
  refine Eq.trans (Finset.sum_congr rfl fun x _ => congrArg₂ (· * ·) (eq3 m ρ c hR h n x) (ek3 m ρ c hR h k x)) ?_
  exact sum_augQK _ _ _ _ _ _ _ (fun d => hR _ _ _) (fun d => hR _ _ _)

/-- An axis's columns lie within the 247 columns of a value row. -/
theorem off_lt (s d : Fin 3) (e : Nat) (he : e < cS s d) : off (cS s) d + e < 247 := by
  revert e
  revert s d
  decide +kernel

/-- The value rows that the last launch reads are the table's, reversed, an axis after another. -/
theorem vt5 (c : Dev nD) (h : Fin 6) (x : Fin 237) (e : Fin 64) :
    (V5 m ρ c main_v98 : Vec Ideal S6x237x64 .f32) (ix3 h x e) = tV m c ⟨78 - x.val % 79, by omega⟩ ⟨x.val / 79, by omega⟩ (hq h) e := by
  rw [h2_v98]
  refine (cat6 _ _ h x e).trans ?_
  rw [vrow_0, vrow_1, vcat_apply, vcat_apply, W4_args m ρ c main_arg9 (by decide)]
  unfold tV
  by_cases h0 : h.val % 2 = 0
  · rw [if_pos h0, show hq h = 0 from Fin.ext h0]
  · rw [if_neg h0, show hq h = 1 from Fin.ext (by show h.val % 2 = 1; omega)]

/-- A point's result of a head. -/
theorem yg5 (c : Dev nD) (hR : ∀ s d n, pos (rr m c) s n d < cS s d) (h : Fin 6) (n : Fin 2048) (e : Fin 64) :
    YG (V5 m ρ) c h n e = YY (rr m c) (bb m c) (LL m c) (tQ m c) (tK m c) (tV m c) h n e := by
  unfold YG YY
  rw [rowA5]
  refine congrArg₂ (· + ·) ?_ ?_
  · rw [oc5 m ρ c hR]
    exact Finset.sum_congr rfl fun k _ => congrArg₂ (· * ·) rfl (aug3_q _ _ _ e)
  · refine Eq.trans (Finset.sum_congr rfl fun x _ => congrArg₂ (· * ·) rfl (vt5 m ρ c h x e)) ?_
    refine (sum_wcat (st h) (pos (rr m c) (st h) n) (OG (V5 m ρ) c h n (st h)) (fun l d => tV m c l d (hq h) e)).trans ?_
    refine Finset.sum_congr rfl fun d _ => Finset.sum_congr rfl fun l _ => congrArg₂ (· * ·) ?_ rfl
    rw [wrev_sum (cS (st h) d) _ (PP (rr m c) (bb m c) (LL m c) (tQ m c) (tK m c) h n) (fun k => pos (rr m c) (st h) k d) (fun k => hR _ _ _)]
    · refine Finset.sum_congr rfl fun k _ => if_congr ?_ rfl rfl
      have hl := l.isLt
      constructor
      · intro h; exact Fin.ext (by omega)
      · intro h; rw [h]; omega
    · intro x hx
      unfold OG
      rw [dif_pos (off_lt _ _ _ hx), oc5 m ρ c hR]
      exact Finset.sum_congr rfl fun k _ => congrArg₂ (· * ·) rfl (aug3_o _ _ _ d x hx)

/-- What the program leaves in its result, entry by entry. -/
theorem kval (c : Dev nD) (hR : ∀ s d n, pos (rr m c) s n d < cS s d) :
    W6 m ρ c main_v100 = (fun y => OUT (rr m c) (bb m c) (LL m c) (tQ m c) (tK m c) (tV m c) (pW m c) (pB m c) (y 0) (y 1) : Vec Ideal S2048x384 .f32) := by
  refine (W6_arr m ρ c 6).trans ((arr2 (V5 m ρ) c (by rw [rowA5]; exact hR)).trans ?_)
  funext y
  unfold G2 OUT
  refine congrArg₂ (· + ·) (Finset.sum_congr rfl fun x _ => congrArg₂ (· * ·) (yg5 m ρ c hR _ _ _) ?_) ?_
  · rw [show V5 m ρ c main_arg5 = _ from W5_args m ρ c main_arg5 (by decide)]
    rfl
  · refine (h2_v99 m ρ c (y 1)).trans ?_
    rw [W4_args m ρ c main_arg6 (by decide)]
    rfl

end Cert.KernelIdeal.Roll
end
-- ==== Proof.KRun.lean ====
module

public import proofs.«01_k».proof.Proof.Gen.KernelIdeal.Frame
public import Idealize.ShloMosaic.PureOps.Ideal

@[expose] public section

set_option maxRecDepth 16384

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with every buffer at the contents that the stages' chain gives it. -/
theorem runs : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c b hb => h c b hb)

/-- Every run ends with the result at the last stage's contents and the arguments as they were. -/
theorem runs_args : θ_run (defs (F := Ideal)) (onTc (τ := τ) (main (F := Ideal))) ⟨m, fun _ => 0, ρ⟩ (fun r => ∀ c : Dev nD,
      r.2.mem ((c.tc : Thread nD τ).loc main_v100) = W6 m ρ c main_v100
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v100 (by decide)),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (runs m ρ)

end Cert.KernelIdeal.Roll
end
-- ==== Proof.Pre.lean ====
module

public import proofs.«01_k».proof.Proof.Host
public import proofs.«01_k».proof.Proof.Range
public import proofs.«01_k».proof.Pre_xyz_finite

@[expose] public section

noncomputable section

namespace Cert.KernelIdeal.Roll

open Idealize.ShloMosaic Idealize.ShloMosaic.TcCoe Idealize.SL.Sem
open Cert.KernelIdeal Cert.KernelIdeal.Gen Cert.Spec

/-- A coordinate less the least of its axis. -/
theorem rel3_apply (x : FVec Ideal S2048x3 .f32) (n : Fin 2048) (d : Fin 3) :
    rel3 x (ix2 n d) = x (ix2 n d) - Finset.fold min (Ideal.ofBits .f32 2139095040#32) (fun k => x (ix2 k d)) Finset.univ := by
  pointwise [rel3]

/-- The least of finitely many reals, and of infinity, is a real no more than each of them. -/
theorem fold_min_real {n : Nat} (f : Fin n → EReal) (hf : ∀ k, ∃ y : ℝ, f k = (y : EReal)) (k : Fin n) :
    ∃ y : ℝ, Finset.fold min (⊤ : EReal) f Finset.univ = (y : EReal) ∧ (y : EReal) ≤ f k := by
  have h1 : Finset.fold min (⊤ : EReal) f Finset.univ ≤ f k := (Finset.fold_min_le _).mpr (Or.inr ⟨k, Finset.mem_univ _, le_rfl⟩)
  have h2 : (⊥ : EReal) < Finset.fold min (⊤ : EReal) f Finset.univ := by
    refine (Finset.lt_fold_min _).mpr ⟨bot_lt_top, fun j _ => ?_⟩
    obtain ⟨y, hy⟩ := hf j
    rw [hy]; exact EReal.bot_lt_coe y
  obtain ⟨y, hy⟩ := hf k
  have h3 : Finset.fold min (⊤ : EReal) f Finset.univ ≠ ⊤ := ne_top_of_le_ne_top (by rw [hy]; exact EReal.coe_ne_top y) h1
  refine ⟨_, (EReal.coe_toReal h3 h2.ne').symm, ?_⟩
  rw [EReal.coe_toReal h3 h2.ne']; exact h1

/-- Infinity's pattern. -/
theorem inf_top : Ideal.ofBits .f32 2139095040#32 = (⊤ : EReal) := by
  simp [Ideal.ofBits, Ideal.ieee]

/-- Finite coordinates lie a nonnegative real above their least value. -/
theorem rel3_real (x : FVec Ideal S2048x3 .f32) (hx : ∀ n d, ∃ y : ℝ, x (ix2 n d) = (y : EReal)) (n : Fin 2048) (d : Fin 3) :
    ∃ y : ℝ, rel3 x (ix2 n d) = (y : EReal) ∧ 0 ≤ y := by
  obtain ⟨l, hl, hle⟩ := fold_min_real (fun k => x (ix2 k d)) (fun k => hx k d) n
  obtain ⟨y, hy⟩ := hx n d
  rw [rel3_apply, inf_top, hl, hy]
  refine ⟨y - l, (EReal.coe_sub y l).symm, ?_⟩
  have : (l : EReal) ≤ (y : EReal) := by rw [← hy]; exact hle
  have := EReal.coe_le_coe_iff.mp this
  linarith

/-- The precondition says that every coordinate is a real. -/
theorem pre_real [Cert.Pre_xyz_finite.Facts] (x0 : FVec Ideal S2048x384 .f32) (x1 : FVec Ideal S2048x3 .f32) (x2 : IVec S2048 32)
    (x3 : FVec Ideal S1152x384 .f32) (x4 : FVec Ideal S1152 .f32) (x5 : FVec Ideal S384x384 .f32) (x6 : FVec Ideal S384 .f32)
    (x7 x8 x9 : FVec Ideal S79x3x2x64 .f32)
    (h : Cert.Pre_xyz_finite.fn (F := Ideal) x0 x1 x2 x3 x4 x5 x6 x7 x8 x9 = fun _ => 1#1) (n : Fin 2048) (d : Fin 3) :
    ∃ y : ℝ, x1 (ix2 n d) = (y : EReal) := by
  have e := congrFun h (ix2 n d)
  revert e
  pointwise [Cert.Pre_xyz_finite.fn]
  intro e
  rw [inf_top] at e
  have lt : FloatOps.absf (F := Ideal) (φ := .f32) (x1 (ix2 n d)) < (⊤ : EReal) := by
    by_contra hn
    rw [decide_eq_false hn] at e
    exact absurd e (by decide)
  clear e h
  generalize x1 (ix2 n d) = z at lt ⊢
  induction z using EReal.rec with
  | bot => exact absurd lt (by show ¬ (max (⊥ : EReal) (-⊥) < ⊤); simp)
  | top => exact absurd lt (by show ¬ (max (⊤ : EReal) (-⊤) < ⊤); simp)
  | coe y => exact ⟨y, rfl⟩
end Cert.KernelIdeal.Roll
end
-- ==== Proof.Alg.lean ====
module

public import proofs.«01_k».proof.Defs
public import proofs.«01_k».proof.Proof.RC
public import proofs.«01_k».proof.Proof.KVal
public import proofs.«01_k».proof.Proof.KRun
public import proofs.«01_k».proof.Proof.Pre

@[expose] public section

set_option maxRecDepth 16384

noncomputable section

namespace Cert.Proof

open Idealize.ShloMosaic Idealize.ShloMosaic.TcCoe Idealize.SL.Sem Idealize.ShloMosaic.StableHlo
open Cert.Spec Cert.KernelIdeal.Roll

/-- The precondition's shape facts. -/
theorem preFacts : Cert.Pre_xyz_finite.Facts := ⟨by decide⟩

/-- The reference's coordinates relative to their least values are the kernel's. -/
theorem rel_eq (x1 : FVec Ideal Cert.ReferenceIdeal.S2048x3 .f32) : Cert.ReferenceIdeal.Read.val_main_v27 (F := Ideal) x1 = rel3 x1 := rfl

/-- From equal arguments, the coordinates real, the reference's result is the kernel's. -/
theorem same (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hx : ∀ n d, ∃ y : ℝ, (m ((c.tc : Thread Cert.KernelIdeal.nD Cert.KernelIdeal.τ).loc Cert.KernelIdeal.main_arg1) : FVec Ideal Cert.KernelIdeal.S2048x3 .f32) (ix2 n d) = (y : EReal))
    (x0 : FVec Ideal Cert.ReferenceIdeal.S2048x384 .f32) (x1 : FVec Ideal Cert.ReferenceIdeal.S2048x3 .f32) (x2 : IVec Cert.ReferenceIdeal.S2048 32)
    (x3 : FVec Ideal Cert.ReferenceIdeal.S1152x384 .f32) (x4 : FVec Ideal Cert.ReferenceIdeal.S1152 .f32) (x5 : FVec Ideal Cert.ReferenceIdeal.S384x384 .f32)
    (x6 : FVec Ideal Cert.ReferenceIdeal.S384 .f32) (x7 x8 x9 : FVec Ideal Cert.ReferenceIdeal.S79x3x2x64 .f32)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9)) :
    Cert.ReferenceIdeal.Read.val_main_v144 (F := Ideal) x0 x1 x2 x3 x4 x5 x6 x7 x8 x9 = Cert.KernelIdeal.Gen.W6 m ρ c Cert.KernelIdeal.main_v100 := by
  have hR : ∀ s d n, pos (rr m c) s n d < cS s d := by
    intro s d n
    obtain ⟨y, hy, h0'⟩ := rel3_real _ hx n d
    unfold pos rr
    rw [hy]
    exact QD_lt y h0' s d
  have hS : Cert.ReferenceIdeal.Roll.Small x1 := by
    intro s n d
    rw [rel_eq, h1]
    have h := hR s d n
    have h' := cS_cases s d
    exact lt_of_lt_of_le h (by omega)
  refine Eq.trans ?_ (kval m ρ c hR).symm
  funext y
  rw [eq_ix2 y]
  refine (Cert.ReferenceIdeal.Roll.rval x0 x1 x2 x3 x4 x5 x6 x7 x8 x9 hS (y 0) (y 1)).trans ?_
  subst h0 h1 h2 h3 h4 h5 h6 h7 h8 h9
  rfl

/-- The kernel's and the reference's results are equal, as extended reals, wherever the coordinates are real. -/
theorem alg (hK : Cert.KernelIdeal.Facts) (hR : Cert.ReferenceIdeal.Facts) (hP : Cert.Pre_xyz_finite.Facts) :
    Cert.algebraic_KernelIdeal_ReferenceIdeal_pre_xyz_finite (hKernelIdeal := hK) (hReferenceIdeal := hR) (hPre_xyz_finite := hP) := by
  intro m g m' g' hpre hargs
  refine ⟨fun c => Cert.KernelIdeal.Gen.W6 m g c Cert.KernelIdeal.main_v100, runs_args m g, ?_⟩
  refine (θ_run Cert.ReferenceIdeal.defs _ _).mono (fun r h c => ⟨?_, (h c).2⟩) (Cert.ReferenceIdeal.Value.run (F := Ideal) m' g')
  obtain ⟨a0, a1, a2, a3, a4, a5, a6, a7, a8, a9⟩ := hargs c
  refine ((h c).1.trans (Cert.ReferenceIdeal.Read.val_main_v144_eq (F := Ideal) (launchContents m' c))).trans ?_
  exact same m g c (fun n d => pre_real _ _ _ _ _ _ _ _ _ _ (hpre c) n d) _ _ _ _ _ _ _ _ _ _ a0 a1 a2 a3 a4 a5 a6 a7 a8 a9

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The reference ends with its arguments unchanged and its counters at zero. -/
theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The three programs' frames, the idealization's identity and the equality of the two ideal programs' results. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, alg _ _ _⟩

end Cert.Proof

end
